-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_perms [hPre_in_range_perms : Cert.Pre_in_range_perms.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_perms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_perms [hPre_in_range_perms : Cert.Pre_in_range_perms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_perms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_perms [hKernelIdeal : Cert.KernelIdeal.Facts] [hPre_in_range_perms : Cert.Pre_in_range_perms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_perms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_perms [hReferenceIdeal : Cert.ReferenceIdeal.Facts] [hPre_in_range_perms : Cert.Pre_in_range_perms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_perms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x1x16x128 Cert.KernelIdeal.S1x1x8x128

def algebraic_KernelIdeal_ReferenceIdeal_pre_in_range_perms [hKernelIdeal : Cert.KernelIdeal.Facts] [hReferenceIdeal : Cert.ReferenceIdeal.Facts] [hPre_in_range_perms : Cert.Pre_in_range_perms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_perms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v92_0) = v2 c
          ∧ r.2.mem ((c.tc : Thread Cert.ReferenceIdeal.nD Cert.ReferenceIdeal.τ).loc Cert.ReferenceIdeal.main_v92_1) = v3 c
          ∧ r.2.mem ((c.tc : Thread Cert.ReferenceIdeal.nD Cert.ReferenceIdeal.τ).loc Cert.ReferenceIdeal.main_v92_2) = v4 c
          ∧ r.2.mem ((c.tc : Thread Cert.ReferenceIdeal.nD Cert.ReferenceIdeal.τ).loc Cert.ReferenceIdeal.main_v92_3) = v5 c
          ∧ r.2.mem ((c.tc : Thread Cert.ReferenceIdeal.nD Cert.ReferenceIdeal.τ).loc Cert.ReferenceIdeal.main_v92_4) = v6 c
          ∧ r.2.mem ((c.tc : Thread Cert.ReferenceIdeal.nD Cert.ReferenceIdeal.τ).loc Cert.ReferenceIdeal.main_v92_5) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_perms : Cert.Pre_in_range_perms.Facts),
    quiescent_Kernel (hKernel := hKernel) (hPre_in_range := hPre_in_range)
    ∧ quiescent_KernelIdeal (hKernelIdeal := hKernelIdeal) (hPre_in_range := hPre_in_range)
    ∧ quiescent_KernelIdeal_pre_in_range_perms (hKernelIdeal := hKernelIdeal) (hPre_in_range_perms := hPre_in_range_perms)
    ∧ quiescent_ReferenceIdeal (hReferenceIdeal := hReferenceIdeal)
    ∧ quiescent_ReferenceIdeal_pre_in_range_perms (hReferenceIdeal := hReferenceIdeal) (hPre_in_range_perms := hPre_in_range_perms)
    ∧ preserves_Kernel_KernelIdeal
    ∧ algebraic_KernelIdeal_ReferenceIdeal_pre_in_range_perms (hKernelIdeal := hKernelIdeal) (hReferenceIdeal := hReferenceIdeal) (hPre_in_range_perms := hPre_in_range_perms)
-- ==== Pre_in_range.lean ====
abbrev S7x768x36x128 : Shape := ⟨4, ![7, 768, 36, 128]⟩
abbrev S7 : Shape := ⟨1, ![7]⟩
abbrev S36x128 : Shape := ⟨2, ![36, 128]⟩
abbrev S36x4 : Shape := ⟨2, ![36, 4]⟩
abbrev S_ : Shape := ⟨0, ![]⟩

class Facts : Prop where
  bcast_S_S7 : S_.BroadcastsInDim S7 (![] : Fin 0 → Fin S7.rank)

variable [Facts]

def fn {F : FTy → Type} [FloatOps F] (main_arg0 : FVec F S7x768x36x128 .bf16) (main_arg1 : FVec F S7x768x36x128 .bf16) (main_arg2 : IVec S7 32) (main_arg3 : IVec S36x128 32) (main_arg4 : IVec S36x128 32) (main_arg5 : FVec F S36x4 .f32) (main_arg6 : FVec F S36x4 .f32) : IVec S7 1 :=
  let main_c : IVec S_ 32 := constantI S_ 32 512#32
  let main_v0 : IVec S7 32 := broadcastInDim S7 ![] bcast_S_S7 main_c
  let main_v1 : IVec S7 1 := cmpi .sge main_arg2 main_v0
  let main_c_0 : IVec S_ 32 := constantI S_ 32 768#32
  let main_v2 : IVec S7 32 := broadcastInDim S7 ![] bcast_S_S7 main_c_0
  let main_v3 : IVec S7 1 := cmpi .sle main_arg2 main_v2
  let main_v4 : IVec S7 1 := andi main_v1 main_v3
  main_v4
-- ==== Pre_in_range_perms.lean ====
abbrev S7x768x36x128 : Shape := ⟨4, ![7, 768, 36, 128]⟩
abbrev S7 : Shape := ⟨1, ![7]⟩
abbrev S36x128 : Shape := ⟨2, ![36, 128]⟩
abbrev S36x4 : Shape := ⟨2, ![36, 4]⟩
abbrev S_ : Shape := ⟨0, ![]⟩
abbrev S7x1x1 : Shape := ⟨3, ![7, 1, 1]⟩
abbrev S1x36x128 : Shape := ⟨3, ![1, 36, 128]⟩
abbrev S7x36x128 : Shape := ⟨3, ![7, 36, 128]⟩

class Facts : Prop where
  bcast_S_S7 : S_.BroadcastsInDim S7 (![] : Fin 0 → Fin S7.rank)
  bcast_S7_S7x1x1_0 : S7.BroadcastsInDim S7x1x1 (![0] : Fin 1 → Fin S7x1x1.rank)
  bcast_S_S36x128 : S_.BroadcastsInDim S36x128 (![] : Fin 0 → Fin S36x128.rank)
  bcast_S36x128_S1x36x128_1_2 : S36x128.BroadcastsInDim S1x36x128 (![1, 2] : Fin 2 → Fin S1x36x128.rank)
  bcast_S7x1x1_S7x36x128_0_1_2 : S7x1x1.BroadcastsInDim S7x36x128 (![0, 1, 2] : Fin 3 → Fin S7x36x128.rank)
  bcast_S1x36x128_S7x36x128_0_1_2 : S1x36x128.BroadcastsInDim S7x36x128 (![0, 1, 2] : Fin 3 → Fin S7x36x128.rank)

variable [Facts]

def fn_part1 {F : FTy → Type} [FloatOps F] (main_arg4 : IVec S36x128 32) (main_v14 : IVec S7x36x128 1) (main_v16 : IVec S36x128 1) (main_v17 : IVec S36x128 32) : IVec S7x36x128 1 :=
  let main_v18 : IVec S36x128 1 := cmpi .slt main_arg4 main_v17
  let main_v19 : IVec S36x128 1 := andi main_v16 main_v18
  let main_v20 : IVec S1x36x128 1 := broadcastInDim S1x36x128 ![1, 2] bcast_S36x128_S1x36x128_1_2 main_v19
  let main_v21 : IVec S7x36x128 1 := broadcastInDim S7x36x128 ![0, 1, 2] bcast_S1x36x128_S7x36x128_0_1_2 main_v20
  let main_v22 : IVec S7x36x128 1 := andi main_v14 main_v21
  main_v22

def fn {F : FTy → Type} [FloatOps F] (main_arg0 : FVec F S7x768x36x128 .bf16) (main_arg1 : FVec F S7x768x36x128 .bf16) (main_arg2 : IVec S7 32) (main_arg3 : IVec S36x128 32) (main_arg4 : IVec S36x128 32) (main_arg5 : FVec F S36x4 .f32) (main_arg6 : FVec F S36x4 .f32) : IVec S7x36x128 1 :=
  let main_c : IVec S_ 32 := constantI S_ 32 512#32
  let main_v0 : IVec S7 32 := broadcastInDim S7 ![] bcast_S_S7 main_c
  let main_v1 : IVec S7 1 := cmpi .sge main_arg2 main_v0
  let main_c_0 : IVec S_ 32 := constantI S_ 32 768#32
  let main_v2 : IVec S7 32 := broadcastInDim S7 ![] bcast_S_S7 main_c_0
  let main_v3 : IVec S7 1 := cmpi .sle main_arg2 main_v2
  let main_v4 : IVec S7 1 := andi main_v1 main_v3
  let main_v5 : IVec S7x1x1 1 := broadcastInDim S7x1x1 ![0] bcast_S7_S7x1x1_0 main_v4
  let main_c_1 : IVec S_ 32 := constantI S_ 32 0#32
  let main_v6 : IVec S36x128 32 := broadcastInDim S36x128 ![] bcast_S_S36x128 main_c_1
  let main_v7 : IVec S36x128 1 := cmpi .sge main_arg3 main_v6
  let main_c_2 : IVec S_ 32 := constantI S_ 32 128#32
  let main_v8 : IVec S36x128 32 := broadcastInDim S36x128 ![] bcast_S_S36x128 main_c_2
  let main_v9 : IVec S36x128 1 := cmpi .slt main_arg3 main_v8
  let main_v10 : IVec S36x128 1 := andi main_v7 main_v9
  let main_v11 : IVec S1x36x128 1 := broadcastInDim S1x36x128 ![1, 2] bcast_S36x128_S1x36x128_1_2 main_v10
  let main_v12 : IVec S7x36x128 1 := broadcastInDim S7x36x128 ![0, 1, 2] bcast_S7x1x1_S7x36x128_0_1_2 main_v5
  let main_v13 : IVec S7x36x128 1 := broadcastInDim S7x36x128 ![0, 1, 2] bcast_S1x36x128_S7x36x128_0_1_2 main_v11
  let main_v14 : IVec S7x36x128 1 := andi main_v12 main_v13
  let main_c_3 : IVec S_ 32 := constantI S_ 32 0#32
  let main_v15 : IVec S36x128 32 := broadcastInDim S36x128 ![] bcast_S_S36x128 main_c_3
  let main_v16 : IVec S36x128 1 := cmpi .sge main_arg4 main_v15
  let main_c_4 : IVec S_ 32 := constantI S_ 32 128#32
  let main_v17 : IVec S36x128 32 := broadcastInDim S36x128 ![] bcast_S_S36x128 main_c_4
  fn_part1 (F := F) main_arg4 main_v14 main_v16 main_v17
-- ==== Kernel.lean ====
abbrev S7x768x36x128 : Shape := ⟨4, ![7, 768, 36, 128]⟩
abbrev S7 : Shape := ⟨1, ![7]⟩
abbrev S36x128 : Shape := ⟨2, ![36, 128]⟩
abbrev S36x4 : Shape := ⟨2, ![36, 4]⟩
abbrev S7x36x768x128 : Shape := ⟨4, ![7, 36, 768, 128]⟩
abbrev S4x36 : Shape := ⟨2, ![4, 36]⟩
abbrev S7x36x512x128 : Shape := ⟨4, ![7, 36, 512, 128]⟩
abbrev S7x36x64x256 : Shape := ⟨4, ![7, 36, 64, 256]⟩
abbrev S7x36x4x256 : Shape := ⟨4, ![7, 36, 4, 256]⟩
abbrev S1x4x768x128 : Shape := ⟨4, ![1, 4, 768, 128]⟩
abbrev S1x4x512x128 : Shape := ⟨4, ![1, 4, 512, 128]⟩
abbrev S1x4x64x256 : Shape := ⟨4, ![1, 4, 64, 256]⟩
abbrev S1x4x4x256 : Shape := ⟨4, ![1, 4, 4, 256]⟩
abbrev S2x4x128x128 : Shape := ⟨4, ![2, 4, 128, 128]⟩
abbrev S2x4x8x128 : Shape := ⟨4, ![2, 4, 8, 128]⟩
abbrev S1 : Shape := ⟨1, ![1]⟩
abbrev S1x128 : Shape := ⟨2, ![1, 128]⟩
abbrev S128x128 : Shape := ⟨2, ![128, 128]⟩
abbrev S1x1x128x128 : Shape := ⟨4, ![1, 1, 128, 128]⟩
abbrev S4 : Shape := ⟨1, ![4]⟩
abbrev S4x1 : Shape := ⟨2, ![4, 1]⟩
abbrev S4x128 : Shape := ⟨2, ![4, 128]⟩
abbrev S2x128 : Shape := ⟨2, ![2, 128]⟩
abbrev S1x1x2x128 : Shape := ⟨4, ![1, 1, 2, 128]⟩
abbrev S1x1x8x128 : Shape := ⟨4, ![1, 1, 8, 128]⟩
abbrev S8x128 : Shape := ⟨2, ![8, 128]⟩
abbrev S4x768x128 : Shape := ⟨3, ![4, 768, 128]⟩
abbrev S1x256x128 : Shape := ⟨3, ![1, 256, 128]⟩
abbrev S256x128 : Shape := ⟨2, ![256, 128]⟩
abbrev S128x256 : Shape := ⟨2, ![128, 256]⟩
abbrev S8x128x1 : Shape := ⟨3, ![8, 128, 1]⟩
abbrev S1x1x4x128 : Shape := ⟨4, ![1, 1, 4, 128]⟩
abbrev S32x128 : Shape := ⟨2, ![32, 128]⟩
abbrev S1x1x32x128 : Shape := ⟨4, ![1, 1, 32, 128]⟩
abbrev S4x384x128 : Shape := ⟨3, ![4, 384, 128]⟩
abbrev S1x8x128 : Shape := ⟨3, ![1, 8, 128]⟩
abbrev S1x1x16x128 : Shape := ⟨4, ![1, 1, 16, 128]⟩
abbrev S1x4x256x128 : Shape := ⟨4, ![1, 4, 256, 128]⟩

abbrev nBuf : Space → Nat
  | .hbm => 18
  | .vmem => 26
  | .smem => 1
  | _ => 0

abbrev bufTy : (tb : Table) → Fin (tcTables nBuf tb) → BufTy
  | .hbm, ⟨0, _⟩ => ⟨S7x768x36x128, .bf16⟩
  | .hbm, ⟨1, _⟩ => ⟨S7x768x36x128, .bf16⟩
  | .hbm, ⟨2, _⟩ => ⟨S36x128, .i32⟩
  | .hbm, ⟨3, _⟩ => ⟨S36x128, .i32⟩
  | .hbm, ⟨4, _⟩ => ⟨S36x4, .f32⟩
  | .hbm, ⟨5, _⟩ => ⟨S36x4, .f32⟩
  | .hbm, ⟨6, _⟩ => ⟨S7x36x768x128, .bf16⟩
  | .hbm, ⟨7, _⟩ => ⟨S7x36x768x128, .bf16⟩
  | .hbm, ⟨8, _⟩ => ⟨S4x36, .f32⟩
  | .hbm, ⟨9, _⟩ => ⟨S4x36, .f32⟩
  | .hbm, ⟨10, _⟩ => ⟨S7x36x512x128, .bf16⟩
  | .hbm, ⟨11, _⟩ => ⟨S7x36x512x128, .bf16⟩
  | .hbm, ⟨12, _⟩ => ⟨S7x36x64x256, .i8⟩
  | .hbm, ⟨13, _⟩ => ⟨S7x36x4x256, .fp8e4m3⟩
  | .hbm, ⟨14, _⟩ => ⟨S7x36x4x256, .fp8e4m3⟩
  | .hbm, ⟨15, _⟩ => ⟨S7x36x64x256, .i8⟩
  | .hbm, ⟨16, _⟩ => ⟨S7x36x4x256, .fp8e4m3⟩
  | .hbm, ⟨17, _⟩ => ⟨S7x36x4x256, .fp8e4m3⟩
  | .local _ .vmem, ⟨0, _⟩ => ⟨S1x4x768x128, .bf16⟩
  | .local _ .vmem, ⟨1, _⟩ => ⟨S1x4x768x128, .bf16⟩
  | .local _ .vmem, ⟨2, _⟩ => ⟨S1x4x768x128, .bf16⟩
  | .local _ .vmem, ⟨3, _⟩ => ⟨S1x4x768x128, .bf16⟩
  | .local _ .vmem, ⟨4, _⟩ => ⟨S36x128, .i32⟩
  | .local _ .vmem, ⟨5, _⟩ => ⟨S36x128, .i32⟩
  | .local _ .vmem, ⟨6, _⟩ => ⟨S4x36, .f32⟩
  | .local _ .vmem, ⟨7, _⟩ => ⟨S4x36, .f32⟩
  | .local _ .vmem, ⟨8, _⟩ => ⟨S1x4x512x128, .bf16⟩
  | .local _ .vmem, ⟨9, _⟩ => ⟨S1x4x512x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S1x4x64x256, .i8⟩
  | .local _ .vmem, ⟨13, _⟩ => ⟨S1x4x64x256, .i8⟩
  | .local _ .vmem, ⟨14, _⟩ => ⟨S1x4x4x256, .fp8e4m3⟩
  | .local _ .vmem, ⟨15, _⟩ => ⟨S1x4x4x256, .fp8e4m3⟩
  | .local _ .vmem, ⟨16, _⟩ => ⟨S1x4x4x256, .fp8e4m3⟩
  | .local _ .vmem, ⟨17, _⟩ => ⟨S1x4x4x256, .fp8e4m3⟩
  | .local _ .vmem, ⟨18, _⟩ => ⟨S1x4x64x256, .i8⟩
  | .local _ .vmem, ⟨19, _⟩ => ⟨S1x4x64x256, .i8⟩
  | .local _ .vmem, ⟨20, _⟩ => ⟨S1x4x4x256, .fp8e4m3⟩
  | .local _ .vmem, ⟨21, _⟩ => ⟨S1x4x4x256, .fp8e4m3⟩
  | .local _ .vmem, ⟨22, _⟩ => ⟨S1x4x4x256, .fp8e4m3⟩
  | .local _ .vmem, ⟨23, _⟩ => ⟨S1x4x4x256, .fp8e4m3⟩
  | .local _ .vmem, ⟨24, _⟩ => ⟨S2x4x128x128, .bf16⟩
  | .local _ .vmem, ⟨25, _⟩ => ⟨S2x4x8x128, .f32⟩
  | .local _ .smem, ⟨0, _⟩ => ⟨S7, .i32⟩
  | _, _ => ⟨S7x768x36x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [BitOps F]

abbrev grid0 : Pipeline.Grid := ⟨2, ![9, 7], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_3 : BitVec 32 := 0#32
  let c4_i32_4 : BitVec 32 := 4#32
  let v8 : BitVec 32 := Scalar.addi c0_i32_3 c4_i32_4
  let c1_i32_5 : BitVec 32 := 1#32
  ⟨c0_i32_3, v8, c1_i32_5⟩
def k0_off2 (i : grid0.Coords) (k0_t1 : Fin k0_t1_loop.trips) : Fin 2 → Nat :=
  let arg0 : BitVec 32 := BitVec.ofNat 32 (i 0).val
  let c4_i32_11 : BitVec 32 := 4#32
  let v10 : BitVec 32 := Scalar.muli arg0 c4_i32_11
  let c0_i32_3 : BitVec 32 := 0#32
  let c1_i32_5 : BitVec 32 := 1#32
  let arg19 : BitVec 32 := Scf.iv c0_i32_3 c1_i32_5 k0_t1
  let v11 : BitVec 32 := Scalar.addi v10 arg19
  let v12 : Index := Scalar.indexCast v11
  let c0 : Index := 0#32
  ![v12.toNat, 0]
def k0_off3 (k0_t1 : Fin k0_t1_loop.trips) : Fin 4 → Nat :=
  let c0_14 : Index := 0#32
  let c0_i32_3 : BitVec 32 := 0#32
  let c1_i32_5 : BitVec 32 := 1#32
  let arg19 : BitVec 32 := Scf.iv c0_i32_3 c1_i32_5 k0_t1
  let v39 : Index := Scalar.indexCast arg19
  let c0_15 : Index := 0#32
  let c0_16 : Index := 0#32
  ![0, v39.toNat, 0, 0]
def k0_off4 (k0_t1 : Fin k0_t1_loop.trips) : Fin 4 → Nat :=
  let c0_21 : Index := 0#32
  let c0_i32_3 : BitVec 32 := 0#32
  let c1_i32_5 : BitVec 32 := 1#32
  let arg19 : BitVec 32 := Scf.iv c0_i32_3 c1_i32_5 k0_t1
  let v56 : Index := Scalar.indexCast arg19
  let c0_22 : Index := 0#32
  let c0_23 : Index := 0#32
  ![0, v56.toNat, 0, 0]
def k0_off5 (k0_t1 : Fin k0_t1_loop.trips) : Fin 4 → Nat :=
  let c0_24 : Index := 0#32
  let c0_i32_3 : BitVec 32 := 0#32
  let c1_i32_5 : BitVec 32 := 1#32
  let arg19 : BitVec 32 := Scf.iv c0_i32_3 c1_i32_5 k0_t1
  let v63 : Index := Scalar.indexCast arg19
  let c4 : Index := 4#32
  let c0_25 : Index := 0#32
  ![0, v63.toNat, 4, 0]
def k0_off6 (k0_t1 : Fin k0_t1_loop.trips) : Fin 4 → Nat :=
  let c0_26 : Index := 0#32
  let c0_i32_3 : BitVec 32 := 0#32
  let c1_i32_5 : BitVec 32 := 1#32
  let arg19 : BitVec 32 := Scf.iv c0_i32_3 c1_i32_5 k0_t1
  let v70 : Index := Scalar.indexCast arg19
  let c2 : Index := 2#32
  let c0_27 : Index := 0#32
  ![0, v70.toNat, 2, 0]
def k0_off7 (k0_t1 : Fin k0_t1_loop.trips) : Fin 4 → Nat :=
  let c0_28 : Index := 0#32
  let c0_i32_3 : BitVec 32 := 0#32
  let c1_i32_5 : BitVec 32 := 1#32
  let arg19 : BitVec 32 := Scf.iv c0_i32_3 c1_i32_5 k0_t1
  let v77 : Index := Scalar.indexCast arg19
  let c6 : Index := 6#32
  let c0_29 : Index := 0#32
  ![0, v77.toNat, 6, 0]
@[reducible] def k0_t2_loop : Scf.Loop 32 :=
  let c0_i32_7 : BitVec 32 := 0#32
  let c4_i32_8 : BitVec 32 := 4#32
  let v9 : BitVec 32 := Scalar.addi c0_i32_7 c4_i32_8
  let c1_i32_9 : BitVec 32 := 1#32
  ⟨c0_i32_7, v9, c1_i32_9⟩
def k0_off8 (i : grid0.Coords) (k0_t2 : Fin k0_t2_loop.trips) : Fin 2 → Nat :=
  let arg0 : BitVec 32 := BitVec.ofNat 32 (i 0).val
  let c4_i32_11 : BitVec 32 := 4#32
  let v10 : BitVec 32 := Scalar.muli arg0 c4_i32_11
  let c0_i32_7 : BitVec 32 := 0#32
  let c1_i32_9 : BitVec 32 := 1#32
  let arg19 : BitVec 32 := Scf.iv c0_i32_7 c1_i32_9 k0_t2
  let v11 : BitVec 32 := Scalar.addi v10 arg19
  let v12 : Index := Scalar.indexCast v11
  let c0 : Index := 0#32
  ![v12.toNat, 0]
def k0_off9 (k0_t2 : Fin k0_t2_loop.trips) : Fin 4 → Nat :=
  let c1 : Index := 1#32
  let c0_i32_7 : BitVec 32 := 0#32
  let c1_i32_9 : BitVec 32 := 1#32
  let arg19 : BitVec 32 := Scf.iv c0_i32_7 c1_i32_9 k0_t2
  let v39 : Index := Scalar.indexCast arg19
  let c0_14 : Index := 0#32
  let c0_15 : Index := 0#32
  ![1, v39.toNat, 0, 0]
def k0_off10 (k0_t2 : Fin k0_t2_loop.trips) : Fin 4 → Nat :=
  let c1_20 : Index := 1#32
  let c0_i32_7 : BitVec 32 := 0#32
  let c1_i32_9 : BitVec 32 := 1#32
  let arg19 : BitVec 32 := Scf.iv c0_i32_7 c1_i32_9 k0_t2
  let v56 : Index := Scalar.indexCast arg19
  let c0_21 : Index := 0#32
  let c0_22 : Index := 0#32
  ![1, v56.toNat, 0, 0]
def k0_off11 (k0_t2 : Fin k0_t2_loop.trips) : Fin 4 → Nat :=
  let c1_23 : Index := 1#32
  let c0_i32_7 : BitVec 32 := 0#32
  let c1_i32_9 : BitVec 32 := 1#32
  let arg19 : BitVec 32 := Scf.iv c0_i32_7 c1_i32_9 k0_t2
  let v63 : Index := Scalar.indexCast arg19
  let c4 : Index := 4#32
  let c0_24 : Index := 0#32
  ![1, v63.toNat, 4, 0]
def k0_off12 (k0_t2 : Fin k0_t2_loop.trips) : Fin 4 → Nat :=
  let c1_25 : Index := 1#32
  let c0_i32_7 : BitVec 32 := 0#32
  let c1_i32_9 : BitVec 32 := 1#32
  let arg19 : BitVec 32 := Scf.iv c0_i32_7 c1_i32_9 k0_t2
  let v70 : Index := Scalar.indexCast arg19
  let c2 : Index := 2#32
  let c0_26 : Index := 0#32
  ![1, v70.toNat, 2, 0]
def k0_off13 (k0_t2 : Fin k0_t2_loop.trips) : Fin 4 → Nat :=
  let c1_27 : Index := 1#32
  let c0_i32_7 : BitVec 32 := 0#32
  let c1_i32_9 : BitVec 32 := 1#32
  let arg19 : BitVec 32 := Scf.iv c0_i32_7 c1_i32_9 k0_t2
  let v77 : Index := Scalar.indexCast arg19
  let c6 : Index := 6#32
  let c0_28 : Index := 0#32
  ![1, v77.toNat, 6, 0]
@[reducible] def k0_t3_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_off14 (k0_t3 : Fin k0_t3_loop.trips) : Fin 4 → Nat :=
  let c0 : Index := 0#32
  let c0_i32_1 : BitVec 32 := 0#32
  let c1_i32 : BitVec 32 := 1#32
  let arg19 : BitVec 32 := Scf.iv c0_i32_1 c1_i32 k0_t3
  let v7 : Index := Scalar.indexCast arg19
  let c0_3 : Index := 0#32
  let c0_4 : Index := 0#32
  ![0, v7.toNat, 0, 0]
def k0_off15 (k0_t3 : Fin k0_t3_loop.trips) : Fin 4 → Nat :=
  let c0_5 : Index := 0#32
  let c0_i32_1 : BitVec 32 := 0#32
  let c1_i32 : BitVec 32 := 1#32
  let arg19 : BitVec 32 := Scf.iv c0_i32_1 c1_i32 k0_t3
  let v10 : Index := Scalar.indexCast arg19
  let c0_6 : Index := 0#32
  let c0_7 : Index := 0#32
  ![0, v10.toNat, 0, 0]
def k0_off16 (k0_t3 : Fin k0_t3_loop.trips) : Fin 3 → Nat :=
  let c0_i32_1 : BitVec 32 := 0#32
  let c1_i32 : BitVec 32 := 1#32
  let arg19 : BitVec 32 := Scf.iv c0_i32_1 c1_i32 k0_t3
  let v17 : Index := Scalar.indexCast arg19
  let c0_12 : Index := 0#32
  let c0_13 : Index := 0#32
  ![v17.toNat, 0, 0]
def k0_off17 (k0_t3 : Fin k0_t3_loop.trips) : Fin 4 → Nat :=
  let c0_69 : Index := 0#32
  let c0_i32_1 : BitVec 32 := 0#32
  let c1_i32 : BitVec 32 := 1#32
  let arg19 : BitVec 32 := Scf.iv c0_i32_1 c1_i32 k0_t3
  let v320 : Index := Scalar.indexCast arg19
  let c0_70 : Index := 0#32
  let c0_71 : Index := 0#32
  ![0, v320.toNat, 0, 0]
def k0_off18 (k0_t3 : Fin k0_t3_loop.trips) : Fin 4 → Nat :=
  let c0_75 : Index := 0#32
  let c0_i32_1 : BitVec 32 := 0#32
  let c1_i32 : BitVec 32 := 1#32
  let arg19 : BitVec 32 := Scf.iv c0_i32_1 c1_i32 k0_t3
  let v332 : Index := Scalar.indexCast arg19
  let c0_76 : Index := 0#32
  let c128 : Index := 128#32
  ![0, v332.toNat, 0, 128]
def k0_off19 (k0_t3 : Fin k0_t3_loop.trips) : Fin 4 → Nat :=
  let c0_107 : Index := 0#32
  let c0_i32_1 : BitVec 32 := 0#32
  let c1_i32 : BitVec 32 := 1#32
  let arg19 : BitVec 32 := Scf.iv c0_i32_1 c1_i32 k0_t3
  let v464 : Index := Scalar.indexCast arg19
  let c0_108 : Index := 0#32
  let c0_109 : Index := 0#32
  ![0, v464.toNat, 0, 0]
def k0_off20 (k0_t3 : Fin k0_t3_loop.trips) : Fin 4 → Nat :=
  let c0_142 : Index := 0#32
  let c0_i32_1 : BitVec 32 := 0#32
  let c1_i32 : BitVec 32 := 1#32
  let arg19 : BitVec 32 := Scf.iv c0_i32_1 c1_i32 k0_t3
  let v590 : Index := Scalar.indexCast arg19
  let c32 : Index := 32#32
  let c0_143 : Index := 0#32
  ![0, v590.toNat, 32, 0]
def k0_off21 (k0_t3 : Fin k0_t3_loop.trips) : Fin 4 → Nat :=
  let c0_176 : Index := 0#32
  let c0_i32_1 : BitVec 32 := 0#32
  let c1_i32 : BitVec 32 := 1#32
  let arg19 : BitVec 32 := Scf.iv c0_i32_1 c1_i32 k0_t3
  let v716 : Index := Scalar.indexCast arg19
  let c0_177 : Index := 0#32
  let c128_178 : Index := 128#32
  ![0, v716.toNat, 0, 128]
def k0_off22 (k0_t3 : Fin k0_t3_loop.trips) : Fin 4 → Nat :=
  let c0_210 : Index := 0#32
  let c0_i32_1 : BitVec 32 := 0#32
  let c1_i32 : BitVec 32 := 1#32
  let arg19 : BitVec 32 := Scf.iv c0_i32_1 c1_i32 k0_t3
  let v842 : Index := Scalar.indexCast arg19
  let c32_211 : Index := 32#32
  let c128_212 : Index := 128#32
  ![0, v842.toNat, 32, 128]
def k0_off23 (v1 : BitVec 32) (k0_t3 : Fin k0_t3_loop.trips) (c0_i32_453 : BitVec 32) : Fin 4 → Nat :=
  let c0_i32_216 : BitVec 32 := 0#32
  let c0_i32_1 : BitVec 32 := 0#32
  let c1_i32 : BitVec 32 := 1#32
  let arg19 : BitVec 32 := Scf.iv c0_i32_1 c1_i32 k0_t3
  let v1707 : Index := Scalar.indexCast arg19
  let c512_i32 : BitVec 32 := 512#32
  let v2 : BitVec 32 := Scalar.subi v1 c512_i32
  let c1_i32_213 : BitVec 32 := 1#32
  let v846 : BitVec 32 := Scalar.shrsi v2 c1_i32_213
  let v1703 : BitVec 32 := Scalar.addi v846 c0_i32_453
  let v1708 : Index := Scalar.indexCast v1703
  let c0_i32_456 : BitVec 32 := 0#32
  ![0, v1707.toNat, Nat.mul 2 v1708.toNat, 0]
def k0_cond2 (v1 : BitVec 32) : BitVec 1 :=
  let c512_i32 : BitVec 32 := 512#32
  let v2 : BitVec 32 := Scalar.subi v1 c512_i32
  let c1_i32_214 : BitVec 32 := 1#32
  let v847 : BitVec 32 := Scalar.andi v2 c1_i32_214
  let c0_i32_215 : BitVec 32 := 0#32
  let v848 : BitVec 1 := Scalar.cmpi .eq v847 c0_i32_215
  let v849 : BitVec 32 := Scalar.extui v848
  let c0_i32_217 : BitVec 32 := 0#32
  let v850 : BitVec 1 := Scalar.cmpi .ne v849 c0_i32_217
  v850

def k0_off24 (k0_t3 : Fin k0_t3_loop.trips) : Fin 4 → Nat :=
  let c0_458 : Index := 0#32
  let c0_i32_1 : BitVec 32 := 0#32
  let c1_i32 : BitVec 32 := 1#32
  let arg19 : BitVec 32 := Scf.iv c0_i32_1 c1_i32 k0_t3
  let v1712 : Index := Scalar.indexCast arg19
  let c0_460 : Index := 0#32
  ![0, v1712.toNat, 0, 0]
def k0_off25 (k0_t3 : Fin k0_t3_loop.trips) : Fin 4 → Nat :=
  let c0_466 : Index := 0#32
  let c0_i32_1 : BitVec 32 := 0#32
  let c1_i32 : BitVec 32 := 1#32
  let arg19 : BitVec 32 := Scf.iv c0_i32_1 c1_i32 k0_t3
  let v1725 : Index := Scalar.indexCast arg19
  let c0_467 : Index := 0#32
  ![0, v1725.toNat, 16, 0]
def k0_off26 (k0_t3 : Fin k0_t3_loop.trips) : Fin 4 → Nat :=
  let c0_473 : Index := 0#32
  let c0_i32_1 : BitVec 32 := 0#32
  let c1_i32 : BitVec 32 := 1#32
  let arg19 : BitVec 32 := Scf.iv c0_i32_1 c1_i32 k0_t3
  let v1738 : Index := Scalar.indexCast arg19
  let c0_474 : Index := 0#32
  ![0, v1738.toNat, 32, 0]
def k0_off27 (k0_t3 : Fin k0_t3_loop.trips) : Fin 4 → Nat :=
  let c0_480 : Index := 0#32
  let c0_i32_1 : BitVec 32 := 0#32
  let c1_i32 : BitVec 32 := 1#32
  let arg19 : BitVec 32 := Scf.iv c0_i32_1 c1_i32 k0_t3
  let v1751 : Index := Scalar.indexCast arg19
  let c0_481 : Index := 0#32
  ![0, v1751.toNat, 48, 0]
def k0_off28 (k0_t3 : Fin k0_t3_loop.trips) : Fin 4 → Nat :=
  let c0_486 : Index := 0#32
  let c0_i32_1 : BitVec 32 := 0#32
  let c1_i32 : BitVec 32 := 1#32
  let arg19 : BitVec 32 := Scf.iv c0_i32_1 c1_i32 k0_t3
  let v1764 : Index := Scalar.indexCast arg19
  let c0_488 : Index := 0#32
  ![0, v1764.toNat, 64, 0]
def k0_off29 (k0_t3 : Fin k0_t3_loop.trips) : Fin 4 → Nat :=
  let c0_493 : Index := 0#32
  let c0_i32_1 : BitVec 32 := 0#32
  let c1_i32 : BitVec 32 := 1#32
  let arg19 : BitVec 32 := Scf.iv c0_i32_1 c1_i32 k0_t3
  let v1777 : Index := Scalar.indexCast arg19
  let c0_494 : Index := 0#32
  ![0, v1777.toNat, 80, 0]
def k0_off30 (k0_t3 : Fin k0_t3_loop.trips) : Fin 4 → Nat :=
  let c0_499 : Index := 0#32
  let c0_i32_1 : BitVec 32 := 0#32
  let c1_i32 : BitVec 32 := 1#32
  let arg19 : BitVec 32 := Scf.iv c0_i32_1 c1_i32 k0_t3
  let v1790 : Index := Scalar.indexCast arg19
  let c0_500 : Index := 0#32
  ![0, v1790.toNat, 96, 0]
def k0_off31 (k0_t3 : Fin k0_t3_loop.trips) : Fin 4 → Nat :=
  let c0_505 : Index := 0#32
  let c0_i32_1 : BitVec 32 := 0#32
  let c1_i32 : BitVec 32 := 1#32
  let arg19 : BitVec 32 := Scf.iv c0_i32_1 c1_i32 k0_t3
  let v1803 : Index := Scalar.indexCast arg19
  let c0_506 : Index := 0#32
  ![0, v1803.toNat, 112, 0]
def k0_off32 (k0_t3 : Fin k0_t3_loop.trips) : Fin 4 → Nat :=
  let c0_511 : Index := 0#32
  let c0_i32_1 : BitVec 32 := 0#32
  let c1_i32 : BitVec 32 := 1#32
  let arg19 : BitVec 32 := Scf.iv c0_i32_1 c1_i32 k0_t3
  let v1816 : Index := Scalar.indexCast arg19
  let c0_512 : Index := 0#32
  ![0, v1816.toNat, 128, 0]
def k0_off33 (k0_t3 : Fin k0_t3_loop.trips) : Fin 4 → Nat :=
  let c0_517 : Index := 0#32
  let c0_i32_1 : BitVec 32 := 0#32
  let c1_i32 : BitVec 32 := 1#32
  let arg19 : BitVec 32 := Scf.iv c0_i32_1 c1_i32 k0_t3
  let v1829 : Index := Scalar.indexCast arg19
  let c0_518 : Index := 0#32
  ![0, v1829.toNat, 144, 0]
def k0_off34 (k0_t3 : Fin k0_t3_loop.trips) : Fin 4 → Nat :=
  let c0_523 : Index := 0#32
  let c0_i32_1 : BitVec 32 := 0#32
  let c1_i32 : BitVec 32 := 1#32
  let arg19 : BitVec 32 := Scf.iv c0_i32_1 c1_i32 k0_t3
  let v1842 : Index := Scalar.indexCast arg19
  let c0_524 : Index := 0#32
  ![0, v1842.toNat, 160, 0]
def k0_off35 (k0_t3 : Fin k0_t3_loop.trips) : Fin 4 → Nat :=
  let c0_529 : Index := 0#32
  let c0_i32_1 : BitVec 32 := 0#32
  let c1_i32 : BitVec 32 := 1#32
  let arg19 : BitVec 32 := Scf.iv c0_i32_1 c1_i32 k0_t3
  let v1855 : Index := Scalar.indexCast arg19
  let c0_530 : Index := 0#32
  ![0, v1855.toNat, 176, 0]
def k0_off36 (k0_t3 : Fin k0_t3_loop.trips) : Fin 4 → Nat :=
  let c0_535 : Index := 0#32
  let c0_i32_1 : BitVec 32 := 0#32
  let c1_i32 : BitVec 32 := 1#32
  let arg19 : BitVec 32 := Scf.iv c0_i32_1 c1_i32 k0_t3
  let v1868 : Index := Scalar.indexCast arg19
  let c0_536 : Index := 0#32
  ![0, v1868.toNat, 192, 0]
def k0_off37 (k0_t3 : Fin k0_t3_loop.trips) : Fin 4 → Nat :=
  let c0_541 : Index := 0#32
  let c0_i32_1 : BitVec 32 := 0#32
  let c1_i32 : BitVec 32 := 1#32
  let arg19 : BitVec 32 := Scf.iv c0_i32_1 c1_i32 k0_t3
  let v1881 : Index := Scalar.indexCast arg19
  let c0_542 : Index := 0#32
  ![0, v1881.toNat, 208, 0]
def k0_off38 (k0_t3 : Fin k0_t3_loop.trips) : Fin 4 → Nat :=
  let c0_547 : Index := 0#32
  let c0_i32_1 : BitVec 32 := 0#32
  let c1_i32 : BitVec 32 := 1#32
  let arg19 : BitVec 32 := Scf.iv c0_i32_1 c1_i32 k0_t3
  let v1894 : Index := Scalar.indexCast arg19
  let c0_548 : Index := 0#32
  ![0, v1894.toNat, 224, 0]
def k0_off39 (k0_t3 : Fin k0_t3_loop.trips) : Fin 4 → Nat :=
  let c0_553 : Index := 0#32
  let c0_i32_1 : BitVec 32 := 0#32
  let c1_i32 : BitVec 32 := 1#32
  let arg19 : BitVec 32 := Scf.iv c0_i32_1 c1_i32 k0_t3
  let v1907 : Index := Scalar.indexCast arg19
  let c0_554 : Index := 0#32
  ![0, v1907.toNat, 240, 0]
def k0_off40 (k0_t3 : Fin k0_t3_loop.trips) : Fin 4 → Nat :=
  let c0_560 : Index := 0#32
  let c0_i32_1 : BitVec 32 := 0#32
  let c1_i32 : BitVec 32 := 1#32
  let arg19 : BitVec 32 := Scf.iv c0_i32_1 c1_i32 k0_t3
  let v1920 : Index := Scalar.indexCast arg19
  let c0_562 : Index := 0#32
  ![0, v1920.toNat, 256, 0]
def k0_off41 (k0_t3 : Fin k0_t3_loop.trips) : Fin 4 → Nat :=
  let c0_567 : Index := 0#32
  let c0_i32_1 : BitVec 32 := 0#32
  let c1_i32 : BitVec 32 := 1#32
  let arg19 : BitVec 32 := Scf.iv c0_i32_1 c1_i32 k0_t3
  let v1933 : Index := Scalar.indexCast arg19
  let c0_568 : Index := 0#32
  ![0, v1933.toNat, 272, 0]
def k0_off42 (k0_t3 : Fin k0_t3_loop.trips) : Fin 4 → Nat :=
  let c0_573 : Index := 0#32
  let c0_i32_1 : BitVec 32 := 0#32
  let c1_i32 : BitVec 32 := 1#32
  let arg19 : BitVec 32 := Scf.iv c0_i32_1 c1_i32 k0_t3
  let v1946 : Index := Scalar.indexCast arg19
  let c0_574 : Index := 0#32
  ![0, v1946.toNat, 288, 0]
def k0_off43 (k0_t3 : Fin k0_t3_loop.trips) : Fin 4 → Nat :=
  let c0_579 : Index := 0#32
  let c0_i32_1 : BitVec 32 := 0#32
  let c1_i32 : BitVec 32 := 1#32
  let arg19 : BitVec 32 := Scf.iv c0_i32_1 c1_i32 k0_t3
  let v1959 : Index := Scalar.indexCast arg19
  let c0_580 : Index := 0#32
  ![0, v1959.toNat, 304, 0]
def k0_off44 (k0_t3 : Fin k0_t3_loop.trips) : Fin 4 → Nat :=
  let c0_585 : Index := 0#32
  let c0_i32_1 : BitVec 32 := 0#32
  let c1_i32 : BitVec 32 := 1#32
  let arg19 : BitVec 32 := Scf.iv c0_i32_1 c1_i32 k0_t3
  let v1972 : Index := Scalar.indexCast arg19
  let c0_586 : Index := 0#32
  ![0, v1972.toNat, 320, 0]
def k0_off45 (k0_t3 : Fin k0_t3_loop.trips) : Fin 4 → Nat :=
  let c0_591 : Index := 0#32
  let c0_i32_1 : BitVec 32 := 0#32
  let c1_i32 : BitVec 32 := 1#32
  let arg19 : BitVec 32 := Scf.iv c0_i32_1 c1_i32 k0_t3
  let v1985 : Index := Scalar.indexCast arg19
  let c0_592 : Index := 0#32
  ![0, v1985.toNat, 336, 0]
def k0_off46 (k0_t3 : Fin k0_t3_loop.trips) : Fin 4 → Nat :=
  let c0_597 : Index := 0#32
  let c0_i32_1 : BitVec 32 := 0#32
  let c1_i32 : BitVec 32 := 1#32
  let arg19 : BitVec 32 := Scf.iv c0_i32_1 c1_i32 k0_t3
  let v1998 : Index := Scalar.indexCast arg19
  let c0_598 : Index := 0#32
  ![0, v1998.toNat, 352, 0]
def k0_off47 (k0_t3 : Fin k0_t3_loop.trips) : Fin 4 → Nat :=
  let c0_603 : Index := 0#32
  let c0_i32_1 : BitVec 32 := 0#32
  let c1_i32 : BitVec 32 := 1#32
  let arg19 : BitVec 32 := Scf.iv c0_i32_1 c1_i32 k0_t3
  let v2011 : Index := Scalar.indexCast arg19
  let c0_604 : Index := 0#32
  ![0, v2011.toNat, 368, 0]
def k0_off48 (k0_t3 : Fin k0_t3_loop.trips) : Fin 4 → Nat :=
  let c0_609 : Index := 0#32
  let c0_i32_1 : BitVec 32 := 0#32
  let c1_i32 : BitVec 32 := 1#32
  let arg19 : BitVec 32 := Scf.iv c0_i32_1 c1_i32 k0_t3
  let v2024 : Index := Scalar.indexCast arg19
  let c0_610 : Index := 0#32
  ![0, v2024.toNat, 384, 0]
def k0_off49 (k0_t3 : Fin k0_t3_loop.trips) : Fin 4 → Nat :=
  let c0_615 : Index := 0#32
  let c0_i32_1 : BitVec 32 := 0#32
  let c1_i32 : BitVec 32 := 1#32
  let arg19 : BitVec 32 := Scf.iv c0_i32_1 c1_i32 k0_t3
  let v2037 : Index := Scalar.indexCast arg19
  let c0_616 : Index := 0#32
  ![0, v2037.toNat, 400, 0]
def k0_off50 (k0_t3 : Fin k0_t3_loop.trips) : Fin 4 → Nat :=
  let c0_621 : Index := 0#32
  let c0_i32_1 : BitVec 32 := 0#32
  let c1_i32 : BitVec 32 := 1#32
  let arg19 : BitVec 32 := Scf.iv c0_i32_1 c1_i32 k0_t3
  let v2050 : Index := Scalar.indexCast arg19
  let c0_622 : Index := 0#32
  ![0, v2050.toNat, 416, 0]
def k0_off51 (k0_t3 : Fin k0_t3_loop.trips) : Fin 4 → Nat :=
  let c0_627 : Index := 0#32
  let c0_i32_1 : BitVec 32 := 0#32
  let c1_i32 : BitVec 32 := 1#32
  let arg19 : BitVec 32 := Scf.iv c0_i32_1 c1_i32 k0_t3
  let v2063 : Index := Scalar.indexCast arg19
  let c0_628 : Index := 0#32
  ![0, v2063.toNat, 432, 0]
def k0_off52 (k0_t3 : Fin k0_t3_loop.trips) : Fin 4 → Nat :=
  let c0_633 : Index := 0#32
  let c0_i32_1 : BitVec 32 := 0#32
  let c1_i32 : BitVec 32 := 1#32
  let arg19 : BitVec 32 := Scf.iv c0_i32_1 c1_i32 k0_t3
  let v2076 : Index := Scalar.indexCast arg19
  let c0_634 : Index := 0#32
  ![0, v2076.toNat, 448, 0]
def k0_off53 (k0_t3 : Fin k0_t3_loop.trips) : Fin 4 → Nat :=
  let c0_639 : Index := 0#32
  let c0_i32_1 : BitVec 32 := 0#32
  let c1_i32 : BitVec 32 := 1#32
  let arg19 : BitVec 32 := Scf.iv c0_i32_1 c1_i32 k0_t3
  let v2089 : Index := Scalar.indexCast arg19
  let c0_640 : Index := 0#32
  ![0, v2089.toNat, 464, 0]
def k0_off54 (k0_t3 : Fin k0_t3_loop.trips) : Fin 4 → Nat :=
  let c0_645 : Index := 0#32
  let c0_i32_1 : BitVec 32 := 0#32
  let c1_i32 : BitVec 32 := 1#32
  let arg19 : BitVec 32 := Scf.iv c0_i32_1 c1_i32 k0_t3
  let v2102 : Index := Scalar.indexCast arg19
  let c0_646 : Index := 0#32
  ![0, v2102.toNat, 480, 0]
def k0_off55 (k0_t3 : Fin k0_t3_loop.trips) : Fin 4 → Nat :=
  let c0_651 : Index := 0#32
  let c0_i32_1 : BitVec 32 := 0#32
  let c1_i32 : BitVec 32 := 1#32
  let arg19 : BitVec 32 := Scf.iv c0_i32_1 c1_i32 k0_t3
  let v2115 : Index := Scalar.indexCast arg19
  let c0_652 : Index := 0#32
  ![0, v2115.toNat, 496, 0]
def k0_off56 (v1 : BitVec 32) (k0_t3 : Fin k0_t3_loop.trips) (c0_i32_453 : BitVec 32) : Fin 4 → Nat :=
  let c0_i32_220 : BitVec 32 := 0#32
  let c0_i32_1 : BitVec 32 := 0#32
  let c1_i32 : BitVec 32 := 1#32
  let arg19 : BitVec 32 := Scf.iv c0_i32_1 c1_i32 k0_t3
  let v1707 : Index := Scalar.indexCast arg19
  let c512_i32 : BitVec 32 := 512#32
  let v2 : BitVec 32 := Scalar.subi v1 c512_i32
  let c1_i32_213 : BitVec 32 := 1#32
  let v846 : BitVec 32 := Scalar.shrsi v2 c1_i32_213
  let v1703 : BitVec 32 := Scalar.addi v846 c0_i32_453
  let v1708 : Index := Scalar.indexCast v1703
  let c0_i32_456 : BitVec 32 := 0#32
  ![0, v1707.toNat, Nat.mul 2 v1708.toNat, 0]
def k0_cond3 (v1 : BitVec 32) : BitVec 1 :=
  let c512_i32 : BitVec 32 := 512#32
  let v2 : BitVec 32 := Scalar.subi v1 c512_i32
  let c1_i32_218 : BitVec 32 := 1#32
  let v851 : BitVec 32 := Scalar.andi v2 c1_i32_218
  let c1_i32_219 : BitVec 32 := 1#32
  let v852 : BitVec 1 := Scalar.cmpi .eq v851 c1_i32_219
  let v853 : BitVec 32 := Scalar.extui v852
  let c0_i32_221 : BitVec 32 := 0#32
  let v854 : BitVec 1 := Scalar.cmpi .ne v853 c0_i32_221
  v854

def k0_off57 (v1 : BitVec 32) (k0_t3 : Fin k0_t3_loop.trips) (c0_i32_458 : BitVec 32) : Fin 4 → Nat :=
  let c0_i32_220 : BitVec 32 := 0#32
  let c0_i32_1 : BitVec 32 := 0#32
  let c1_i32 : BitVec 32 := 1#32
  let arg19 : BitVec 32 := Scf.iv c0_i32_1 c1_i32 k0_t3
  let v1716 : Index := Scalar.indexCast arg19
  let c512_i32 : BitVec 32 := 512#32
  let v2 : BitVec 32 := Scalar.subi v1 c512_i32
  let c1_i32_213 : BitVec 32 := 1#32
  let v846 : BitVec 32 := Scalar.shrsi v2 c1_i32_213
  let v1711 : BitVec 32 := Scalar.addi v846 c0_i32_458
  let c1_i32_459 : BitVec 32 := 1#32
  let v1712 : BitVec 32 := Scalar.addi v1711 c1_i32_459
  let v1717 : Index := Scalar.indexCast v1712
  let c0_i32_462 : BitVec 32 := 0#32
  ![0, v1716.toNat, Nat.mul 2 v1717.toNat, 0]
def k0_off58 (k0_t3 : Fin k0_t3_loop.trips) : Fin 4 → Nat :=
  let c0_466 : Index := 0#32
  let c0_i32_1 : BitVec 32 := 0#32
  let c1_i32 : BitVec 32 := 1#32
  let arg19 : BitVec 32 := Scf.iv c0_i32_1 c1_i32 k0_t3
  let v1726 : Index := Scalar.indexCast arg19
  let c0_468 : Index := 0#32
  ![0, v1726.toNat, 0, 0]
def k0_off59 (k0_t3 : Fin k0_t3_loop.trips) : Fin 4 → Nat :=
  let c0_482 : Index := 0#32
  let c0_i32_1 : BitVec 32 := 0#32
  let c1_i32 : BitVec 32 := 1#32
  let arg19 : BitVec 32 := Scf.iv c0_i32_1 c1_i32 k0_t3
  let v1753 : Index := Scalar.indexCast arg19
  let c0_483 : Index := 0#32
  ![0, v1753.toNat, 16, 0]
def k0_off60 (k0_t3 : Fin k0_t3_loop.trips) : Fin 4 → Nat :=
  let c0_497 : Index := 0#32
  let c0_i32_1 : BitVec 32 := 0#32
  let c1_i32 : BitVec 32 := 1#32
  let arg19 : BitVec 32 := Scf.iv c0_i32_1 c1_i32 k0_t3
  let v1780 : Index := Scalar.indexCast arg19
  let c0_498 : Index := 0#32
  ![0, v1780.toNat, 32, 0]
def k0_off61 (k0_t3 : Fin k0_t3_loop.trips) : Fin 4 → Nat :=
  let c0_512 : Index := 0#32
  let c0_i32_1 : BitVec 32 := 0#32
  let c1_i32 : BitVec 32 := 1#32
  let arg19 : BitVec 32 := Scf.iv c0_i32_1 c1_i32 k0_t3
  let v1807 : Index := Scalar.indexCast arg19
  let c0_513 : Index := 0#32
  ![0, v1807.toNat, 48, 0]
def k0_off62 (k0_t3 : Fin k0_t3_loop.trips) : Fin 4 → Nat :=
  let c0_526 : Index := 0#32
  let c0_i32_1 : BitVec 32 := 0#32
  let c1_i32 : BitVec 32 := 1#32
  let arg19 : BitVec 32 := Scf.iv c0_i32_1 c1_i32 k0_t3
  let v1834 : Index := Scalar.indexCast arg19
  let c0_528 : Index := 0#32
  ![0, v1834.toNat, 64, 0]
def k0_off63 (k0_t3 : Fin k0_t3_loop.trips) : Fin 4 → Nat :=
  let c0_541 : Index := 0#32
  let c0_i32_1 : BitVec 32 := 0#32
  let c1_i32 : BitVec 32 := 1#32
  let arg19 : BitVec 32 := Scf.iv c0_i32_1 c1_i32 k0_t3
  let v1861 : Index := Scalar.indexCast arg19
  let c0_542 : Index := 0#32
  ![0, v1861.toNat, 80, 0]
def k0_off64 (k0_t3 : Fin k0_t3_loop.trips) : Fin 4 → Nat :=
  let c0_555 : Index := 0#32
  let c0_i32_1 : BitVec 32 := 0#32
  let c1_i32 : BitVec 32 := 1#32
  let arg19 : BitVec 32 := Scf.iv c0_i32_1 c1_i32 k0_t3
  let v1888 : Index := Scalar.indexCast arg19
  let c0_556 : Index := 0#32
  ![0, v1888.toNat, 96, 0]
def k0_off65 (k0_t3 : Fin k0_t3_loop.trips) : Fin 4 → Nat :=
  let c0_569 : Index := 0#32
  let c0_i32_1 : BitVec 32 := 0#32
  let c1_i32 : BitVec 32 := 1#32
  let arg19 : BitVec 32 := Scf.iv c0_i32_1 c1_i32 k0_t3
  let v1915 : Index := Scalar.indexCast arg19
  let c0_570 : Index := 0#32
  ![0, v1915.toNat, 112, 0]
def k0_off66 (k0_t3 : Fin k0_t3_loop.trips) : Fin 4 → Nat :=
  let c0_583 : Index := 0#32
  let c0_i32_1 : BitVec 32 := 0#32
  let c1_i32 : BitVec 32 := 1#32
  let arg19 : BitVec 32 := Scf.iv c0_i32_1 c1_i32 k0_t3
  let v1942 : Index := Scalar.indexCast arg19
  let c0_584 : Index := 0#32
  ![0, v1942.toNat, 128, 0]
def k0_off67 (k0_t3 : Fin k0_t3_loop.trips) : Fin 4 → Nat :=
  let c0_597 : Index := 0#32
  let c0_i32_1 : BitVec 32 := 0#32
  let c1_i32 : BitVec 32 := 1#32
  let arg19 : BitVec 32 := Scf.iv c0_i32_1 c1_i32 k0_t3
  let v1969 : Index := Scalar.indexCast arg19
  let c0_598 : Index := 0#32
  ![0, v1969.toNat, 144, 0]
def k0_off68 (k0_t3 : Fin k0_t3_loop.trips) : Fin 4 → Nat :=
  let c0_611 : Index := 0#32
  let c0_i32_1 : BitVec 32 := 0#32
  let c1_i32 : BitVec 32 := 1#32
  let arg19 : BitVec 32 := Scf.iv c0_i32_1 c1_i32 k0_t3
  let v1996 : Index := Scalar.indexCast arg19
  let c0_612 : Index := 0#32
  ![0, v1996.toNat, 160, 0]
def k0_off69 (k0_t3 : Fin k0_t3_loop.trips) : Fin 4 → Nat :=
  let c0_625 : Index := 0#32
  let c0_i32_1 : BitVec 32 := 0#32
  let c1_i32 : BitVec 32 := 1#32
  let arg19 : BitVec 32 := Scf.iv c0_i32_1 c1_i32 k0_t3
  let v2023 : Index := Scalar.indexCast arg19
  let c0_626 : Index := 0#32
  ![0, v2023.toNat, 176, 0]
def k0_off70 (k0_t3 : Fin k0_t3_loop.trips) : Fin 4 → Nat :=
  let c0_639 : Index := 0#32
  let c0_i32_1 : BitVec 32 := 0#32
  let c1_i32 : BitVec 32 := 1#32
  let arg19 : BitVec 32 := Scf.iv c0_i32_1 c1_i32 k0_t3
  let v2050 : Index := Scalar.indexCast arg19
  let c0_640 : Index := 0#32
  ![0, v2050.toNat, 192, 0]
def k0_off71 (k0_t3 : Fin k0_t3_loop.trips) : Fin 4 → Nat :=
  let c0_653 : Index := 0#32
  let c0_i32_1 : BitVec 32 := 0#32
  let c1_i32 : BitVec 32 := 1#32
  let arg19 : BitVec 32 := Scf.iv c0_i32_1 c1_i32 k0_t3
  let v2077 : Index := Scalar.indexCast arg19
  let c0_654 : Index := 0#32
  ![0, v2077.toNat, 208, 0]
def k0_off72 (k0_t3 : Fin k0_t3_loop.trips) : Fin 4 → Nat :=
  let c0_667 : Index := 0#32
  let c0_i32_1 : BitVec 32 := 0#32
  let c1_i32 : BitVec 32 := 1#32
  let arg19 : BitVec 32 := Scf.iv c0_i32_1 c1_i32 k0_t3
  let v2104 : Index := Scalar.indexCast arg19
  let c0_668 : Index := 0#32
  ![0, v2104.toNat, 224, 0]
def k0_off73 (k0_t3 : Fin k0_t3_loop.trips) : Fin 4 → Nat :=
  let c0_681 : Index := 0#32
  let c0_i32_1 : BitVec 32 := 0#32
  let c1_i32 : BitVec 32 := 1#32
  let arg19 : BitVec 32 := Scf.iv c0_i32_1 c1_i32 k0_t3
  let v2131 : Index := Scalar.indexCast arg19
  let c0_682 : Index := 0#32
  ![0, v2131.toNat, 240, 0]
def k0_off74 (k0_t3 : Fin k0_t3_loop.trips) : Fin 4 → Nat :=
  let c0_696 : Index := 0#32
  let c0_i32_1 : BitVec 32 := 0#32
  let c1_i32 : BitVec 32 := 1#32
  let arg19 : BitVec 32 := Scf.iv c0_i32_1 c1_i32 k0_t3
  let v2158 : Index := Scalar.indexCast arg19
  let c0_698 : Index := 0#32
  ![0, v2158.toNat, 256, 0]
def k0_off75 (k0_t3 : Fin k0_t3_loop.trips) : Fin 4 → Nat :=
  let c0_711 : Index := 0#32
  let c0_i32_1 : BitVec 32 := 0#32
  let c1_i32 : BitVec 32 := 1#32
  let arg19 : BitVec 32 := Scf.iv c0_i32_1 c1_i32 k0_t3
  let v2185 : Index := Scalar.indexCast arg19
  let c0_712 : Index := 0#32
  ![0, v2185.toNat, 272, 0]
def k0_off76 (k0_t3 : Fin k0_t3_loop.trips) : Fin 4 → Nat :=
  let c0_725 : Index := 0#32
  let c0_i32_1 : BitVec 32 := 0#32
  let c1_i32 : BitVec 32 := 1#32
  let arg19 : BitVec 32 := Scf.iv c0_i32_1 c1_i32 k0_t3
  let v2212 : Index := Scalar.indexCast arg19
  let c0_726 : Index := 0#32
  ![0, v2212.toNat, 288, 0]
def k0_off77 (k0_t3 : Fin k0_t3_loop.trips) : Fin 4 → Nat :=
  let c0_739 : Index := 0#32
  let c0_i32_1 : BitVec 32 := 0#32
  let c1_i32 : BitVec 32 := 1#32
  let arg19 : BitVec 32 := Scf.iv c0_i32_1 c1_i32 k0_t3
  let v2239 : Index := Scalar.indexCast arg19
  let c0_740 : Index := 0#32
  ![0, v2239.toNat, 304, 0]
def k0_off78 (k0_t3 : Fin k0_t3_loop.trips) : Fin 4 → Nat :=
  let c0_753 : Index := 0#32
  let c0_i32_1 : BitVec 32 := 0#32
  let c1_i32 : BitVec 32 := 1#32
  let arg19 : BitVec 32 := Scf.iv c0_i32_1 c1_i32 k0_t3
  let v2266 : Index := Scalar.indexCast arg19
  let c0_754 : Index := 0#32
  ![0, v2266.toNat, 320, 0]
def k0_off79 (k0_t3 : Fin k0_t3_loop.trips) : Fin 4 → Nat :=
  let c0_767 : Index := 0#32
  let c0_i32_1 : BitVec 32 := 0#32
  let c1_i32 : BitVec 32 := 1#32
  let arg19 : BitVec 32 := Scf.iv c0_i32_1 c1_i32 k0_t3
  let v2293 : Index := Scalar.indexCast arg19
  let c0_768 : Index := 0#32
  ![0, v2293.toNat, 336, 0]
def k0_off80 (k0_t3 : Fin k0_t3_loop.trips) : Fin 4 → Nat :=
  let c0_781 : Index := 0#32
  let c0_i32_1 : BitVec 32 := 0#32
  let c1_i32 : BitVec 32 := 1#32
  let arg19 : BitVec 32 := Scf.iv c0_i32_1 c1_i32 k0_t3
  let v2320 : Index := Scalar.indexCast arg19
  let c0_782 : Index := 0#32
  ![0, v2320.toNat, 352, 0]
def k0_off81 (k0_t3 : Fin k0_t3_loop.trips) : Fin 4 → Nat :=
  let c0_795 : Index := 0#32
  let c0_i32_1 : BitVec 32 := 0#32
  let c1_i32 : BitVec 32 := 1#32
  let arg19 : BitVec 32 := Scf.iv c0_i32_1 c1_i32 k0_t3
  let v2347 : Index := Scalar.indexCast arg19
  let c0_796 : Index := 0#32
  ![0, v2347.toNat, 368, 0]
def k0_off82 (k0_t3 : Fin k0_t3_loop.trips) : Fin 4 → Nat :=
  let c0_809 : Index := 0#32
  let c0_i32_1 : BitVec 32 := 0#32
  let c1_i32 : BitVec 32 := 1#32
  let arg19 : BitVec 32 := Scf.iv c0_i32_1 c1_i32 k0_t3
  let v2374 : Index := Scalar.indexCast arg19
  let c0_810 : Index := 0#32
  ![0, v2374.toNat, 384, 0]
def k0_off83 (k0_t3 : Fin k0_t3_loop.trips) : Fin 4 → Nat :=
  let c0_823 : Index := 0#32
  let c0_i32_1 : BitVec 32 := 0#32
  let c1_i32 : BitVec 32 := 1#32
  let arg19 : BitVec 32 := Scf.iv c0_i32_1 c1_i32 k0_t3
  let v2401 : Index := Scalar.indexCast arg19
  let c0_824 : Index := 0#32
  ![0, v2401.toNat, 400, 0]
def k0_off84 (k0_t3 : Fin k0_t3_loop.trips) : Fin 4 → Nat :=
  let c0_837 : Index := 0#32
  let c0_i32_1 : BitVec 32 := 0#32
  let c1_i32 : BitVec 32 := 1#32
  let arg19 : BitVec 32 := Scf.iv c0_i32_1 c1_i32 k0_t3
  let v2428 : Index := Scalar.indexCast arg19
  let c0_838 : Index := 0#32
  ![0, v2428.toNat, 416, 0]
def k0_off85 (k0_t3 : Fin k0_t3_loop.trips) : Fin 4 → Nat :=
  let c0_851 : Index := 0#32
  let c0_i32_1 : BitVec 32 := 0#32
  let c1_i32 : BitVec 32 := 1#32
  let arg19 : BitVec 32 := Scf.iv c0_i32_1 c1_i32 k0_t3
  let v2455 : Index := Scalar.indexCast arg19
  let c0_852 : Index := 0#32
  ![0, v2455.toNat, 432, 0]
def k0_off86 (k0_t3 : Fin k0_t3_loop.trips) : Fin 4 → Nat :=
  let c0_865 : Index := 0#32
  let c0_i32_1 : BitVec 32 := 0#32
  let c1_i32 : BitVec 32 := 1#32
  let arg19 : BitVec 32 := Scf.iv c0_i32_1 c1_i32 k0_t3
  let v2482 : Index := Scalar.indexCast arg19
  let c0_866 : Index := 0#32
  ![0, v2482.toNat, 448, 0]
def k0_off87 (k0_t3 : Fin k0_t3_loop.trips) : Fin 4 → Nat :=
  let c0_879 : Index := 0#32
  let c0_i32_1 : BitVec 32 := 0#32
  let c1_i32 : BitVec 32 := 1#32
  let arg19 : BitVec 32 := Scf.iv c0_i32_1 c1_i32 k0_t3
  let v2509 : Index := Scalar.indexCast arg19
  let c0_880 : Index := 0#32
  ![0, v2509.toNat, 464, 0]
def k0_off88 (k0_t3 : Fin k0_t3_loop.trips) : Fin 4 → Nat :=
  let c0_893 : Index := 0#32
  let c0_i32_1 : BitVec 32 := 0#32
  let c1_i32 : BitVec 32 := 1#32
  let arg19 : BitVec 32 := Scf.iv c0_i32_1 c1_i32 k0_t3
  let v2536 : Index := Scalar.indexCast arg19
  let c0_894 : Index := 0#32
  ![0, v2536.toNat, 480, 0]
def k0_off89 (k0_t3 : Fin k0_t3_loop.trips) : Fin 4 → Nat :=
  let c0_907 : Index := 0#32
  let c0_i32_1 : BitVec 32 := 0#32
  let c1_i32 : BitVec 32 := 1#32
  let arg19 : BitVec 32 := Scf.iv c0_i32_1 c1_i32 k0_t3
  let v2563 : Index := Scalar.indexCast arg19
  let c0_908 : Index := 0#32
  ![0, v2563.toNat, 496, 0]
def k0_off90 (k0_t3 : Fin k0_t3_loop.trips) : Fin 4 → Nat :=
  let c1 : Index := 1#32
  let c0_i32_1 : BitVec 32 := 0#32
  let c1_i32 : BitVec 32 := 1#32
  let arg19 : BitVec 32 := Scf.iv c0_i32_1 c1_i32 k0_t3
  let v855 : Index := Scalar.indexCast arg19
  let c0_222 : Index := 0#32
  let c0_223 : Index := 0#32
  ![1, v855.toNat, 0, 0]
def k0_off91 (k0_t3 : Fin k0_t3_loop.trips) : Fin 4 → Nat :=
  let c1_224 : Index := 1#32
  let c0_i32_1 : BitVec 32 := 0#32
  let c1_i32 : BitVec 32 := 1#32
  let arg19 : BitVec 32 := Scf.iv c0_i32_1 c1_i32 k0_t3
  let v858 : Index := Scalar.indexCast arg19
  let c0_225 : Index := 0#32
  let c0_226 : Index := 0#32
  ![1, v858.toNat, 0, 0]
def k0_off92 (k0_t3 : Fin k0_t3_loop.trips) : Fin 3 → Nat :=
  let c0_i32_1 : BitVec 32 := 0#32
  let c1_i32 : BitVec 32 := 1#32
  let arg19 : BitVec 32 := Scf.iv c0_i32_1 c1_i32 k0_t3
  let v865 : Index := Scalar.indexCast arg19
  let c0_231 : Index := 0#32
  let c0_232 : Index := 0#32
  ![v865.toNat, 0, 0]
def k0_off93 (k0_t3 : Fin k0_t3_loop.trips) : Fin 4 → Nat :=
  let c0_292 : Index := 0#32
  let c0_i32_1 : BitVec 32 := 0#32
  let c1_i32 : BitVec 32 := 1#32
  let arg19 : BitVec 32 := Scf.iv c0_i32_1 c1_i32 k0_t3
  let v1168 : Index := Scalar.indexCast arg19
  let c0_293 : Index := 0#32
  let c0_294 : Index := 0#32
  ![0, v1168.toNat, 0, 0]
def k0_off94 (k0_t3 : Fin k0_t3_loop.trips) : Fin 4 → Nat :=
  let c0_298 : Index := 0#32
  let c0_i32_1 : BitVec 32 := 0#32
  let c1_i32 : BitVec 32 := 1#32
  let arg19 : BitVec 32 := Scf.iv c0_i32_1 c1_i32 k0_t3
  let v1180 : Index := Scalar.indexCast arg19
  let c0_299 : Index := 0#32
  let c128_300 : Index := 128#32
  ![0, v1180.toNat, 0, 128]
def k0_off95 (k0_t3 : Fin k0_t3_loop.trips) : Fin 4 → Nat :=
  let c0_336 : Index := 0#32
  let c0_i32_1 : BitVec 32 := 0#32
  let c1_i32 : BitVec 32 := 1#32
  let arg19 : BitVec 32 := Scf.iv c0_i32_1 c1_i32 k0_t3
  let v1312 : Index := Scalar.indexCast arg19
  let c0_337 : Index := 0#32
  let c0_338 : Index := 0#32
  ![0, v1312.toNat, 0, 0]
def k0_off96 (k0_t3 : Fin k0_t3_loop.trips) : Fin 4 → Nat :=
  let c0_371 : Index := 0#32
  let c0_i32_1 : BitVec 32 := 0#32
  let c1_i32 : BitVec 32 := 1#32
  let arg19 : BitVec 32 := Scf.iv c0_i32_1 c1_i32 k0_t3
  let v1438 : Index := Scalar.indexCast arg19
  let c32_372 : Index := 32#32
  let c0_373 : Index := 0#32
  ![0, v1438.toNat, 32, 0]
def k0_off97 (k0_t3 : Fin k0_t3_loop.trips) : Fin 4 → Nat :=
  let c0_406 : Index := 0#32
  let c0_i32_1 : BitVec 32 := 0#32
  let c1_i32 : BitVec 32 := 1#32
  let arg19 : BitVec 32 := Scf.iv c0_i32_1 c1_i32 k0_t3
  let v1564 : Index := Scalar.indexCast arg19
  let c0_407 : Index := 0#32
  let c128_408 : Index := 128#32
  ![0, v1564.toNat, 0, 128]
def k0_off98 (k0_t3 : Fin k0_t3_loop.trips) : Fin 4 → Nat :=
  let c0_441 : Index := 0#32
  let c0_i32_1 : BitVec 32 := 0#32
  let c1_i32 : BitVec 32 := 1#32
  let arg19 : BitVec 32 := Scf.iv c0_i32_1 c1_i32 k0_t3
  let v1690 : Index := Scalar.indexCast arg19
  let c32_442 : Index := 32#32
  let c128_443 : Index := 128#32
  ![0, v1690.toNat, 32, 128]
def k0_off99 (v1 : BitVec 32) (k0_t3 : Fin k0_t3_loop.trips) (c0_i32_453 : BitVec 32) : Fin 4 → Nat :=
  let c0_i32_447 : BitVec 32 := 0#32
  let c0_i32_1 : BitVec 32 := 0#32
  let c1_i32 : BitVec 32 := 1#32
  let arg19 : BitVec 32 := Scf.iv c0_i32_1 c1_i32 k0_t3
  let v1707 : Index := Scalar.indexCast arg19
  let c512_i32 : BitVec 32 := 512#32
  let v2 : BitVec 32 := Scalar.subi v1 c512_i32
  let c1_i32_444 : BitVec 32 := 1#32
  let v1694 : BitVec 32 := Scalar.shrsi v2 c1_i32_444
  let v1703 : BitVec 32 := Scalar.addi v1694 c0_i32_453
  let v1708 : Index := Scalar.indexCast v1703
  let c0_i32_456 : BitVec 32 := 0#32
  ![0, v1707.toNat, Nat.mul 2 v1708.toNat, 0]
def k0_cond4 (v1 : BitVec 32) : BitVec 1 :=
  let c512_i32 : BitVec 32 := 512#32
  let v2 : BitVec 32 := Scalar.subi v1 c512_i32
  let c1_i32_445 : BitVec 32 := 1#32
  let v1695 : BitVec 32 := Scalar.andi v2 c1_i32_445
  let c0_i32_446 : BitVec 32 := 0#32
  let v1696 : BitVec 1 := Scalar.cmpi .eq v1695 c0_i32_446
  let v1697 : BitVec 32 := Scalar.extui v1696
  let c0_i32_448 : BitVec 32 := 0#32
  let v1698 : BitVec 1 := Scalar.cmpi .ne v1697 c0_i32_448
  v1698

def k0_off100 (k0_t3 : Fin k0_t3_loop.trips) : Fin 4 → Nat :=
  let c0_458 : Index := 0#32
  let c0_i32_1 : BitVec 32 := 0#32
  let c1_i32 : BitVec 32 := 1#32
  let arg19 : BitVec 32 := Scf.iv c0_i32_1 c1_i32 k0_t3
  let v1712 : Index := Scalar.indexCast arg19
  let c0_460 : Index := 0#32
  ![0, v1712.toNat, 0, 0]
def k0_off101 (k0_t3 : Fin k0_t3_loop.trips) : Fin 4 → Nat :=
  let c0_466 : Index := 0#32
  let c0_i32_1 : BitVec 32 := 0#32
  let c1_i32 : BitVec 32 := 1#32
  let arg19 : BitVec 32 := Scf.iv c0_i32_1 c1_i32 k0_t3
  let v1725 : Index := Scalar.indexCast arg19
  let c0_467 : Index := 0#32
  ![0, v1725.toNat, 16, 0]
def k0_off102 (k0_t3 : Fin k0_t3_loop.trips) : Fin 4 → Nat :=
  let c0_473 : Index := 0#32
  let c0_i32_1 : BitVec 32 := 0#32
  let c1_i32 : BitVec 32 := 1#32
  let arg19 : BitVec 32 := Scf.iv c0_i32_1 c1_i32 k0_t3
  let v1738 : Index := Scalar.indexCast arg19
  let c0_474 : Index := 0#32
  ![0, v1738.toNat, 32, 0]
def k0_off103 (k0_t3 : Fin k0_t3_loop.trips) : Fin 4 → Nat :=
  let c0_480 : Index := 0#32
  let c0_i32_1 : BitVec 32 := 0#32
  let c1_i32 : BitVec 32 := 1#32
  let arg19 : BitVec 32 := Scf.iv c0_i32_1 c1_i32 k0_t3
  let v1751 : Index := Scalar.indexCast arg19
  let c0_481 : Index := 0#32
  ![0, v1751.toNat, 48, 0]
def k0_off104 (k0_t3 : Fin k0_t3_loop.trips) : Fin 4 → Nat :=
  let c0_486 : Index := 0#32
  let c0_i32_1 : BitVec 32 := 0#32
  let c1_i32 : BitVec 32 := 1#32
  let arg19 : BitVec 32 := Scf.iv c0_i32_1 c1_i32 k0_t3
  let v1764 : Index := Scalar.indexCast arg19
  let c0_488 : Index := 0#32
  ![0, v1764.toNat, 64, 0]
def k0_off105 (k0_t3 : Fin k0_t3_loop.trips) : Fin 4 → Nat :=
  let c0_493 : Index := 0#32
  let c0_i32_1 : BitVec 32 := 0#32
  let c1_i32 : BitVec 32 := 1#32
  let arg19 : BitVec 32 := Scf.iv c0_i32_1 c1_i32 k0_t3
  let v1777 : Index := Scalar.indexCast arg19
  let c0_494 : Index := 0#32
  ![0, v1777.toNat, 80, 0]
def k0_off106 (k0_t3 : Fin k0_t3_loop.trips) : Fin 4 → Nat :=
  let c0_499 : Index := 0#32
  let c0_i32_1 : BitVec 32 := 0#32
  let c1_i32 : BitVec 32 := 1#32
  let arg19 : BitVec 32 := Scf.iv c0_i32_1 c1_i32 k0_t3
  let v1790 : Index := Scalar.indexCast arg19
  let c0_500 : Index := 0#32
  ![0, v1790.toNat, 96, 0]
def k0_off107 (k0_t3 : Fin k0_t3_loop.trips) : Fin 4 → Nat :=
  let c0_505 : Index := 0#32
  let c0_i32_1 : BitVec 32 := 0#32
  let c1_i32 : BitVec 32 := 1#32
  let arg19 : BitVec 32 := Scf.iv c0_i32_1 c1_i32 k0_t3
  let v1803 : Index := Scalar.indexCast arg19
  let c0_506 : Index := 0#32
  ![0, v1803.toNat, 112, 0]
def k0_off108 (k0_t3 : Fin k0_t3_loop.trips) : Fin 4 → Nat :=
  let c0_511 : Index := 0#32
  let c0_i32_1 : BitVec 32 := 0#32
  let c1_i32 : BitVec 32 := 1#32
  let arg19 : BitVec 32 := Scf.iv c0_i32_1 c1_i32 k0_t3
  let v1816 : Index := Scalar.indexCast arg19
  let c0_512 : Index := 0#32
  ![0, v1816.toNat, 128, 0]
def k0_off109 (k0_t3 : Fin k0_t3_loop.trips) : Fin 4 → Nat :=
  let c0_517 : Index := 0#32
  let c0_i32_1 : BitVec 32 := 0#32
  let c1_i32 : BitVec 32 := 1#32
  let arg19 : BitVec 32 := Scf.iv c0_i32_1 c1_i32 k0_t3
  let v1829 : Index := Scalar.indexCast arg19
  let c0_518 : Index := 0#32
  ![0, v1829.toNat, 144, 0]
def k0_off110 (k0_t3 : Fin k0_t3_loop.trips) : Fin 4 → Nat :=
  let c0_523 : Index := 0#32
  let c0_i32_1 : BitVec 32 := 0#32
  let c1_i32 : BitVec 32 := 1#32
  let arg19 : BitVec 32 := Scf.iv c0_i32_1 c1_i32 k0_t3
  let v1842 : Index := Scalar.indexCast arg19
  let c0_524 : Index := 0#32
  ![0, v1842.toNat, 160, 0]
def k0_off111 (k0_t3 : Fin k0_t3_loop.trips) : Fin 4 → Nat :=
  let c0_529 : Index := 0#32
  let c0_i32_1 : BitVec 32 := 0#32
  let c1_i32 : BitVec 32 := 1#32
  let arg19 : BitVec 32 := Scf.iv c0_i32_1 c1_i32 k0_t3
  let v1855 : Index := Scalar.indexCast arg19
  let c0_530 : Index := 0#32
  ![0, v1855.toNat, 176, 0]
def k0_off112 (k0_t3 : Fin k0_t3_loop.trips) : Fin 4 → Nat :=
  let c0_535 : Index := 0#32
  let c0_i32_1 : BitVec 32 := 0#32
  let c1_i32 : BitVec 32 := 1#32
  let arg19 : BitVec 32 := Scf.iv c0_i32_1 c1_i32 k0_t3
  let v1868 : Index := Scalar.indexCast arg19
  let c0_536 : Index := 0#32
  ![0, v1868.toNat, 192, 0]
def k0_off113 (k0_t3 : Fin k0_t3_loop.trips) : Fin 4 → Nat :=
  let c0_541 : Index := 0#32
  let c0_i32_1 : BitVec 32 := 0#32
  let c1_i32 : BitVec 32 := 1#32
  let arg19 : BitVec 32 := Scf.iv c0_i32_1 c1_i32 k0_t3
  let v1881 : Index := Scalar.indexCast arg19
  let c0_542 : Index := 0#32
  ![0, v1881.toNat, 208, 0]
def k0_off114 (k0_t3 : Fin k0_t3_loop.trips) : Fin 4 → Nat :=
  let c0_547 : Index := 0#32
  let c0_i32_1 : BitVec 32 := 0#32
  let c1_i32 : BitVec 32 := 1#32
  let arg19 : BitVec 32 := Scf.iv c0_i32_1 c1_i32 k0_t3
  let v1894 : Index := Scalar.indexCast arg19
  let c0_548 : Index := 0#32
  ![0, v1894.toNat, 224, 0]
def k0_off115 (k0_t3 : Fin k0_t3_loop.trips) : Fin 4 → Nat :=
  let c0_553 : Index := 0#32
  let c0_i32_1 : BitVec 32 := 0#32
  let c1_i32 : BitVec 32 := 1#32
  let arg19 : BitVec 32 := Scf.iv c0_i32_1 c1_i32 k0_t3
  let v1907 : Index := Scalar.indexCast arg19
  let c0_554 : Index := 0#32
  ![0, v1907.toNat, 240, 0]
def k0_off116 (k0_t3 : Fin k0_t3_loop.trips) : Fin 4 → Nat :=
  let c0_560 : Index := 0#32
  let c0_i32_1 : BitVec 32 := 0#32
  let c1_i32 : BitVec 32 := 1#32
  let arg19 : BitVec 32 := Scf.iv c0_i32_1 c1_i32 k0_t3
  let v1920 : Index := Scalar.indexCast arg19
  let c0_562 : Index := 0#32
  ![0, v1920.toNat, 256, 0]
def k0_off117 (k0_t3 : Fin k0_t3_loop.trips) : Fin 4 → Nat :=
  let c0_567 : Index := 0#32
  let c0_i32_1 : BitVec 32 := 0#32
  let c1_i32 : BitVec 32 := 1#32
  let arg19 : BitVec 32 := Scf.iv c0_i32_1 c1_i32 k0_t3
  let v1933 : Index := Scalar.indexCast arg19
  let c0_568 : Index := 0#32
  ![0, v1933.toNat, 272, 0]
def k0_off118 (k0_t3 : Fin k0_t3_loop.trips) : Fin 4 → Nat :=
  let c0_573 : Index := 0#32
  let c0_i32_1 : BitVec 32 := 0#32
  let c1_i32 : BitVec 32 := 1#32
  let arg19 : BitVec 32 := Scf.iv c0_i32_1 c1_i32 k0_t3
  let v1946 : Index := Scalar.indexCast arg19
  let c0_574 : Index := 0#32
  ![0, v1946.toNat, 288, 0]
def k0_off119 (k0_t3 : Fin k0_t3_loop.trips) : Fin 4 → Nat :=
  let c0_579 : Index := 0#32
  let c0_i32_1 : BitVec 32 := 0#32
  let c1_i32 : BitVec 32 := 1#32
  let arg19 : BitVec 32 := Scf.iv c0_i32_1 c1_i32 k0_t3
  let v1959 : Index := Scalar.indexCast arg19
  let c0_580 : Index := 0#32
  ![0, v1959.toNat, 304, 0]
def k0_off120 (k0_t3 : Fin k0_t3_loop.trips) : Fin 4 → Nat :=
  let c0_585 : Index := 0#32
  let c0_i32_1 : BitVec 32 := 0#32
  let c1_i32 : BitVec 32 := 1#32
  let arg19 : BitVec 32 := Scf.iv c0_i32_1 c1_i32 k0_t3
  let v1972 : Index := Scalar.indexCast arg19
  let c0_586 : Index := 0#32
  ![0, v1972.toNat, 320, 0]
def k0_off121 (k0_t3 : Fin k0_t3_loop.trips) : Fin 4 → Nat :=
  let c0_591 : Index := 0#32
  let c0_i32_1 : BitVec 32 := 0#32
  let c1_i32 : BitVec 32 := 1#32
  let arg19 : BitVec 32 := Scf.iv c0_i32_1 c1_i32 k0_t3
  let v1985 : Index := Scalar.indexCast arg19
  let c0_592 : Index := 0#32
  ![0, v1985.toNat, 336, 0]
def k0_off122 (k0_t3 : Fin k0_t3_loop.trips) : Fin 4 → Nat :=
  let c0_597 : Index := 0#32
  let c0_i32_1 : BitVec 32 := 0#32
  let c1_i32 : BitVec 32 := 1#32
  let arg19 : BitVec 32 := Scf.iv c0_i32_1 c1_i32 k0_t3
  let v1998 : Index := Scalar.indexCast arg19
  let c0_598 : Index := 0#32
  ![0, v1998.toNat, 352, 0]
def k0_off123 (k0_t3 : Fin k0_t3_loop.trips) : Fin 4 → Nat :=
  let c0_603 : Index := 0#32
  let c0_i32_1 : BitVec 32 := 0#32
  let c1_i32 : BitVec 32 := 1#32
  let arg19 : BitVec 32 := Scf.iv c0_i32_1 c1_i32 k0_t3
  let v2011 : Index := Scalar.indexCast arg19
  let c0_604 : Index := 0#32
  ![0, v2011.toNat, 368, 0]
def k0_off124 (k0_t3 : Fin k0_t3_loop.trips) : Fin 4 → Nat :=
  let c0_609 : Index := 0#32
  let c0_i32_1 : BitVec 32 := 0#32
  let c1_i32 : BitVec 32 := 1#32
  let arg19 : BitVec 32 := Scf.iv c0_i32_1 c1_i32 k0_t3
  let v2024 : Index := Scalar.indexCast arg19
  let c0_610 : Index := 0#32
  ![0, v2024.toNat, 384, 0]
def k0_off125 (k0_t3 : Fin k0_t3_loop.trips) : Fin 4 → Nat :=
  let c0_615 : Index := 0#32
  let c0_i32_1 : BitVec 32 := 0#32
  let c1_i32 : BitVec 32 := 1#32
  let arg19 : BitVec 32 := Scf.iv c0_i32_1 c1_i32 k0_t3
  let v2037 : Index := Scalar.indexCast arg19
  let c0_616 : Index := 0#32
  ![0, v2037.toNat, 400, 0]
def k0_off126 (k0_t3 : Fin k0_t3_loop.trips) : Fin 4 → Nat :=
  let c0_621 : Index := 0#32
  let c0_i32_1 : BitVec 32 := 0#32
  let c1_i32 : BitVec 32 := 1#32
  let arg19 : BitVec 32 := Scf.iv c0_i32_1 c1_i32 k0_t3
  let v2050 : Index := Scalar.indexCast arg19
  let c0_622 : Index := 0#32
  ![0, v2050.toNat, 416, 0]
def k0_off127 (k0_t3 : Fin k0_t3_loop.trips) : Fin 4 → Nat :=
  let c0_627 : Index := 0#32
  let c0_i32_1 : BitVec 32 := 0#32
  let c1_i32 : BitVec 32 := 1#32
  let arg19 : BitVec 32 := Scf.iv c0_i32_1 c1_i32 k0_t3
  let v2063 : Index := Scalar.indexCast arg19
  let c0_628 : Index := 0#32
  ![0, v2063.toNat, 432, 0]
def k0_off128 (k0_t3 : Fin k0_t3_loop.trips) : Fin 4 → Nat :=
  let c0_633 : Index := 0#32
  let c0_i32_1 : BitVec 32 := 0#32
  let c1_i32 : BitVec 32 := 1#32
  let arg19 : BitVec 32 := Scf.iv c0_i32_1 c1_i32 k0_t3
  let v2076 : Index := Scalar.indexCast arg19
  let c0_634 : Index := 0#32
  ![0, v2076.toNat, 448, 0]
def k0_off129 (k0_t3 : Fin k0_t3_loop.trips) : Fin 4 → Nat :=
  let c0_639 : Index := 0#32
  let c0_i32_1 : BitVec 32 := 0#32
  let c1_i32 : BitVec 32 := 1#32
  let arg19 : BitVec 32 := Scf.iv c0_i32_1 c1_i32 k0_t3
  let v2089 : Index := Scalar.indexCast arg19
  let c0_640 : Index := 0#32
  ![0, v2089.toNat, 464, 0]
def k0_off130 (k0_t3 : Fin k0_t3_loop.trips) : Fin 4 → Nat :=
  let c0_645 : Index := 0#32
  let c0_i32_1 : BitVec 32 := 0#32
  let c1_i32 : BitVec 32 := 1#32
  let arg19 : BitVec 32 := Scf.iv c0_i32_1 c1_i32 k0_t3
  let v2102 : Index := Scalar.indexCast arg19
  let c0_646 : Index := 0#32
  ![0, v2102.toNat, 480, 0]
def k0_off131 (k0_t3 : Fin k0_t3_loop.trips) : Fin 4 → Nat :=
  let c0_651 : Index := 0#32
  let c0_i32_1 : BitVec 32 := 0#32
  let c1_i32 : BitVec 32 := 1#32
  let arg19 : BitVec 32 := Scf.iv c0_i32_1 c1_i32 k0_t3
  let v2115 : Index := Scalar.indexCast arg19
  let c0_652 : Index := 0#32
  ![0, v2115.toNat, 496, 0]
def k0_off132 (v1 : BitVec 32) (k0_t3 : Fin k0_t3_loop.trips) (c0_i32_453 : BitVec 32) : Fin 4 → Nat :=
  let c0_i32_451 : BitVec 32 := 0#32
  let c0_i32_1 : BitVec 32 := 0#32
  let c1_i32 : BitVec 32 := 1#32
  let arg19 : BitVec 32 := Scf.iv c0_i32_1 c1_i32 k0_t3
  let v1707 : Index := Scalar.indexCast arg19
  let c512_i32 : BitVec 32 := 512#32
  let v2 : BitVec 32 := Scalar.subi v1 c512_i32
  let c1_i32_444 : BitVec 32 := 1#32
  let v1694 : BitVec 32 := Scalar.shrsi v2 c1_i32_444
  let v1703 : BitVec 32 := Scalar.addi v1694 c0_i32_453
  let v1708 : Index := Scalar.indexCast v1703
  let c0_i32_456 : BitVec 32 := 0#32
  ![0, v1707.toNat, Nat.mul 2 v1708.toNat, 0]
def k0_cond5 (v1 : BitVec 32) : BitVec 1 :=
  let c512_i32 : BitVec 32 := 512#32
  let v2 : BitVec 32 := Scalar.subi v1 c512_i32
  let c1_i32_449 : BitVec 32 := 1#32
  let v1699 : BitVec 32 := Scalar.andi v2 c1_i32_449
  let c1_i32_450 : BitVec 32 := 1#32
  let v1700 : BitVec 1 := Scalar.cmpi .eq v1699 c1_i32_450
  let v1701 : BitVec 32 := Scalar.extui v1700
  let c0_i32_452 : BitVec 32 := 0#32
  let v1702 : BitVec 1 := Scalar.cmpi .ne v1701 c0_i32_452
  v1702

def k0_off133 (v1 : BitVec 32) (k0_t3 : Fin k0_t3_loop.trips) (c0_i32_458 : BitVec 32) : Fin 4 → Nat :=
  let c0_i32_451 : BitVec 32 := 0#32
  let c0_i32_1 : BitVec 32 := 0#32
  let c1_i32 : BitVec 32 := 1#32
  let arg19 : BitVec 32 := Scf.iv c0_i32_1 c1_i32 k0_t3
  let v1716 : Index := Scalar.indexCast arg19
  let c512_i32 : BitVec 32 := 512#32
  let v2 : BitVec 32 := Scalar.subi v1 c512_i32
  let c1_i32_444 : BitVec 32 := 1#32
  let v1694 : BitVec 32 := Scalar.shrsi v2 c1_i32_444
  let v1711 : BitVec 32 := Scalar.addi v1694 c0_i32_458
  let c1_i32_459 : BitVec 32 := 1#32
  let v1712 : BitVec 32 := Scalar.addi v1711 c1_i32_459
  let v1717 : Index := Scalar.indexCast v1712
  let c0_i32_462 : BitVec 32 := 0#32
  ![0, v1716.toNat, Nat.mul 2 v1717.toNat, 0]

def k0_chk1 (v1 : BitVec 32) : Prop :=
  (∀ k0_t3 : Fin k0_t3_loop.trips, ∀ (k0_h2 : k0_cond2 v1 = 1#1), ∀ (r : Fin 32), ∀ a, (k0_off23 v1 k0_t3 (BitVec.ofNat 32 (8 * r.val))) a + S1x1x16x128.size a ≤ S1x4x768x128.size a) ∧
  (∀ k0_t3 : Fin k0_t3_loop.trips, ∀ (k0_h3 : k0_cond3 v1 = 1#1), ∀ (r : Fin 32), ∀ a, (k0_off56 v1 k0_t3 (BitVec.ofNat 32 (8 * r.val))) a + S1x1x16x128.size a ≤ S1x4x768x128.size a) ∧
  (∀ k0_t3 : Fin k0_t3_loop.trips, ∀ (k0_h3 : k0_cond3 v1 = 1#1), ∀ (r : Fin 32), ∀ a, (k0_off57 v1 k0_t3 (BitVec.ofNat 32 (8 * r.val))) a + S1x1x16x128.size a ≤ S1x4x768x128.size a) ∧
  (∀ k0_t3 : Fin k0_t3_loop.trips, ∀ (k0_h4 : k0_cond4 v1 = 1#1), ∀ (r : Fin 32), ∀ a, (k0_off99 v1 k0_t3 (BitVec.ofNat 32 (8 * r.val))) a + S1x1x16x128.size a ≤ S1x4x768x128.size a) ∧
  (∀ k0_t3 : Fin k0_t3_loop.trips, ∀ (k0_h5 : k0_cond5 v1 = 1#1), ∀ (r : Fin 32), ∀ a, (k0_off132 v1 k0_t3 (BitVec.ofNat 32 (8 * r.val))) a + S1x1x16x128.size a ≤ S1x4x768x128.size a) ∧
  (∀ k0_t3 : Fin k0_t3_loop.trips, ∀ (k0_h5 : k0_cond5 v1 = 1#1), ∀ (r : Fin 32), ∀ a, (k0_off133 v1 k0_t3 (BitVec.ofNat 32 (8 * r.val))) a + S1x1x16x128.size a ≤ S1x4x768x128.size a)
theorem k0_off23_inb : ∀ (v1 : BitVec 32) (k0_hw1 : k0_chk1 v1) (k0_t3 : Fin k0_t3_loop.trips), ∀ (k0_h2 : k0_cond2 v1 = 1#1), ∀ (r : Fin 32), ∀ a, (k0_off23 v1 k0_t3 (BitVec.ofNat 32 (8 * r.val))) a + S1x1x16x128.size a ≤ S1x4x768x128.size a := fun v1 k0_hw1 k0_t3 k0_h2 r => k0_hw1.1 k0_t3 k0_h2 r
theorem k0_off56_inb : ∀ (v1 : BitVec 32) (k0_hw1 : k0_chk1 v1) (k0_t3 : Fin k0_t3_loop.trips), ∀ (k0_h3 : k0_cond3 v1 = 1#1), ∀ (r : Fin 32), ∀ a, (k0_off56 v1 k0_t3 (BitVec.ofNat 32 (8 * r.val))) a + S1x1x16x128.size a ≤ S1x4x768x128.size a := fun v1 k0_hw1 k0_t3 k0_h3 r => k0_hw1.2.1 k0_t3 k0_h3 r
theorem k0_off57_inb : ∀ (v1 : BitVec 32) (k0_hw1 : k0_chk1 v1) (k0_t3 : Fin k0_t3_loop.trips), ∀ (k0_h3 : k0_cond3 v1 = 1#1), ∀ (r : Fin 32), ∀ a, (k0_off57 v1 k0_t3 (BitVec.ofNat 32 (8 * r.val))) a + S1x1x16x128.size a ≤ S1x4x768x128.size a := fun v1 k0_hw1 k0_t3 k0_h3 r => k0_hw1.2.2.1 k0_t3 k0_h3 r
theorem k0_off99_inb : ∀ (v1 : BitVec 32) (k0_hw1 : k0_chk1 v1) (k0_t3 : Fin k0_t3_loop.trips), ∀ (k0_h4 : k0_cond4 v1 = 1#1), ∀ (r : Fin 32), ∀ a, (k0_off99 v1 k0_t3 (BitVec.ofNat 32 (8 * r.val))) a + S1x1x16x128.size a ≤ S1x4x768x128.size a := fun v1 k0_hw1 k0_t3 k0_h4 r => k0_hw1.2.2.2.1 k0_t3 k0_h4 r
theorem k0_off132_inb : ∀ (v1 : BitVec 32) (k0_hw1 : k0_chk1 v1) (k0_t3 : Fin k0_t3_loop.trips), ∀ (k0_h5 : k0_cond5 v1 = 1#1), ∀ (r : Fin 32), ∀ a, (k0_off132 v1 k0_t3 (BitVec.ofNat 32 (8 * r.val))) a + S1x1x16x128.size a ≤ S1x4x768x128.size a := fun v1 k0_hw1 k0_t3 k0_h5 r => k0_hw1.2.2.2.2.1 k0_t3 k0_h5 r
theorem k0_off133_inb : ∀ (v1 : BitVec 32) (k0_hw1 : k0_chk1 v1) (k0_t3 : Fin k0_t3_loop.trips), ∀ (k0_h5 : k0_cond5 v1 = 1#1), ∀ (r : Fin 32), ∀ a, (k0_off133 v1 k0_t3 (BitVec.ofNat 32 (8 * r.val))) a + S1x1x16x128.size a ≤ S1x4x768x128.size a := fun v1 k0_hw1 k0_t3 k0_h5 r => k0_hw1.2.2.2.2.2 k0_t3 k0_h5 r

def k0_off134 (k0_t3 : Fin k0_t3_loop.trips) : Fin 4 → Nat :=
  let c0_466 : Index := 0#32
  let c0_i32_1 : BitVec 32 := 0#32
  let c1_i32 : BitVec 32 := 1#32
  let arg19 : BitVec 32 := Scf.iv c0_i32_1 c1_i32 k0_t3
  let v1726 : Index := Scalar.indexCast arg19
  let c0_468 : Index := 0#32
  ![0, v1726.toNat, 0, 0]
def k0_off135 (k0_t3 : Fin k0_t3_loop.trips) : Fin 4 → Nat :=
  let c0_482 : Index := 0#32
  let c0_i32_1 : BitVec 32 := 0#32
  let c1_i32 : BitVec 32 := 1#32
  let arg19 : BitVec 32 := Scf.iv c0_i32_1 c1_i32 k0_t3
  let v1753 : Index := Scalar.indexCast arg19
  let c0_483 : Index := 0#32
  ![0, v1753.toNat, 16, 0]
def k0_off136 (k0_t3 : Fin k0_t3_loop.trips) : Fin 4 → Nat :=
  let c0_497 : Index := 0#32
  let c0_i32_1 : BitVec 32 := 0#32
  let c1_i32 : BitVec 32 := 1#32
  let arg19 : BitVec 32 := Scf.iv c0_i32_1 c1_i32 k0_t3
  let v1780 : Index := Scalar.indexCast arg19
  let c0_498 : Index := 0#32
  ![0, v1780.toNat, 32, 0]
def k0_off137 (k0_t3 : Fin k0_t3_loop.trips) : Fin 4 → Nat :=
  let c0_512 : Index := 0#32
  let c0_i32_1 : BitVec 32 := 0#32
  let c1_i32 : BitVec 32 := 1#32
  let arg19 : BitVec 32 := Scf.iv c0_i32_1 c1_i32 k0_t3
  let v1807 : Index := Scalar.indexCast arg19
  let c0_513 : Index := 0#32
  ![0, v1807.toNat, 48, 0]
def k0_off138 (k0_t3 : Fin k0_t3_loop.trips) : Fin 4 → Nat :=
  let c0_526 : Index := 0#32
  let c0_i32_1 : BitVec 32 := 0#32
  let c1_i32 : BitVec 32 := 1#32
  let arg19 : BitVec 32 := Scf.iv c0_i32_1 c1_i32 k0_t3
  let v1834 : Index := Scalar.indexCast arg19
  let c0_528 : Index := 0#32
  ![0, v1834.toNat, 64, 0]
def k0_off139 (k0_t3 : Fin k0_t3_loop.trips) : Fin 4 → Nat :=
  let c0_541 : Index := 0#32
  let c0_i32_1 : BitVec 32 := 0#32
  let c1_i32 : BitVec 32 := 1#32
  let arg19 : BitVec 32 := Scf.iv c0_i32_1 c1_i32 k0_t3
  let v1861 : Index := Scalar.indexCast arg19
  let c0_542 : Index := 0#32
  ![0, v1861.toNat, 80, 0]
def k0_off140 (k0_t3 : Fin k0_t3_loop.trips) : Fin 4 → Nat :=
  let c0_555 : Index := 0#32
  let c0_i32_1 : BitVec 32 := 0#32
  let c1_i32 : BitVec 32 := 1#32
  let arg19 : BitVec 32 := Scf.iv c0_i32_1 c1_i32 k0_t3
  let v1888 : Index := Scalar.indexCast arg19
  let c0_556 : Index := 0#32
  ![0, v1888.toNat, 96, 0]
def k0_off141 (k0_t3 : Fin k0_t3_loop.trips) : Fin 4 → Nat :=
  let c0_569 : Index := 0#32
  let c0_i32_1 : BitVec 32 := 0#32
  let c1_i32 : BitVec 32 := 1#32
  let arg19 : BitVec 32 := Scf.iv c0_i32_1 c1_i32 k0_t3
  let v1915 : Index := Scalar.indexCast arg19
  let c0_570 : Index := 0#32
  ![0, v1915.toNat, 112, 0]
def k0_off142 (k0_t3 : Fin k0_t3_loop.trips) : Fin 4 → Nat :=
  let c0_583 : Index := 0#32
  let c0_i32_1 : BitVec 32 := 0#32
  let c1_i32 : BitVec 32 := 1#32
  let arg19 : BitVec 32 := Scf.iv c0_i32_1 c1_i32 k0_t3
  let v1942 : Index := Scalar.indexCast arg19
  let c0_584 : Index := 0#32
  ![0, v1942.toNat, 128, 0]
def k0_off143 (k0_t3 : Fin k0_t3_loop.trips) : Fin 4 → Nat :=
  let c0_597 : Index := 0#32
  let c0_i32_1 : BitVec 32 := 0#32
  let c1_i32 : BitVec 32 := 1#32
  let arg19 : BitVec 32 := Scf.iv c0_i32_1 c1_i32 k0_t3
  let v1969 : Index := Scalar.indexCast arg19
  let c0_598 : Index := 0#32
  ![0, v1969.toNat, 144, 0]
def k0_off144 (k0_t3 : Fin k0_t3_loop.trips) : Fin 4 → Nat :=
  let c0_611 : Index := 0#32
  let c0_i32_1 : BitVec 32 := 0#32
  let c1_i32 : BitVec 32 := 1#32
  let arg19 : BitVec 32 := Scf.iv c0_i32_1 c1_i32 k0_t3
  let v1996 : Index := Scalar.indexCast arg19
  let c0_612 : Index := 0#32
  ![0, v1996.toNat, 160, 0]
def k0_off145 (k0_t3 : Fin k0_t3_loop.trips) : Fin 4 → Nat :=
  let c0_625 : Index := 0#32
  let c0_i32_1 : BitVec 32 := 0#32
  let c1_i32 : BitVec 32 := 1#32
  let arg19 : BitVec 32 := Scf.iv c0_i32_1 c1_i32 k0_t3
  let v2023 : Index := Scalar.indexCast arg19
  let c0_626 : Index := 0#32
  ![0, v2023.toNat, 176, 0]
def k0_off146 (k0_t3 : Fin k0_t3_loop.trips) : Fin 4 → Nat :=
  let c0_639 : Index := 0#32
  let c0_i32_1 : BitVec 32 := 0#32
  let c1_i32 : BitVec 32 := 1#32
  let arg19 : BitVec 32 := Scf.iv c0_i32_1 c1_i32 k0_t3
  let v2050 : Index := Scalar.indexCast arg19
  let c0_640 : Index := 0#32
  ![0, v2050.toNat, 192, 0]
def k0_off147 (k0_t3 : Fin k0_t3_loop.trips) : Fin 4 → Nat :=
  let c0_653 : Index := 0#32
  let c0_i32_1 : BitVec 32 := 0#32
  let c1_i32 : BitVec 32 := 1#32
  let arg19 : BitVec 32 := Scf.iv c0_i32_1 c1_i32 k0_t3
  let v2077 : Index := Scalar.indexCast arg19
  let c0_654 : Index := 0#32
  ![0, v2077.toNat, 208, 0]
def k0_off148 (k0_t3 : Fin k0_t3_loop.trips) : Fin 4 → Nat :=
  let c0_667 : Index := 0#32
  let c0_i32_1 : BitVec 32 := 0#32
  let c1_i32 : BitVec 32 := 1#32
  let arg19 : BitVec 32 := Scf.iv c0_i32_1 c1_i32 k0_t3
  let v2104 : Index := Scalar.indexCast arg19
  let c0_668 : Index := 0#32
  ![0, v2104.toNat, 224, 0]
def k0_off149 (k0_t3 : Fin k0_t3_loop.trips) : Fin 4 → Nat :=
  let c0_681 : Index := 0#32
  let c0_i32_1 : BitVec 32 := 0#32
  let c1_i32 : BitVec 32 := 1#32
  let arg19 : BitVec 32 := Scf.iv c0_i32_1 c1_i32 k0_t3
  let v2131 : Index := Scalar.indexCast arg19
  let c0_682 : Index := 0#32
  ![0, v2131.toNat, 240, 0]
def k0_off150 (k0_t3 : Fin k0_t3_loop.trips) : Fin 4 → Nat :=
  let c0_696 : Index := 0#32
  let c0_i32_1 : BitVec 32 := 0#32
  let c1_i32 : BitVec 32 := 1#32
  let arg19 : BitVec 32 := Scf.iv c0_i32_1 c1_i32 k0_t3
  let v2158 : Index := Scalar.indexCast arg19
  let c0_698 : Index := 0#32
  ![0, v2158.toNat, 256, 0]
def k0_off151 (k0_t3 : Fin k0_t3_loop.trips) : Fin 4 → Nat :=
  let c0_711 : Index := 0#32
  let c0_i32_1 : BitVec 32 := 0#32
  let c1_i32 : BitVec 32 := 1#32
  let arg19 : BitVec 32 := Scf.iv c0_i32_1 c1_i32 k0_t3
  let v2185 : Index := Scalar.indexCast arg19
  let c0_712 : Index := 0#32
  ![0, v2185.toNat, 272, 0]
def k0_off152 (k0_t3 : Fin k0_t3_loop.trips) : Fin 4 → Nat :=
  let c0_725 : Index := 0#32
  let c0_i32_1 : BitVec 32 := 0#32
  let c1_i32 : BitVec 32 := 1#32
  let arg19 : BitVec 32 := Scf.iv c0_i32_1 c1_i32 k0_t3
  let v2212 : Index := Scalar.indexCast arg19
  let c0_726 : Index := 0#32
  ![0, v2212.toNat, 288, 0]
def k0_off153 (k0_t3 : Fin k0_t3_loop.trips) : Fin 4 → Nat :=
  let c0_739 : Index := 0#32
  let c0_i32_1 : BitVec 32 := 0#32
  let c1_i32 : BitVec 32 := 1#32
  let arg19 : BitVec 32 := Scf.iv c0_i32_1 c1_i32 k0_t3
  let v2239 : Index := Scalar.indexCast arg19
  let c0_740 : Index := 0#32
  ![0, v2239.toNat, 304, 0]
def k0_off154 (k0_t3 : Fin k0_t3_loop.trips) : Fin 4 → Nat :=
  let c0_753 : Index := 0#32
  let c0_i32_1 : BitVec 32 := 0#32
  let c1_i32 : BitVec 32 := 1#32
  let arg19 : BitVec 32 := Scf.iv c0_i32_1 c1_i32 k0_t3
  let v2266 : Index := Scalar.indexCast arg19
  let c0_754 : Index := 0#32
  ![0, v2266.toNat, 320, 0]
def k0_off155 (k0_t3 : Fin k0_t3_loop.trips) : Fin 4 → Nat :=
  let c0_767 : Index := 0#32
  let c0_i32_1 : BitVec 32 := 0#32
  let c1_i32 : BitVec 32 := 1#32
  let arg19 : BitVec 32 := Scf.iv c0_i32_1 c1_i32 k0_t3
  let v2293 : Index := Scalar.indexCast arg19
  let c0_768 : Index := 0#32
  ![0, v2293.toNat, 336, 0]
def k0_off156 (k0_t3 : Fin k0_t3_loop.trips) : Fin 4 → Nat :=
  let c0_781 : Index := 0#32
  let c0_i32_1 : BitVec 32 := 0#32
  let c1_i32 : BitVec 32 := 1#32
  let arg19 : BitVec 32 := Scf.iv c0_i32_1 c1_i32 k0_t3
  let v2320 : Index := Scalar.indexCast arg19
  let c0_782 : Index := 0#32
  ![0, v2320.toNat, 352, 0]
def k0_off157 (k0_t3 : Fin k0_t3_loop.trips) : Fin 4 → Nat :=
  let c0_795 : Index := 0#32
  let c0_i32_1 : BitVec 32 := 0#32
  let c1_i32 : BitVec 32 := 1#32
  let arg19 : BitVec 32 := Scf.iv c0_i32_1 c1_i32 k0_t3
  let v2347 : Index := Scalar.indexCast arg19
  let c0_796 : Index := 0#32
  ![0, v2347.toNat, 368, 0]
def k0_off158 (k0_t3 : Fin k0_t3_loop.trips) : Fin 4 → Nat :=
  let c0_809 : Index := 0#32
  let c0_i32_1 : BitVec 32 := 0#32
  let c1_i32 : BitVec 32 := 1#32
  let arg19 : BitVec 32 := Scf.iv c0_i32_1 c1_i32 k0_t3
  let v2374 : Index := Scalar.indexCast arg19
  let c0_810 : Index := 0#32
  ![0, v2374.toNat, 384, 0]
def k0_off159 (k0_t3 : Fin k0_t3_loop.trips) : Fin 4 → Nat :=
  let c0_823 : Index := 0#32
  let c0_i32_1 : BitVec 32 := 0#32
  let c1_i32 : BitVec 32 := 1#32
  let arg19 : BitVec 32 := Scf.iv c0_i32_1 c1_i32 k0_t3
  let v2401 : Index := Scalar.indexCast arg19
  let c0_824 : Index := 0#32
  ![0, v2401.toNat, 400, 0]
def k0_off160 (k0_t3 : Fin k0_t3_loop.trips) : Fin 4 → Nat :=
  let c0_837 : Index := 0#32
  let c0_i32_1 : BitVec 32 := 0#32
  let c1_i32 : BitVec 32 := 1#32
  let arg19 : BitVec 32 := Scf.iv c0_i32_1 c1_i32 k0_t3
  let v2428 : Index := Scalar.indexCast arg19
  let c0_838 : Index := 0#32
  ![0, v2428.toNat, 416, 0]
def k0_off161 (k0_t3 : Fin k0_t3_loop.trips) : Fin 4 → Nat :=
  let c0_851 : Index := 0#32
  let c0_i32_1 : BitVec 32 := 0#32
  let c1_i32 : BitVec 32 := 1#32
  let arg19 : BitVec 32 := Scf.iv c0_i32_1 c1_i32 k0_t3
  let v2455 : Index := Scalar.indexCast arg19
  let c0_852 : Index := 0#32
  ![0, v2455.toNat, 432, 0]
def k0_off162 (k0_t3 : Fin k0_t3_loop.trips) : Fin 4 → Nat :=
  let c0_865 : Index := 0#32
  let c0_i32_1 : BitVec 32 := 0#32
  let c1_i32 : BitVec 32 := 1#32
  let arg19 : BitVec 32 := Scf.iv c0_i32_1 c1_i32 k0_t3
  let v2482 : Index := Scalar.indexCast arg19
  let c0_866 : Index := 0#32
  ![0, v2482.toNat, 448, 0]
def k0_off163 (k0_t3 : Fin k0_t3_loop.trips) : Fin 4 → Nat :=
  let c0_879 : Index := 0#32
  let c0_i32_1 : BitVec 32 := 0#32
  let c1_i32 : BitVec 32 := 1#32
  let arg19 : BitVec 32 := Scf.iv c0_i32_1 c1_i32 k0_t3
  let v2509 : Index := Scalar.indexCast arg19
  let c0_880 : Index := 0#32
  ![0, v2509.toNat, 464, 0]
def k0_off164 (k0_t3 : Fin k0_t3_loop.trips) : Fin 4 → Nat :=
  let c0_893 : Index := 0#32
  let c0_i32_1 : BitVec 32 := 0#32
  let c1_i32 : BitVec 32 := 1#32
  let arg19 : BitVec 32 := Scf.iv c0_i32_1 c1_i32 k0_t3
  let v2536 : Index := Scalar.indexCast arg19
  let c0_894 : Index := 0#32
  ![0, v2536.toNat, 480, 0]
def k0_off165 (k0_t3 : Fin k0_t3_loop.trips) : Fin 4 → Nat :=
  let c0_907 : Index := 0#32
  let c0_i32_1 : BitVec 32 := 0#32
  let c1_i32 : BitVec 32 := 1#32
  let arg19 : BitVec 32 := Scf.iv c0_i32_1 c1_i32 k0_t3
  let v2563 : Index := Scalar.indexCast arg19
  let c0_908 : Index := 0#32
  ![0, v2563.toNat, 496, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x4x768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S36x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S36x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x4x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x4x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x64x256 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x4x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x4x256 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F]
-- ==== ReferenceIdeal.lean ====
abbrev S7x768x36x128 : Shape := ⟨4, ![7, 768, 36, 128]⟩
abbrev S7 : Shape := ⟨1, ![7]⟩
abbrev S36x128 : Shape := ⟨2, ![36, 128]⟩
abbrev S36x4 : Shape := ⟨2, ![36, 4]⟩
abbrev S_ : Shape := ⟨0, ![]⟩
abbrev S256 : Shape := ⟨1, ![256]⟩
abbrev S1x256 : Shape := ⟨2, ![1, 256]⟩
abbrev S7x1 : Shape := ⟨2, ![7, 1]⟩
abbrev S7x256 : Shape := ⟨2, ![7, 256]⟩
abbrev S7x1x1x256 : Shape := ⟨4, ![7, 1, 1, 256]⟩
abbrev S7x36x64x256 : Shape := ⟨4, ![7, 36, 64, 256]⟩
abbrev S512 : Shape := ⟨1, ![512]⟩
abbrev S1x512 : Shape := ⟨2, ![1, 512]⟩
abbrev S7x512 : Shape := ⟨2, ![7, 512]⟩
abbrev S7x512x1x1 : Shape := ⟨4, ![7, 512, 1, 1]⟩
abbrev S7x512x1 : Shape := ⟨3, ![7, 512, 1]⟩
abbrev S1 : Shape := ⟨1, ![1]⟩
abbrev S1x1x1 : Shape := ⟨3, ![1, 1, 1]⟩
abbrev S7x512x36x128 : Shape := ⟨4, ![7, 512, 36, 128]⟩
abbrev S7x36x512x128 : Shape := ⟨4, ![7, 36, 512, 128]⟩
abbrev S7x256x36x128 : Shape := ⟨4, ![7, 256, 36, 128]⟩
abbrev S1x1x36x128 : Shape := ⟨4, ![1, 1, 36, 128]⟩
abbrev S36x128x1 : Shape := ⟨3, ![36, 128, 1]⟩
abbrev S7x256x36x4x32 : Shape := ⟨5, ![7, 256, 36, 4, 32]⟩
abbrev S7x256x36x4 : Shape := ⟨4, ![7, 256, 36, 4]⟩
abbrev S1x1x36x4 : Shape := ⟨4, ![1, 1, 36, 4]⟩
abbrev S7x256x36x64x2 : Shape := ⟨5, ![7, 256, 36, 64, 2]⟩
abbrev S7x36x4x256 : Shape := ⟨4, ![7, 36, 4, 256]⟩
abbrev S7x256x36x64x1 : Shape := ⟨5, ![7, 256, 36, 64, 1]⟩
abbrev S7x256x36x64 : Shape := ⟨4, ![7, 256, 36, 64]⟩
abbrev S7x36x4x1x256 : Shape := ⟨5, ![7, 36, 4, 1, 256]⟩
abbrev S7x36x4x16x256 : Shape := ⟨5, ![7, 36, 4, 16, 256]⟩

abbrev nBuf : Space → Nat
  | .hbm => 208
  | .vmem => 19
  | .smem => 0
  | _ => 0

abbrev hbmTy0_0 (i : Nat) : BufTy := match i % 128 with
  | 0 => ⟨S7x768x36x128, .bf16⟩
  | 1 => ⟨S7x768x36x128, .bf16⟩
  | 2 => ⟨S7, .i32⟩
  | 3 => ⟨S36x128, .i32⟩
  | 4 => ⟨S36x128, .i32⟩
  | 5 => ⟨S36x4, .f32⟩
  | 6 => ⟨S36x4, .f32⟩
  | 7 => ⟨S_, .i32⟩
  | 8 => ⟨S7, .i32⟩
  | 9 => ⟨S7, .i32⟩
  | 10 => ⟨S256, .i32⟩
  | 11 => ⟨S1x256, .i32⟩
  | 12 => ⟨S7x1, .i32⟩
  | 13 => ⟨S7x256, .i32⟩
  | 14 => ⟨S7x256, .i32⟩
  | 15 => ⟨S7x256, .i1⟩
  | 16 => ⟨S7x256, .i32⟩
  | 17 => ⟨S7x1x1x256, .i32⟩
  | 18 => ⟨S7x36x64x256, .i32⟩
  | 19 => ⟨S7x1, .i32⟩
  | 20 => ⟨S512, .i32⟩
  | 21 => ⟨S1x512, .i32⟩
  | 22 => ⟨S7x512, .i32⟩
  | 23 => ⟨S7x512, .i32⟩
  | 24 => ⟨S7x512, .i32⟩
  | 25 => ⟨S7x512x1x1, .i32⟩
  | 26 => ⟨S_, .i32⟩
  | 27 => ⟨S7x512x1x1, .i32⟩
  | 28 => ⟨S7x512x1x1, .i1⟩
  | 29 => ⟨S_, .i32⟩
  | 30 => ⟨S7x512x1x1, .i32⟩
  | 31 => ⟨S7x512x1x1, .i32⟩
  | 32 => ⟨S7x512x1x1, .i32⟩
  | 33 => ⟨S7x512x1, .i32⟩
  | 34 => ⟨S1, .i32⟩
  | 35 => ⟨S_, .i32⟩
  | 36 => ⟨S7x512x1, .i32⟩
  | 37 => ⟨S7x512x1, .i1⟩
  | 38 => ⟨S1x1x1, .i32⟩
  | 39 => ⟨S7x512x1, .i32⟩
  | 40 => ⟨S7x512x1, .i1⟩
  | 41 => ⟨S7x512x1, .i1⟩
  | 42 => ⟨S_, .i1⟩
  | 43 => ⟨S7x512, .i1⟩
  | 44 => ⟨S7x512x36x128, .bf16⟩
  | 45 => ⟨S7x512x36x128, .i1⟩
  | 46 => ⟨S_, .bf16⟩
  | 47 => ⟨S7x512x36x128, .bf16⟩
  | 48 => ⟨S7x512x36x128, .bf16⟩
  | 49 => ⟨S7x36x512x128, .bf16⟩
  | 50 => ⟨S_, .i32⟩
  | 51 => ⟨S7x512x1x1, .i32⟩
  | 52 => ⟨S7x512x1x1, .i1⟩
  | 53 => ⟨S_, .i32⟩
  | 54 => ⟨S7x512x1x1, .i32⟩
  | 55 => ⟨S7x512x1x1, .i32⟩
  | 56 => ⟨S7x512x1x1, .i32⟩
  | 57 => ⟨S7x512x1, .i32⟩
  | 58 => ⟨S1, .i32⟩
  | 59 => ⟨S_, .i32⟩
  | 60 => ⟨S7x512x1, .i32⟩
  | 61 => ⟨S7x512x1, .i1⟩
  | 62 => ⟨S1x1x1, .i32⟩
  | 63 => ⟨S7x512x1, .i32⟩
  | 64 => ⟨S7x512x1, .i1⟩
  | 65 => ⟨S7x512x1, .i1⟩
  | 66 => ⟨S_, .i1⟩
  | 67 => ⟨S7x512, .i1⟩
  | 68 => ⟨S7x512x36x128, .bf16⟩
  | 69 => ⟨S7x512x36x128, .i1⟩
  | 70 => ⟨S_, .bf16⟩
  | 71 => ⟨S7x512x36x128, .bf16⟩
  | 72 => ⟨S7x512x36x128, .bf16⟩
  | 73 => ⟨S7x36x512x128, .bf16⟩
  | 74 => ⟨S7x256x36x128, .bf16⟩
  | 75 => ⟨S1x1x36x128, .i32⟩
  | 76 => ⟨S_, .i32⟩
  | 77 => ⟨S1x1x36x128, .i32⟩
  | 78 => ⟨S1x1x36x128, .i1⟩
  | 79 => ⟨S_, .i32⟩
  | 80 => ⟨S1x1x36x128, .i32⟩
  | 81 => ⟨S1x1x36x128, .i32⟩
  | 82 => ⟨S1x1x36x128, .i32⟩
  | 83 => ⟨S36x128x1, .i32⟩
  | 84 => ⟨S1, .i32⟩
  | 85 => ⟨S_, .i32⟩
  | 86 => ⟨S36x128x1, .i32⟩
  | 87 => ⟨S36x128x1, .i1⟩
  | 88 => ⟨S1x1x1, .i32⟩
  | 89 => ⟨S36x128x1, .i32⟩
  | 90 => ⟨S36x128x1, .i1⟩
  | 91 => ⟨S36x128x1, .i1⟩
  | 92 => ⟨S_, .i1⟩
  | 93 => ⟨S36x128, .i1⟩
  | 94 => ⟨S7x256x36x128, .bf16⟩
  | 95 => ⟨S7x256x36x128, .i1⟩
  | 96 => ⟨S_, .bf16⟩
  | 97 => ⟨S7x256x36x128, .bf16⟩
  | 98 => ⟨S7x256x36x128, .bf16⟩
  | 99 => ⟨S7x256x36x128, .f32⟩
  | 100 => ⟨S7x256x36x4x32, .f32⟩
  | 101 => ⟨S_, .f32⟩
  | 102 => ⟨S7x256x36x4, .f32⟩
  | 103 => ⟨S1x1x36x4, .f32⟩
  | 104 => ⟨S7x256x36x4, .f32⟩
  | 105 => ⟨S7x256x36x4, .f32⟩
  | 106 => ⟨S_, .f32⟩
  | 107 => ⟨S7x256x36x4, .f32⟩
  | 108 => ⟨S1x1x36x4, .f32⟩
  | 109 => ⟨S7x256x36x4, .f32⟩
  | 110 => ⟨S7x256x36x4, .f32⟩
  | 111 => ⟨S7x256x36x4, .f32⟩
  | 112 => ⟨S_, .f32⟩
  | 113 => ⟨S7x256x36x4, .f32⟩
  | 114 => ⟨S7x256x36x4, .i1⟩
  | 115 => ⟨S_, .f32⟩
  | 116 => ⟨S7x256x36x4, .f32⟩
  | 117 => ⟨S7x256x36x4, .f32⟩
  | 118 => ⟨S_, .f32⟩
  | 119 => ⟨S_, .f32⟩
  | 120 => ⟨S7x256x36x4, .f32⟩
  | 121 => ⟨S7x256x36x4, .f32⟩
  | 122 => ⟨S7x256x36x128, .f32⟩
  | 123 => ⟨S7x256x36x64x2, .f32⟩
  | 124 => ⟨S7x36x4x256, .f32⟩
  | 125 => ⟨S7x36x4x256, .f32⟩
  | 126 => ⟨S7x256x36x64x1, .f32⟩
  | 127 => ⟨S7x256x36x64, .f32⟩
  | _ => ⟨S7x768x36x128, .bf16⟩

abbrev hbmTy0_1 (i : Nat) : BufTy := match i % 128 with
  | 0 => ⟨S7x36x64x256, .f32⟩
  | 1 => ⟨S7x256x36x64x1, .f32⟩
  | 2 => ⟨S7x256x36x64, .f32⟩
  | 3 => ⟨S7x36x64x256, .f32⟩
  | 4 => ⟨S7x36x4x1x256, .f32⟩
  | 5 => ⟨S7x36x4x16x256, .f32⟩
  | 6 => ⟨S7x36x64x256, .f32⟩
  | 7 => ⟨S7x36x4x1x256, .f32⟩
  | 8 => ⟨S7x36x4x16x256, .f32⟩
  | 9 => ⟨S7x36x64x256, .f32⟩
  | 10 => ⟨S7x256x36x128, .bf16⟩
  | 11 => ⟨S1x1x36x128, .i32⟩
  | 12 => ⟨S_, .i32⟩
  | 13 => ⟨S1x1x36x128, .i32⟩
  | 14 => ⟨S1x1x36x128, .i1⟩
  | 15 => ⟨S_, .i32⟩
  | 16 => ⟨S1x1x36x128, .i32⟩
  | 17 => ⟨S1x1x36x128, .i32⟩
  | 18 => ⟨S1x1x36x128, .i32⟩
  | 19 => ⟨S36x128x1, .i32⟩
  | 20 => ⟨S1, .i32⟩
  | 21 => ⟨S_, .i32⟩
  | 22 => ⟨S36x128x1, .i32⟩
  | 23 => ⟨S36x128x1, .i1⟩
  | 24 => ⟨S1x1x1, .i32⟩
  | 25 => ⟨S36x128x1, .i32⟩
  | 26 => ⟨S36x128x1, .i1⟩
  | 27 => ⟨S36x128x1, .i1⟩
  | 28 => ⟨S_, .i1⟩
  | 29 => ⟨S36x128, .i1⟩
  | 30 => ⟨S7x256x36x128, .bf16⟩
  | 31 => ⟨S7x256x36x128, .i1⟩
  | 32 => ⟨S_, .bf16⟩
  | 33 => ⟨S7x256x36x128, .bf16⟩
  | 34 => ⟨S7x256x36x128, .bf16⟩
  | 35 => ⟨S7x256x36x128, .f32⟩
  | 36 => ⟨S7x256x36x4x32, .f32⟩
  | 37 => ⟨S_, .f32⟩
  | 38 => ⟨S7x256x36x4, .f32⟩
  | 39 => ⟨S1x1x36x4, .f32⟩
  | 40 => ⟨S7x256x36x4, .f32⟩
  | 41 => ⟨S7x256x36x4, .f32⟩
  | 42 => ⟨S_, .f32⟩
  | 43 => ⟨S7x256x36x4, .f32⟩
  | 44 => ⟨S1x1x36x4, .f32⟩
  | 45 => ⟨S7x256x36x4, .f32⟩
  | 46 => ⟨S7x256x36x4, .f32⟩
  | 47 => ⟨S7x256x36x4, .f32⟩
  | 48 => ⟨S_, .f32⟩
  | 49 => ⟨S7x256x36x4, .f32⟩
  | 50 => ⟨S7x256x36x4, .i1⟩
  | 51 => ⟨S_, .f32⟩
  | 52 => ⟨S7x256x36x4, .f32⟩
  | 53 => ⟨S7x256x36x4, .f32⟩
  | 54 => ⟨S_, .f32⟩
  | 55 => ⟨S_, .f32⟩
  | 56 => ⟨S7x256x36x4, .f32⟩
  | 57 => ⟨S7x256x36x4, .f32⟩
  | 58 => ⟨S7x256x36x128, .f32⟩
  | 59 => ⟨S7x256x36x64x2, .f32⟩
  | 60 => ⟨S7x36x4x256, .f32⟩
  | 61 => ⟨S7x36x4x256, .f32⟩
  | 62 => ⟨S7x256x36x64x1, .f32⟩
  | 63 => ⟨S7x256x36x64, .f32⟩
  | 64 => ⟨S7x36x64x256, .f32⟩
  | 65 => ⟨S7x256x36x64x1, .f32⟩
  | 66 => ⟨S7x256x36x64, .f32⟩
  | 67 => ⟨S7x36x64x256, .f32⟩
  | 68 => ⟨S7x36x4x1x256, .f32⟩
  | 69 => ⟨S7x36x4x16x256, .f32⟩
  | 70 => ⟨S7x36x64x256, .f32⟩
  | 71 => ⟨S7x36x4x1x256, .f32⟩
  | 72 => ⟨S7x36x4x16x256, .f32⟩
  | 73 => ⟨S7x36x64x256, .f32⟩
  | 74 => ⟨S7x36x64x256, .i8⟩
  | 75 => ⟨S7x36x4x256, .fp8e4m3⟩
  | 76 => ⟨S7x36x4x256, .fp8e4m3⟩
  | 77 => ⟨S7x36x64x256, .i8⟩
  | 78 => ⟨S7x36x4x256, .fp8e4m3⟩
  | 79 => ⟨S7x36x4x256, .fp8e4m3⟩
  | _ => ⟨S7x768x36x128, .bf16⟩

abbrev hbmTy (i : Nat) : BufTy := match i / 128 with
  | 0 => hbmTy0_0 i
  | 1 => hbmTy0_1 i
  | _ => ⟨S7x768x36x128, .bf16⟩

abbrev bufTy : (tb : Table) → Fin (tcTables nBuf tb) → BufTy
  | .hbm, ⟨i, _⟩ => hbmTy i
  | .local _ .vmem, ⟨0, _⟩ => ⟨S7x36x64x256, .f32⟩
  | .local _ .vmem, ⟨1, _⟩ => ⟨S7x36x64x256, .f32⟩
  | .local _ .vmem, ⟨2, _⟩ => ⟨S7x36x4x256, .f32⟩
  | .local _ .vmem, ⟨3, _⟩ => ⟨S7x36x4x256, .f32⟩
  | .local _ .vmem, ⟨4, _⟩ => ⟨S7x36x64x256, .f32⟩
  | .local _ .vmem, ⟨5, _⟩ => ⟨S7x36x64x256, .f32⟩
  | .local _ .vmem, ⟨6, _⟩ => ⟨S7x36x64x256, .f32⟩
  | .local _ .vmem, ⟨7, _⟩ => ⟨S7x36x64x256, .f32⟩
  | .local _ .vmem, ⟨8, _⟩ => ⟨S7x36x4x256, .f32⟩
  | .local _ .vmem, ⟨9, _⟩ => ⟨S7x36x4x256, .f32⟩
  | .local _ .vmem, ⟨10, _⟩ => ⟨S7x36x64x256, .f32⟩
  | .local _ .vmem, ⟨11, _⟩ => ⟨S7x36x64x256, .f32⟩
  | .local _ .vmem, ⟨12, _⟩ => ⟨S7x36x64x256, .i32⟩
  | .local _ .vmem, ⟨13, _⟩ => ⟨S7x36x64x256, .i8⟩
  | .local _ .vmem, ⟨14, _⟩ => ⟨S7x36x4x256, .fp8e4m3⟩
  | .local _ .vmem, ⟨15, _⟩ => ⟨S7x36x4x256, .fp8e4m3⟩
  | .local _ .vmem, ⟨16, _⟩ => ⟨S7x36x64x256, .i8⟩
  | .local _ .vmem, ⟨17, _⟩ => ⟨S7x36x4x256, .fp8e4m3⟩
  | .local _ .vmem, ⟨18, _⟩ => ⟨S7x36x4x256, .fp8e4m3⟩
  | _, _ => ⟨S7x768x36x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_cst : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_cst_0 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_cst_1 : Ref sig .tc := ⟨.hbm, 112, rfl⟩
abbrev main_v36 : Ref sig .tc := ⟨.hbm, 113, rfl⟩
abbrev main_v37 : Ref sig .tc := ⟨.hbm, 114, rfl⟩
abbrev main_cst_2 : Ref sig .tc := ⟨.hbm, 115, rfl⟩
abbrev main_v38 : Ref sig .tc := ⟨.hbm, 116, rfl⟩
abbrev main_v39 : Ref sig .tc := ⟨.hbm, 117, rfl⟩
abbrev main_cst_3 : Ref sig .tc := ⟨.hbm, 118, rfl⟩
abbrev main_call3_v0 : Ref sig .tc := ⟨.hbm, 119, rfl⟩
abbrev main_call3_v1 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_c_1 : Ref sig .tc := ⟨.hbm, 148, rfl⟩
abbrev main_call4_c_2 : Ref sig .tc := ⟨.hbm, 149, rfl⟩
abbrev main_call4_v6 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_3 : Ref sig .tc := ⟨.hbm, 156, rfl⟩
abbrev main_call4_v12 : Ref sig .tc := ⟨.hbm, 157, rfl⟩
abbrev main_call4_v13 : Ref sig .tc := ⟨.hbm, 158, rfl⟩
abbrev main_call4_v14 : Ref sig .tc := ⟨.hbm, 159, rfl⟩
abbrev main_call4_cst : Ref sig .tc := ⟨.hbm, 160, rfl⟩
abbrev main_call4_v15 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_cst_4 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_cst_5 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_cst_6 : Ref sig .tc := ⟨.hbm, 176, rfl⟩
abbrev main_v71 : Ref sig .tc := ⟨.hbm, 177, rfl⟩
abbrev main_v72 : Ref sig .tc := ⟨.hbm, 178, rfl⟩
abbrev main_cst_7 : Ref sig .tc := ⟨.hbm, 179, rfl⟩
abbrev main_v73 : Ref sig .tc := ⟨.hbm, 180, rfl⟩
abbrev main_v74 : Ref sig .tc := ⟨.hbm, 181, rfl⟩
abbrev main_cst_8 : Ref sig .tc := ⟨.hbm, 182, rfl⟩
abbrev main_call5_v0 : Ref sig .tc := ⟨.hbm, 183, rfl⟩
abbrev main_call5_v1 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92_0 : Ref sig .tc := ⟨.hbm, 202, rfl⟩
abbrev main_v92_1 : Ref sig .tc := ⟨.hbm, 203, rfl⟩
abbrev main_v92_2 : Ref sig .tc := ⟨.hbm, 204, rfl⟩
abbrev main_v92_3 : Ref sig .tc := ⟨.hbm, 205, rfl⟩
abbrev main_v92_4 : Ref sig .tc := ⟨.hbm, 206, rfl⟩
abbrev main_v92_5 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S7x36x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x36x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x36x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x36x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x36x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x36x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x36x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x36x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x36x4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x36x4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x36x64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7x36x64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7x36x64x256 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7x36x64x256 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7x36x4x256 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S7x36x4x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S7x36x64x256 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S7x36x4x256 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S7x36x4x256 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.WordFacts.lean ====
module

public import Idealize.ShloMosaic.Lib.Scf
public import Idealize.ShloMosaic.PureOps

@[expose] public section

namespace Cert.Proof

open Idealize.ShloMosaic

/-- A sequence length in `512 .. 768`, past the first 512 tokens and halved. -/
theorem half_toNat (v : BitVec 32) (h1 : 512 ≤ v.toNat) (h2 : v.toNat ≤ 768) :
    (Scalar.shrsi (Scalar.subi v 512#32) 1#32).toNat = (v.toNat - 512) / 2 := by
  have hs : (v - 512#32).toNat = v.toNat - 512 := by
    rw [BitVec.toNat_sub]; simp only [BitVec.toNat_ofNat]; omega
  have hm : (v - 512#32).msb = false := by
    rw [BitVec.msb_eq_false_iff_two_mul_lt, hs]; omega
  unfold Scalar.shrsi IntOp.shrsi Scalar.subi IntOp.subi
  rw [if_pos (by decide), BitVec.sshiftRight', BitVec.sshiftRight_eq_of_msb_false hm, BitVec.toNat_ushiftRight, hs]
  rfl

/-- The chunk `r` of a window: its row in pairs. -/
theorem half_add_toNat (v : BitVec 32) (h1 : 512 ≤ v.toNat) (h2 : v.toNat ≤ 768) (r : Fin 32) :
    (Scalar.addi (Scalar.shrsi (Scalar.subi v 512#32) 1#32) (BitVec.ofNat 32 (8 * r.val))).toNat = (v.toNat - 512) / 2 + 8 * r.val := by
  unfold Scalar.addi IntOp.addi
  have hr := r.isLt
  rw [BitVec.toNat_add, half_toNat v h1 h2, BitVec.toNat_ofNat]; omega

/-- The same, one pair further. -/
theorem half_add_one_toNat (v : BitVec 32) (h1 : 512 ≤ v.toNat) (h2 : v.toNat ≤ 768) (r : Fin 32) :
    (Scalar.addi (Scalar.addi (Scalar.shrsi (Scalar.subi v 512#32) 1#32) (BitVec.ofNat 32 (8 * r.val))) 1#32).toNat = (v.toNat - 512) / 2 + 8 * r.val + 1 := by
  have h := half_add_toNat v h1 h2 r
  have hr := r.isLt
  unfold Scalar.addi IntOp.addi at h ⊢
  rw [BitVec.toNat_add, h]; simp only [BitVec.toNat_ofNat]; omega

/-- A loop counter from 0 by 1. -/
theorem iv_toNat (k : Nat) (hk : k < 4) : (Scf.iv (0#32) (1#32) k).toNat = k := by
  unfold Scf.iv
  simp only [BitVec.mul_one, BitVec.zero_add, BitVec.toNat_ofNat]; omega

/-- A signed word between 512 and 768, as a number. -/
theorem toNat_of_toInt (v : BitVec 32) (h1 : 512 ≤ v.toInt) (h2 : v.toInt ≤ 768) : 512 ≤ v.toNat ∧ v.toNat ≤ 768 := by
  have := BitVec.toInt_eq_toNat_cond v
  split at this <;> omega

end Cert.Proof

end
-- ==== Proof.KernelTripE.lean ====
module

public import proofs.«01_k».proof.Proof.Gen.Kernel.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)

/-- What one head's trip holds: the inputs and tables it reads, and the results it writes. -/
abbrev TripRes (X3 : BufTy.Contents (Elt F) arg3.view.ty) (X4 : BufTy.Contents (Elt F) arg4.view.ty) (X17 : BufTy.Contents (Elt F) arg17.view.ty) (X18 : BufTy.Contents (Elt F) arg18.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg3.view.loc (c : Thread nD τ) ↦[arg3.view.set]{fullShare} X3) ∗ (arg4.view.loc (c : Thread nD τ) ↦[arg4.view.set]{fullShare} X4) ∗ (arg17.view.loc (c : Thread nD τ) ↦[arg17.view.set]{fullShare} X17) ∗ (arg18.view.loc (c : Thread nD τ) ↦[arg18.view.set]{fullShare} X18) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

/-- One head's trip, window length even: the pieces it writes into each result. -/
@[irreducible] def tripE (v1 : Elt F .i32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    (X3 : BufTy.Contents (Elt F) arg3.view.ty) (X4 : BufTy.Contents (Elt F) arg4.view.ty) (X17 : BufTy.Contents (Elt F) arg17.view.ty) (X18 : BufTy.Contents (Elt F) arg18.view.ty) (k : Fin k0_t3_loop.trips) :
    Σ' (L9 : List (View.Piece (Elt F) S1x4x512x128 .bf16)) (L10 : List (View.Piece (Elt F) S1x4x512x128 .bf16)) (L11 : List (View.Piece (Elt F) S1x4x64x256 .i8)) (L12 : List (View.Piece (Elt F) S1x4x4x256 .fp8e4m3)) (L13 : List (View.Piece (Elt F) S1x4x4x256 .fp8e4m3)) (L14 : List (View.Piece (Elt F) S1x4x64x256 .i8)) (L15 : List (View.Piece (Elt F) S1x4x4x256 .fp8e4m3)), { L16 : List (View.Piece (Elt F) S1x4x4x256 .fp8e4m3) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      TripRes (F := F) c arg3 arg4 arg9 arg10 arg11 arg12 arg13 arg14 arg15 arg16 arg17 arg18 X3 X4 X17 X18 f9 f10 f11 f12 f13 f14 f15 f16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X3 X4 X17 X18 (arg9.view.writes (Elt F) f9 L9) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  have hk : k.val < 4 := Nat.lt_of_lt_of_le k.isLt k0_t3_abs.2.1
  refine ⟨?_, ?_, ?_, ?_, ?_, ?_, ?_, ?_, fun E f9 f10 f11 f12 f13 f14 f15 f16 => ?run⟩
  case run =>
    unfold k0_t3_body
    iintro ⟨HR_arg3, HR_arg4, HR_arg17, HR_arg18, HW_arg9, HW_arg10, HW_arg11, HW_arg12, HW_arg13, HW_arg14, HW_arg15, HW_arg16⟩
    sl_exec
    sl_step
    sl_close

end Cert.Proof.Kernel

end
-- ==== Proof.KernelTripO.lean ====
module

public import proofs.«01_k».proof.Proof.Gen.Kernel.Skeleton
public import Idealize.ShloMosaic.Lib.Exec
public import Idealize.ShloMosaic.Lib.Tactic
public import Idealize.ShloMosaic.Lib.Pipeline.Kit
public import proofs.«01_k».proof.Proof.KernelTripE

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)

/-- One head's trip, window length odd: the pieces it writes into each result. -/
@[irreducible] def tripO (v1 : Elt F .i32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    (X3 : BufTy.Contents (Elt F) arg3.view.ty) (X4 : BufTy.Contents (Elt F) arg4.view.ty) (X17 : BufTy.Contents (Elt F) arg17.view.ty) (X18 : BufTy.Contents (Elt F) arg18.view.ty) (k : Fin k0_t3_loop.trips) :
    Σ' (L9 : List (View.Piece (Elt F) S1x4x512x128 .bf16)) (L10 : List (View.Piece (Elt F) S1x4x512x128 .bf16)) (L11 : List (View.Piece (Elt F) S1x4x64x256 .i8)) (L12 : List (View.Piece (Elt F) S1x4x4x256 .fp8e4m3)) (L13 : List (View.Piece (Elt F) S1x4x4x256 .fp8e4m3)) (L14 : List (View.Piece (Elt F) S1x4x64x256 .i8)) (L15 : List (View.Piece (Elt F) S1x4x4x256 .fp8e4m3)), { L16 : List (View.Piece (Elt F) S1x4x4x256 .fp8e4m3) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      TripRes (F := F) c arg3 arg4 arg9 arg10 arg11 arg12 arg13 arg14 arg15 arg16 arg17 arg18 X3 X4 X17 X18 f9 f10 f11 f12 f13 f14 f15 f16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X3 X4 X17 X18 (arg9.view.writes (Elt F) f9 L9) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  have hk : k.val < 4 := Nat.lt_of_lt_of_le k.isLt k0_t3_abs.2.1
  refine ⟨?_, ?_, ?_, ?_, ?_, ?_, ?_, ?_, fun E f9 f10 f11 f12 f13 f14 f15 f16 => ?run⟩
  case run =>
    unfold k0_t3_body
    iintro ⟨HR_arg3, HR_arg4, HR_arg17, HR_arg18, HW_arg9, HW_arg10, HW_arg11, HW_arg12, HW_arg13, HW_arg14, HW_arg15, HW_arg16⟩
    sl_exec
    sl_step
    sl_close

end Cert.Proof.Kernel

end
-- ==== Proof.KernelLoop.lean ====
module

public import proofs.«01_k».proof.Proof.Gen.Kernel.Skeleton
public import Idealize.ShloMosaic.Lib.Exec
public import Idealize.ShloMosaic.Lib.Tactic
public import Idealize.ShloMosaic.Lib.Pipeline.Kit
public import proofs.«01_k».proof.Proof.Gen.Kernel.Loops
public import proofs.«01_k».proof.Proof.KernelTripO

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the generated instances: the frame kit's (Gen/<Name>/Frame.lean). -/
local notation "𝕄G" => MT nD τ sig Unit (Elt F) ℕ (UR sig nD τ) ℕ

/-- The last bit of a word is 0 or 1. -/
theorem parity (v1 : BitVec 32) : Scalar.andi (Scalar.subi v1 512#32) 1#32 = 0#32 ∨ Scalar.andi (Scalar.subi v1 512#32) 1#32 = 1#32 := by
  unfold Scalar.andi IntOp.andi
  rw [BitVec.and_one_eq_setWidth_ofBool_getLsbD]
  cases (Scalar.subi v1 512#32).getLsbD 0
  · left; decide
  · right; decide
/-- The window length is even or odd: exactly one of the two branch conditions holds. -/
theorem cond3_even {v1 : BitVec 32} (h : k0_cond2 v1 = 1#1) : k0_cond3 v1 ≠ 1#1 := by
  rcases parity v1 with e | e
  · simp only [k0_cond3, e]; decide
  · simp only [k0_cond2, e] at h; exact absurd h (by decide)
theorem cond3_odd {v1 : BitVec 32} (h : ¬ k0_cond2 v1 = 1#1) : k0_cond3 v1 = 1#1 := by
  rcases parity v1 with e | e
  · simp only [k0_cond2, e] at h; exact absurd (by decide) h
  · simp only [k0_cond3, e]; decide

/-- The pieces one trip writes, the two window parities together. -/
abbrev tripL_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3) :=
  if h : k0_cond2 v1 = 1#1 then ((tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.2.val)
  else ((tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.2.1)

/-- One trip, whichever the parity: it runs to its pieces written over what was there. -/
theorem tripL_spec (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) :
    TripRes (F := F) c arg3 arg4 arg9 arg10 arg11 arg12 arg13 arg14 arg15 arg16 arg17 arg18 X_arg3 X_arg4 X_arg17 X_arg18 f_arg9 f_arg10 f_arg11 f_arg12 f_arg13 f_arg14 f_arg15 f_arg16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X_arg3 X_arg4 X_arg17 X_arg18 (arg9.view.writes (Elt F) f_arg9 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1) (arg10.view.writes (Elt F) f_arg10 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1) (arg11.view.writes (Elt F) f_arg11 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1) (arg12.view.writes (Elt F) f_arg12 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1) (arg13.view.writes (Elt F) f_arg13 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1) (arg14.view.writes (Elt F) f_arg14 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1) (arg15.view.writes (Elt F) f_arg15 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1) (arg16.view.writes (Elt F) f_arg16 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2)) := by
  by_cases h : k0_cond2 v1 = 1#1
  · simp only [tripL_k0_t3, dif_pos h]
    exact (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.2.property E f_arg9 f_arg10 f_arg11 f_arg12 f_arg13 f_arg14 f_arg15 f_arg16
  · simp only [tripL_k0_t3, dif_neg h]
    exact (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.2.property E f_arg9 f_arg10 f_arg11 f_arg12 f_arg13 f_arg14 f_arg15 f_arg16

/-- Trip `k`'s contribution to the state the recursion `pb_k0_t3` below carries (`prev`): its pieces
   in front, per written memref; past the last trip, `prev` itself. -/
@[irreducible] def pb_k0_t3Step (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : ℕ) (prev : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3)) : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3) :=
  if h : k < k0_t3_loop.trips then
    ((tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).1 ++ prev.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.1 ++ prev.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.1 ++ prev.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.1 ++ prev.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.1 ++ prev.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.1 ++ prev.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.2.1 ++ prev.2.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.2.2 ++ prev.2.2.2.2.2.2.2)
  else prev

/-- The pieces of the trips before `k` (last first), per written memref. -/
def pb_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) : ℕ → List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3)
  | 0 => ([], [], [], [], [], [], [], [])
  | k + 1 => pb_k0_t3Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k)

theorem pb_k0_t3_succ (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) :
    pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 (k.val + 1)
      = ((tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.2.2) := by
  rw [pb_k0_t3.eq_2]; unfold pb_k0_t3Step; exact dif_pos k.isLt

/-- THE INVARIANT before trip `k`: arg3, arg4, arg17, arg18 read at `X_·`; arg9, arg10, arg11,
   arg12, arg13, arg14, arg15, arg16 holding the pieces of the trips before `k` written over the
   contents at loop entry `G_·` (stated `∃ f, … ∗ ⌜f = …⌝`, so that a hypothesis of any contents
   matches and the equation is what is proved). -/
abbrev inv_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (arg17.view.loc (c : Thread nD τ) ↦[arg17.view.set]{fullShare} X_arg17) ∗ (arg18.view.loc (c : Thread nD τ) ↦[arg18.view.set]{fullShare} X_arg18) ∗ (∃ f, (arg9.view.loc (c : Thread nD τ) ↦[arg9.view.set]{fullShare} f) ∗ ⌜f = arg9.view.writes (Elt F) G_arg9 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1⌝) ∗ (∃ f, (arg10.view.loc (c : Thread nD τ) ↦[arg10.view.set]{fullShare} f) ∗ ⌜f = arg10.view.writes (Elt F) G_arg10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1⌝) ∗ (∃ f, (arg11.view.loc (c : Thread nD τ) ↦[arg11.view.set]{fullShare} f) ∗ ⌜f = arg11.view.writes (Elt F) G_arg11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1⌝) ∗ (∃ f, (arg12.view.loc (c : Thread nD τ) ↦[arg12.view.set]{fullShare} f) ∗ ⌜f = arg12.view.writes (Elt F) G_arg12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1⌝) ∗ (∃ f, (arg13.view.loc (c : Thread nD τ) ↦[arg13.view.set]{fullShare} f) ∗ ⌜f = arg13.view.writes (Elt F) G_arg13 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1⌝) ∗ (∃ f, (arg14.view.loc (c : Thread nD τ) ↦[arg14.view.set]{fullShare} f) ∗ ⌜f = arg14.view.writes (Elt F) G_arg14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1⌝) ∗ (∃ f, (arg15.view.loc (c : Thread nD τ) ↦[arg15.view.set]{fullShare} f) ∗ ⌜f = arg15.view.writes (Elt F) G_arg15 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1⌝) ∗ (∃ f, (arg16.view.loc (c : Thread nD τ) ↦[arg16.view.set]{fullShare} f) ∗ ⌜f = arg16.view.writes (Elt F) G_arg16 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 where
  inv := inv_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 G_arg9 G_arg10 G_arg11 G_arg12 G_arg13 G_arg14 G_arg15 G_arg16
  step k acc := by
    iintro ⟨HR_arg3, HR_arg4, HR_arg17, HR_arg18, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg3 HR_arg4 HR_arg17 HR_arg18 HW_arg9 HW_arg10 HW_arg11 HW_arg12 HW_arg13 HW_arg14 HW_arg15 HW_arg16]
    · iapply (tripL_spec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k E f_arg9 f_arg10 f_arg11 f_arg12 f_arg13 f_arg14 f_arg15 f_arg16)
      isplitl [HR_arg3]; · iexact HR_arg3
      isplitl [HR_arg4]; · iexact HR_arg4
      isplitl [HR_arg17]; · iexact HR_arg17
      isplitl [HR_arg18]; · iexact HR_arg18
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      isplitl [HW_arg14]; · iexact HW_arg14
      isplitl [HW_arg15]; · iexact HW_arg15
      iexact HW_arg16
    · iintro %_ ⟨HR_arg3, HR_arg4, HR_arg17, HR_arg18, HW_arg9, HW_arg10, HW_arg11, HW_arg12, HW_arg13, HW_arg14, HW_arg15, HW_arg16⟩
      isplitl [HR_arg3]; · iexact HR_arg3
      isplitl [HR_arg4]; · iexact HR_arg4
      isplitl [HR_arg17]; · iexact HR_arg17
      isplitl [HR_arg18]; · iexact HR_arg18
      rw [pb_k0_t3_succ]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      isplitl [HW_arg15]
      · iexists _; isplitl [HW_arg15]; · iexact HW_arg15
        ipureintro; rw [h_arg15, ← View.writes_append]
      iexists _; isplitl [HW_arg16]; · iexact HW_arg16
      ipureintro; rw [h_arg16, ← View.writes_append]

end Cert.Proof.Kernel

end
-- ==== Proof.KernelPoints.lean ====
module

public import proofs.«01_k».proof.Proof.Gen.Kernel
public import Idealize.ShloMosaic.Lib.Pipeline.Kit

@[expose] public section

noncomputable section

namespace Cert.Proof.Kernel

open Cert.Kernel Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 63 = 0 :=
  (fun t => Pipeline.Window.fetchOf_const cc0_transform_2 (fun _ _ => rfl) (n := 63) (by decide) t : ∀ t : Fin grid0.N, Pipeline.Window.fetchOf grid0 false cc0_transform_2 t = true ↔ t.val % 63 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 63 = 0 :=
  (fun t => Pipeline.Window.fetchOf_const cc0_transform_3 (fun _ _ => rfl) (n := 63) (by decide) t : ∀ t : Fin grid0.N, Pipeline.Window.fetchOf grid0 false cc0_transform_3 t = true ↔ t.val % 63 = 0)
/-- Window 4 (operand 5 (%2)) is fetched at the first point only, at any contents of the tables (its index map reads none). -/
theorem fetch0_4 (a : (pcfg0 (F := F)).Adm) : ∀ t : Fin (cfg0 a).N, ((cfg0 a).win 4).fetch t = true ↔ t.val % 63 = 0 :=
  (fun t => Pipeline.Window.fetchOf_const cc0_transform_4 (fun _ _ => rfl) (n := 63) (by decide) t : ∀ t : Fin grid0.N, Pipeline.Window.fetchOf grid0 false cc0_transform_4 t = true ↔ t.val % 63 = 0)
/-- Window 5 (operand 6 (%3)) is fetched at the first point only, at any contents of the tables (its index map reads none). -/
theorem fetch0_5 (a : (pcfg0 (F := F)).Adm) : ∀ t : Fin (cfg0 a).N, ((cfg0 a).win 5).fetch t = true ↔ t.val % 63 = 0 :=
  (fun t => Pipeline.Window.fetchOf_const cc0_transform_5 (fun _ _ => rfl) (n := 63) (by decide) t : ∀ t : Fin grid0.N, Pipeline.Window.fetchOf grid0 false cc0_transform_5 t = true ↔ t.val % 63 = 0)
/-- Window 6 (result 0 (%4#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)
/-- Window 7 (result 1 (%4#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)
/-- Window 8 (result 2 (%4#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)
/-- Window 9 (result 3 (%4#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 0 (fun _ => rfl) (by decide)) (P := 1) (m := 0) (by decide) rfl t).mpr (Nat.mod_one _) : ∀ t : Fin grid0.N, Pipeline.Window.flushOf grid0 true cc0_transform_9 t = true)
/-- Window 10 (result 4 (%4#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 0 (fun _ => rfl) (by decide)) (P := 1) (m := 0) (by decide) rfl t).mpr (Nat.mod_one _) : ∀ t : Fin grid0.N, Pipeline.Window.flushOf grid0 true cc0_transform_10 t = true)
/-- Window 11 (result 5 (%4#5)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 0 (fun _ => rfl) (by decide)) (P := 1) (m := 0) (by decide) rfl t).mpr (Nat.mod_one _) : ∀ t : Fin grid0.N, Pipeline.Window.flushOf grid0 true cc0_transform_11 t = true)
/-- Window 12 (result 6 (%4#6)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 0 (fun _ => rfl) (by decide)) (P := 1) (m := 0) (by decide) rfl t).mpr (Nat.mod_one _) : ∀ t : Fin grid0.N, Pipeline.Window.flushOf grid0 true cc0_transform_12 t = true)
/-- Window 13 (result 7 (%4#7)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 0 (fun _ => rfl) (by decide)) (P := 1) (m := 0) (by decide) rfl t).mpr (Nat.mod_one _) : ∀ t : Fin grid0.N, Pipeline.Window.flushOf grid0 true cc0_transform_13 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_skvq_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _)

end Cert.Proof.Kernel

end
-- ==== Proof.KernelRuns.lean ====
module

public import proofs.«01_k».proof.Proof.Gen.Kernel.Launch
public import proofs.«01_k».proof.Proof.Gen.Kernel.Skeleton
public import proofs.«01_k».proof.Proof.KernelLoop
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 7) — by arithmetic of the point. -/
theorem hcond0_0 : ∀ t : Fin grid0.N, cond0_0 (grid0.coords t) ↔ t.val % 7 = 0 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x768x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x768x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S36x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S36x128 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x36 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x36 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4x512x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x512x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4x64x256 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x4x256 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x4x4x256 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x4x64x256 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x4x4x256 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x4x4x256 .fp8e4m3 := spec0_13.stage ((cfgM m hO).slots t 13)
abbrev hs0_13 (hO : Ok m) (t : Fin (cfgM m hO).N) : (ms0_13 m hO t).IsWhole := hstage0_13 (((cfgM m hO).slots t 13).cast nbuf0_13)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S2x4x128x128 .bf16 := Memref.whole cc0_scratch0
abbrev scM0_1 : Memref sig .tc .vmem S2x4x8x128 .f32 := Memref.whole cc0_scratch1
/-- The scratch `arg17` the kernel carries between points, as a view: what it holds is stated through it. -/
abbrev VS0_0 : View sig .tc .vmem S2x4x128x128 .bf16 := scM0_0.view
/-- The scratch `arg18` the kernel carries between points, as a view: what it holds is stated through it. -/
abbrev VS0_1 : View sig .tc .vmem S2x4x8x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.Kernel

end
-- ==== Proof.KernelRunA.lean ====
module

public import proofs.«01_k».proof.Proof.KernelRuns

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 7, … 56: 9 of 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10, 11, 12, 13) at anything, handed back at some contents nothing names. -/
noncomputable def kernelRun0_A (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (k0_hw1 : k0_chk1 (tbM0_0.view.readAt (Elt F) (Rect.unit (s := S7) (k0_off1 i) S1.size (k0_off1_inb i)).toLoadRect xt0 (Shape.Idx.first (numel1_S1.symm ▸ Nat.one_pos)))) :
    Σ' (LS0 : List (View.Piece (Elt F) S2x4x128x128 .bf16)), { LS1 : List (View.Piece (Elt F) S2x4x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ tbPt0 c tbM0_0 xt0) -∗ K ⟨⟩))
          ⊢ wp frame (wpE (defs₀ (F := F)) Variants.none c none) E (cc0_skvq_store i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_skvq_store_eq_skeleton]; unfold cc0_skvq_store_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    iexact HT0

end Cert.Proof.Kernel

end
-- ==== Proof.KernelRunB.lean ====
module

public import proofs.«01_k».proof.Proof.KernelRunA

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 62: 54 of 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10, 11, 12, 13) at anything, handed back at some contents nothing names. -/
noncomputable def kernelRun0_B (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (xs0 : Vec F S2x4x128x128 .bf16) (xs1 : Vec F S2x4x8x128 .f32) (k0_hw1 : k0_chk1 (tbM0_0.view.readAt (Elt F) (Rect.unit (s := S7) (k0_off1 i) S1.size (k0_off1_inb i)).toLoadRect xt0 (Shape.Idx.first (numel1_S1.symm ▸ Nat.one_pos)))) :
    Σ' (LS0 : List (View.Piece (Elt F) S2x4x128x128 .bf16)), { LS1 : List (View.Piece (Elt F) S2x4x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ tbPt0 c tbM0_0 xt0) -∗ K ⟨⟩))
          ⊢ wp frame (wpE (defs₀ (F := F)) Variants.none c none) E (cc0_skvq_store i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], fun E K => ?run⟩
  case run =>
    simp only [cc0_skvq_store_eq_skeleton]; unfold cc0_skvq_store_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg17.eq_unread hfs0; obtain rfl := harg18.eq_unread hfs1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _; isplitr; · ipureintro; exact harg17.read_unread _
      iexact HS0
    isplitl [HS1]
    · iexists _; isplitr; · ipureintro; exact harg18.read_unread _
      iexact HS1
    iexact HT0

end Cert.Proof.Kernel

end
-- ==== Proof.KernelFrame.lean ====
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg17`, which the kernel carries between points, cover it: 8 pieces of `S1x1x128x128` tiling it (Lib/Ring.lean `Piece.tiledL`). -/
theorem scover0_A_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (k0_hw1 : k0_chk1 (tbM0_0.view.readAt (Elt F) (Rect.unit (s := S7) (k0_off1 i) S1.size (k0_off1_inb i)).toLoadRect xt0 (Shape.Idx.first (numel1_S1.symm ▸ Nat.one_pos)))) (y : S2x4x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1 S1x1x128x128.size (by sl_kernel_rfl) y

/-- What case A leaves in scratch `arg17`: its pieces read back over junk. -/
def sout0_A_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (k0_hw1 : k0_chk1 (tbM0_0.view.readAt (Elt F) (Rect.unit (s := S7) (k0_off1 i) S1.size (k0_off1_inb i)).toLoadRect xt0 (Shape.Idx.first (numel1_S1.symm ▸ Nat.one_pos)))) : Vec F S2x4x128x128 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1)

/-- Case A's pieces for scratch `arg18`, which the kernel carries between points, cover it: 32 pieces of `S1x1x2x128` tiling it (Lib/Ring.lean `Piece.tiledL`). -/
theorem scover0_A_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (k0_hw1 : k0_chk1 (tbM0_0.view.readAt (Elt F) (Rect.unit (s := S7) (k0_off1 i) S1.size (k0_off1_inb i)).toLoadRect xt0 (Shape.Idx.first (numel1_S1.symm ▸ Nat.one_pos)))) (y : S2x4x8x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1 S1x1x2x128.size (by sl_kernel_rfl) y

/-- What case A leaves in scratch `arg18`: its pieces read back over junk. -/
def sout0_A_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (k0_hw1 : k0_chk1 (tbM0_0.view.readAt (Elt F) (Rect.unit (s := S7) (k0_off1 i) S1.size (k0_off1_inb i)).toLoadRect xt0 (Shape.Idx.first (numel1_S1.symm ▸ Nat.one_pos)))) : Vec F S2x4x8x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1)

/-- Case B stores nothing into scratch `arg17`: it holds what the point before left. -/
def sout0_B_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (xs0 : Vec F S2x4x128x128 .bf16) (xs1 : Vec F S2x4x8x128 .f32) (k0_hw1 : k0_chk1 (tbM0_0.view.readAt (Elt F) (Rect.unit (s := S7) (k0_off1 i) S1.size (k0_off1_inb i)).toLoadRect xt0 (Shape.Idx.first (numel1_S1.symm ▸ Nat.one_pos)))) : Vec F S2x4x128x128 .bf16 := xs0

/-- Case B stores nothing into scratch `arg18`: it holds what the point before left. -/
def sout0_B_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec F S1x4x768x128 .bf16) (x1 : Vec F S1x4x768x128 .bf16) (x2 : Vec F S36x128 .i32) (x3 : Vec F S36x128 .i32) (x4 : Vec F S4x36 .f32) (x5 : Vec F S4x36 .f32) (xt0 : TbBuf0 (F := F) c tbM0_0) (xs0 : Vec F S2x4x128x128 .bf16) (xs1 : Vec F S2x4x8x128 .f32) (k0_hw1 : k0_chk1 (tbM0_0.view.readAt (Elt F) (Rect.unit (s := S7) (k0_off1 i) S1.size (k0_off1_inb i)).toLoadRect xt0 (Shape.Idx.first (numel1_S1.symm ▸ Nat.one_pos)))) : Vec F S2x4x8x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S2x4x128x128 .bf16 × Vec F S2x4x8x128 .f32
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩))
  | n + 1, hn =>
    if h0 : (n + 1) % 7 = 0 then
      (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩))
    else
      (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).1 (outsAt0 hO hH c n (Nat.lt_of_succ_lt hn)).2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).1 (outsAt0 hO hH c n (Nat.lt_of_succ_lt hn)).2 (Hyps.c0 hH c ⟨n + 1, hn⟩))

/-- `outsAt0` at a point of case A: that case's contents. -/
theorem outsAt0_A (hO : Ok m) (hH : Hyps m hO) (c : Dev nD) (t : Fin (cfgM m hO).N) (h0 : t.val % 7 = 0) :
    outsAt0 m hO hH c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 7 = 0) :
    outsAt0 m hO hH c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).1) ∗ owns (c : Thread nD τ) scM0_1 fullShare ((outsAt0 m hO hH c n hn).2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).1) ∗ owns (c : Thread nD τ) scM0_1 fullShare ((outsAt0 m hO hH c n hn).2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).1) ∗ owns (c : Thread nD τ) scM0_1 fullShare ((outsAt0 m hO hH c (n - 1) (by omega)).2)) ∗ (∃ r, prngReg c r)) ∗ Pipeline.ΦT pre0 (tbl m) c) := by
  cases n with
  | zero => exact absurd rfl hz
  | succ n => rfl

/-! ## The pipeline's proof data -/

/-- The output windows this certificate FORGETS (6, 7, 8, 9, 10, 11, 12, 13): nothing reads what the kernel leaves in them, so nothing
    of it is named (Lib/Pipeline/Dat.lean `Dat.toRForget`). -/
def forgets0 : Fin 14 → Bool := fun w => w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5]
  rw [show (dats m hO hH 0 c).Φ t.succ = PhiS m hO hH c (t.val + 1) t.isLt from rfl, PhiS_succ, PhiT0_eq]
  have hN : t.val < 63 := lt_of_lt_of_eq t.isLt (show (cfgM m hO).N = 63 from N_0)
  by_cases h0 : t.val % 7 = 0
  · by_cases hz : t.val = 0
    · rw [PhiS_castSucc m hO hH c t, PhiS_zero m hO hH c _ _ hz, PhiT0_eq, PhiA0_eq]
      rw [outsAt0_A m hO hH c t h0]
      unfold sout0_A_0 sout0_A_1; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HT0]; · iexact HT0
      iintro ⟨H0, H1, H2, H3, H4, H5, H6, H7, H8, H9, H10, H11, H12, H13, ⟨%es0, HS0⟩, ⟨%es1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [PhiS_castSucc m hO hH c t, PhiS_pos m hO hH c _ _ hz, PhiT0_eq]
      rw [outsAt0_A m hO hH c t h0]
      unfold sout0_A_0 sout0_A_1; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexists _; iexact HS0
      isplitl [HS1]; · iexists _; iexact HS1
      isplitl [HT0]; · iexact HT0
      iintro ⟨H0, H1, H2, H3, H4, H5, H6, H7, H8, H9, H10, H11, H12, H13, ⟨%es0, HS0⟩, ⟨%es1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases hz : t.val = 0
    · exfalso; have hN : t.val < 63 := lt_of_lt_of_eq t.isLt (show (cfgM m hO).N = 63 from N_0); omega
    · rw [PhiS_castSucc m hO hH c t, PhiS_pos m hO hH c _ _ hz, PhiT0_eq]
      rw [outsAt0_B m hO hH c t h0]
      unfold sout0_B_0 sout0_B_1; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _ _ (Hyps.c0 hH c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HT0]; · iexact HT0
      iintro ⟨H0, H1, H2, H3, H4, H5, H6, H7, H8, H9, H10, H11, H12, H13, HS0, HS1, HT0⟩
      isplitl [HS0 HS1 Hg HT0]
      · isplitl [HS0 HS1 Hg]
        · isplitl [HS0 HS1]
          · isplitl [HS0]
            · iexact HS0
            iexact HS1
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 63 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (windows 6, 7, 8, 9, 10, 11, 12, 13) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Proof.Kernel

end
-- ==== Proof.KernelHyps.lean ====
module

public import proofs.«01_k».proof.Defs
public import proofs.«01_k».proof.Proof.Gen.Pre_in_range
public import proofs.«01_k».proof.Proof.WordFacts
public import proofs.«01_k».proof.Proof.KernelFrame

@[expose] public section

noncomputable section

namespace Cert.Proof.Kernel

open Cert.Kernel Cert.Kernel.Gen
open Idealize.ShloMosaic Idealize.ShloMosaic.TcCoe Idealize.SL Idealize.SL.Sem

/-- Every sequence length in range makes the kernel's window reads stay inside the block. -/
theorem chk_of_range (v : BitVec 32) (h1 : 512 ≤ v.toNat) (h2 : v.toNat ≤ 768) : k0_chk1 v := by
  have key : ∀ (k : Fin k0_t3_loop.trips) (w : BitVec 32), 2 * w.toNat + 16 ≤ 768 → ∀ a : Fin 4,
      (![0, (Scf.iv (0#32) (1#32) k.val).toNat, Nat.mul 2 w.toNat, 0] : Fin 4 → Nat) a + S1x1x16x128.size a ≤ S1x4x768x128.size a := by
    intro k w hw a
    have hk : k.val < 4 := Nat.lt_of_lt_of_le k.isLt k0_t3_abs.2.1
    have e := iv_toNat k.val hk
    fin_cases a
    · simp [Shape.size]
    · show (Scf.iv (0#32) (1#32) k.val).toNat + 1 ≤ 4
      omega
    · show 2 * w.toNat + 16 ≤ 768
      exact hw
    · simp [Shape.size]
  have odd : ∀ (h : k0_cond3 v = 1#1), v.toNat ≤ 767 := by
    intro h
    by_contra hc
    have : v = 768#32 := by apply BitVec.eq_of_toNat_eq; simp only [BitVec.toNat_ofNat]; omega
    subst this
    exact absurd h (by decide)
  refine ⟨fun k _ r => key k _ ?_, fun k _ r => key k _ ?_, fun k h r => key k _ ?_, fun k _ r => key k _ ?_, fun k _ r => key k _ ?_, fun k h r => key k _ ?_⟩
  all_goals have hr := r.isLt
  · have := half_add_toNat v h1 h2 r; show 2 * (Scalar.addi _ _).toNat + 16 ≤ 768; rw [this]; omega
  · have := half_add_toNat v h1 h2 r; show 2 * (Scalar.addi _ _).toNat + 16 ≤ 768; rw [this]; omega
  · have := half_add_one_toNat v h1 h2 r; have := odd h; show 2 * (Scalar.addi _ _).toNat + 16 ≤ 768; rw [half_add_one_toNat v h1 h2 r]; omega
  · have := half_add_toNat v h1 h2 r; show 2 * (Scalar.addi _ _).toNat + 16 ≤ 768; rw [this]; omega
  · have := half_add_toNat v h1 h2 r; show 2 * (Scalar.addi _ _).toNat + 16 ≤ 768; rw [this]; omega
  · have := half_add_one_toNat v h1 h2 r; have := odd h; show 2 * (Scalar.addi _ _).toNat + 16 ≤ 768; rw [half_add_one_toNat v h1 h2 r]; omega

variable (m : (ℓ : Loc nD τ sig) → Buf (Elt Bits) ℓ)

/-- No index map reads the table of lengths. -/
theorem ok_all : Ok (F := Bits) m := by
  first | trivial | (refine ⟨?_⟩; trivial)

/-- The precondition, read at one sequence. -/
theorem len_of_pre (h : Cert.Pre_Kernel m) (c : Dev nD) (b : S7.Idx) :
    512 ≤ ((m ((c.tc : Thread nD τ).loc main_arg2) : S7.Idx → BitVec 32) b).toNat ∧ ((m ((c.tc : Thread nD τ).loc main_arg2) : S7.Idx → BitVec 32) b).toNat ≤ 768 := by
  have h0 := congrFun (h c) b
  simp only [Cert.Pre_in_range.fn, andi, cmpi, broadcastInDim, constantI] at h0
  have bit : ∀ a b : BitVec 1, IntOp.andi a b = 1#1 → a = 1#1 ∧ b = 1#1 := by decide
  have bool_one : ∀ {b : Bool}, BitVec.ofBool b = 1#1 → b = true := by decide
  obtain ⟨h1, h2⟩ := bit _ _ h0
  have h1 := bool_one h1
  have h2 := bool_one h2
  exact toNat_of_toInt _ (of_decide_eq_true h1) (of_decide_eq_true h2)

/-- The word the body reads at a point is one of the lengths. -/
theorem word_eq (c : Dev nD) (r : LoadRect S7) (x : r.shape.Idx) :
    ∃ b : S7.Idx, (tbM0_0.view.readAt (Elt Bits) r (tbl m 0) x : BitVec 32) = (m ((c.tc : Thread nD τ).loc main_arg2) : S7.Idx → BitVec 32) b := by
  obtain rfl : c = 0 := Subsingleton.elim _ _
  exact ⟨r.idx x, congrFun (V_main_arg2 m 0) (r.idx x)⟩

/-- The side condition the body assumes holds at every point. -/
theorem hyps_of_pre (h : Cert.Pre_Kernel m) : Hyps m (ok_all m) := by
  refine Hyps.of fun c t => ?_
  unfold Hyps.p0
  obtain ⟨b, hb⟩ := word_eq m c (Rect.unit (s := S7) (k0_off1 (grid0.coords t)) S1.size (k0_off1_inb (grid0.coords t))).toLoadRect (Shape.Idx.first (numel1_S1.symm ▸ Nat.one_pos))
  rw [hb]
  exact chk_of_range _ (len_of_pre m h c b).1 (len_of_pre m h c b).2

end Cert.Proof.Kernel

end
-- ==== Proof.KernelIdealTripE.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)

/-- What one head's trip holds: the inputs and tables it reads, and the results it writes. -/
abbrev TripRes (X3 : BufTy.Contents (Elt F) arg3.view.ty) (X4 : BufTy.Contents (Elt F) arg4.view.ty) (X17 : BufTy.Contents (Elt F) arg17.view.ty) (X18 : BufTy.Contents (Elt F) arg18.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg3.view.loc (c : Thread nD τ) ↦[arg3.view.set]{fullShare} X3) ∗ (arg4.view.loc (c : Thread nD τ) ↦[arg4.view.set]{fullShare} X4) ∗ (arg17.view.loc (c : Thread nD τ) ↦[arg17.view.set]{fullShare} X17) ∗ (arg18.view.loc (c : Thread nD τ) ↦[arg18.view.set]{fullShare} X18) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

/-- One head's trip, window length even: the pieces it writes into each result. -/
@[irreducible] def tripE (v1 : Elt F .i32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    (X3 : BufTy.Contents (Elt F) arg3.view.ty) (X4 : BufTy.Contents (Elt F) arg4.view.ty) (X17 : BufTy.Contents (Elt F) arg17.view.ty) (X18 : BufTy.Contents (Elt F) arg18.view.ty) (k : Fin k0_t3_loop.trips) :
    Σ' (L9 : List (View.Piece (Elt F) S1x4x512x128 .bf16)) (L10 : List (View.Piece (Elt F) S1x4x512x128 .bf16)) (L11 : List (View.Piece (Elt F) S1x4x64x256 .i8)) (L12 : List (View.Piece (Elt F) S1x4x4x256 .fp8e4m3)) (L13 : List (View.Piece (Elt F) S1x4x4x256 .fp8e4m3)) (L14 : List (View.Piece (Elt F) S1x4x64x256 .i8)) (L15 : List (View.Piece (Elt F) S1x4x4x256 .fp8e4m3)), { L16 : List (View.Piece (Elt F) S1x4x4x256 .fp8e4m3) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      TripRes (F := F) c arg3 arg4 arg9 arg10 arg11 arg12 arg13 arg14 arg15 arg16 arg17 arg18 X3 X4 X17 X18 f9 f10 f11 f12 f13 f14 f15 f16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X3 X4 X17 X18 (arg9.view.writes (Elt F) f9 L9) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  have hk : k.val < 4 := Nat.lt_of_lt_of_le k.isLt k0_t3_abs.2.1
  refine ⟨?_, ?_, ?_, ?_, ?_, ?_, ?_, ?_, fun E f9 f10 f11 f12 f13 f14 f15 f16 => ?run⟩
  case run =>
    unfold k0_t3_body
    iintro ⟨HR_arg3, HR_arg4, HR_arg17, HR_arg18, HW_arg9, HW_arg10, HW_arg11, HW_arg12, HW_arg13, HW_arg14, HW_arg15, HW_arg16⟩
    sl_exec
    sl_step
    sl_close

end Cert.Proof.KernelIdeal

end
-- ==== Proof.KernelIdealTripO.lean ====
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.KernelIdealTripE

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)

/-- One head's trip, window length odd: the pieces it writes into each result. -/
@[irreducible] def tripO (v1 : Elt F .i32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    (X3 : BufTy.Contents (Elt F) arg3.view.ty) (X4 : BufTy.Contents (Elt F) arg4.view.ty) (X17 : BufTy.Contents (Elt F) arg17.view.ty) (X18 : BufTy.Contents (Elt F) arg18.view.ty) (k : Fin k0_t3_loop.trips) :
    Σ' (L9 : List (View.Piece (Elt F) S1x4x512x128 .bf16)) (L10 : List (View.Piece (Elt F) S1x4x512x128 .bf16)) (L11 : List (View.Piece (Elt F) S1x4x64x256 .i8)) (L12 : List (View.Piece (Elt F) S1x4x4x256 .fp8e4m3)) (L13 : List (View.Piece (Elt F) S1x4x4x256 .fp8e4m3)) (L14 : List (View.Piece (Elt F) S1x4x64x256 .i8)) (L15 : List (View.Piece (Elt F) S1x4x4x256 .fp8e4m3)), { L16 : List (View.Piece (Elt F) S1x4x4x256 .fp8e4m3) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      TripRes (F := F) c arg3 arg4 arg9 arg10 arg11 arg12 arg13 arg14 arg15 arg16 arg17 arg18 X3 X4 X17 X18 f9 f10 f11 f12 f13 f14 f15 f16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X3 X4 X17 X18 (arg9.view.writes (Elt F) f9 L9) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  have hk : k.val < 4 := Nat.lt_of_lt_of_le k.isLt k0_t3_abs.2.1
  refine ⟨?_, ?_, ?_, ?_, ?_, ?_, ?_, ?_, fun E f9 f10 f11 f12 f13 f14 f15 f16 => ?run⟩
  case run =>
    unfold k0_t3_body
    iintro ⟨HR_arg3, HR_arg4, HR_arg17, HR_arg18, HW_arg9, HW_arg10, HW_arg11, HW_arg12, HW_arg13, HW_arg14, HW_arg15, HW_arg16⟩
    sl_exec
    sl_step
    sl_close

end Cert.Proof.KernelIdeal

end
-- ==== Proof.KernelIdealLoop.lean ====
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.Gen.KernelIdeal.Loops
public import proofs.«01_k».proof.Proof.KernelIdealTripO

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The last bit of a word is 0 or 1. -/
theorem parity (v1 : BitVec 32) : Scalar.andi (Scalar.subi v1 512#32) 1#32 = 0#32 ∨ Scalar.andi (Scalar.subi v1 512#32) 1#32 = 1#32 := by
  unfold Scalar.andi IntOp.andi
  rw [BitVec.and_one_eq_setWidth_ofBool_getLsbD]
  cases (Scalar.subi v1 512#32).getLsbD 0
  · left; decide
  · right; decide
/-- The window length is even or odd: exactly one of the two branch conditions holds. -/
theorem cond3_even {v1 : BitVec 32} (h : k0_cond2 v1 = 1#1) : k0_cond3 v1 ≠ 1#1 := by
  rcases parity v1 with e | e
  · simp only [k0_cond3, e]; decide
  · simp only [k0_cond2, e] at h; exact absurd h (by decide)
theorem cond3_odd {v1 : BitVec 32} (h : ¬ k0_cond2 v1 = 1#1) : k0_cond3 v1 = 1#1 := by
  rcases parity v1 with e | e
  · simp only [k0_cond2, e] at h; exact absurd (by decide) h
  · simp only [k0_cond3, e]; decide

/-- The pieces one trip writes, the two window parities together. -/
abbrev tripL_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3) :=
  if h : k0_cond2 v1 = 1#1 then ((tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.1, (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.2.val)
  else ((tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.1, (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.2.1)

/-- One trip, whichever the parity: it runs to its pieces written over what was there. -/
theorem tripL_spec (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) :
    TripRes (F := F) c arg3 arg4 arg9 arg10 arg11 arg12 arg13 arg14 arg15 arg16 arg17 arg18 X_arg3 X_arg4 X_arg17 X_arg18 f_arg9 f_arg10 f_arg11 f_arg12 f_arg13 f_arg14 f_arg15 f_arg16
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 k PUnit.unit)
          (fun _ => TripRes (F := F) c arg3 arg4 arg9 arg10 arg11 arg12 arg13 arg14 arg15 arg16 arg17 arg18 X_arg3 X_arg4 X_arg17 X_arg18 (arg9.view.writes (Elt F) f_arg9 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1) (arg10.view.writes (Elt F) f_arg10 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1) (arg11.view.writes (Elt F) f_arg11 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1) (arg12.view.writes (Elt F) f_arg12 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1) (arg13.view.writes (Elt F) f_arg13 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1) (arg14.view.writes (Elt F) f_arg14 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1) (arg15.view.writes (Elt F) f_arg15 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1) (arg16.view.writes (Elt F) f_arg16 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2)) := by
  by_cases h : k0_cond2 v1 = 1#1
  · simp only [tripL_k0_t3, dif_pos h]
    exact (tripE (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_even h) h (cond3_even h) X_arg3 X_arg4 X_arg17 X_arg18 k).2.2.2.2.2.2.2.property E f_arg9 f_arg10 f_arg11 f_arg12 f_arg13 f_arg14 f_arg15 f_arg16
  · simp only [tripL_k0_t3, dif_neg h]
    exact (tripO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h (cond3_odd h) h (cond3_odd h) X_arg3 X_arg4 X_arg17 X_arg18 k).2.2.2.2.2.2.2.property E f_arg9 f_arg10 f_arg11 f_arg12 f_arg13 f_arg14 f_arg15 f_arg16

/-- Trip `k`'s contribution to the state the recursion `pb_k0_t3` below carries (`prev`): its pieces
   in front, per written memref; past the last trip, `prev` itself. -/
@[irreducible] def pb_k0_t3Step (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : ℕ) (prev : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3)) : List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3) :=
  if h : k < k0_t3_loop.trips then
    ((tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).1 ++ prev.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.1 ++ prev.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.1 ++ prev.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.1 ++ prev.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.1 ++ prev.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.1 ++ prev.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.2.1 ++ prev.2.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 ⟨k, h⟩).2.2.2.2.2.2.2 ++ prev.2.2.2.2.2.2.2)
  else prev

/-- The pieces of the trips before `k` (last first), per written memref. -/
def pb_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) : ℕ → List (View.Piece (Elt F) S1x4x512x128 .bf16) × List (View.Piece (Elt F) S1x4x512x128 .bf16) × List (View.Piece (Elt F) S1x4x64x256 .i8) × List (View.Piece (Elt F) S1x4x4x256 .fp8e4m3) × List (View.Piece (Elt F) S1x4x4x256 .fp8e4m3) × List (View.Piece (Elt F) S1x4x64x256 .i8) × List (View.Piece (Elt F) S1x4x4x256 .fp8e4m3) × List (View.Piece (Elt F) S1x4x4x256 .fp8e4m3)
  | 0 => ([], [], [], [], [], [], [], [])
  | k + 1 => pb_k0_t3Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k)

theorem pb_k0_t3_succ (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (k : Fin k0_t3_loop.trips) :
    pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 (k.val + 1)
      = ((tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.2.1, (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k.val).2.2.2.2.2.2.2) := by
  rw [pb_k0_t3.eq_2]; unfold pb_k0_t3Step; exact dif_pos k.isLt

/-- THE INVARIANT before trip `k`: arg3, arg4, arg17, arg18 read at `X_·`; arg9, arg10, arg11,
   arg12, arg13, arg14, arg15, arg16 holding the pieces of the trips before `k` written over the
   contents at loop entry `G_·` (stated `∃ f, … ∗ ⌜f = …⌝`, so that a hypothesis of any contents
   matches and the equation is what is proved). -/
abbrev inv_k0_t3 (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (arg17.view.loc (c : Thread nD τ) ↦[arg17.view.set]{fullShare} X_arg17) ∗ (arg18.view.loc (c : Thread nD τ) ↦[arg18.view.set]{fullShare} X_arg18) ∗ (∃ f, (arg9.view.loc (c : Thread nD τ) ↦[arg9.view.set]{fullShare} f) ∗ ⌜f = arg9.view.writes (Elt F) G_arg9 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).1⌝) ∗ (∃ f, (arg10.view.loc (c : Thread nD τ) ↦[arg10.view.set]{fullShare} f) ∗ ⌜f = arg10.view.writes (Elt F) G_arg10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.1⌝) ∗ (∃ f, (arg11.view.loc (c : Thread nD τ) ↦[arg11.view.set]{fullShare} f) ∗ ⌜f = arg11.view.writes (Elt F) G_arg11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.1⌝) ∗ (∃ f, (arg12.view.loc (c : Thread nD τ) ↦[arg12.view.set]{fullShare} f) ∗ ⌜f = arg12.view.writes (Elt F) G_arg12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.1⌝) ∗ (∃ f, (arg13.view.loc (c : Thread nD τ) ↦[arg13.view.set]{fullShare} f) ∗ ⌜f = arg13.view.writes (Elt F) G_arg13 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.1⌝) ∗ (∃ f, (arg14.view.loc (c : Thread nD τ) ↦[arg14.view.set]{fullShare} f) ∗ ⌜f = arg14.view.writes (Elt F) G_arg14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.1⌝) ∗ (∃ f, (arg15.view.loc (c : Thread nD τ) ↦[arg15.view.set]{fullShare} f) ∗ ⌜f = arg15.view.writes (Elt F) G_arg15 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.1⌝) ∗ (∃ f, (arg16.view.loc (c : Thread nD τ) ↦[arg16.view.set]{fullShare} f) ∗ ⌜f = arg16.view.writes (Elt F) G_arg16 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k).2.2.2.2.2.2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (v1 : Elt F .i32) (k0_hw1 : k0_chk1 v1) (v2 : BitVec 32) (X_arg3 : BufTy.Contents (Elt F) arg3.view.ty) (X_arg4 : BufTy.Contents (Elt F) arg4.view.ty) (X_arg17 : BufTy.Contents (Elt F) arg17.view.ty) (X_arg18 : BufTy.Contents (Elt F) arg18.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 where
  inv := inv_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 G_arg9 G_arg10 G_arg11 G_arg12 G_arg13 G_arg14 G_arg15 G_arg16
  step k acc := by
    iintro ⟨HR_arg3, HR_arg4, HR_arg17, HR_arg18, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg3 HR_arg4 HR_arg17 HR_arg18 HW_arg9 HW_arg10 HW_arg11 HW_arg12 HW_arg13 HW_arg14 HW_arg15 HW_arg16]
    · iapply (tripL_spec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X_arg3 X_arg4 X_arg17 X_arg18 k E f_arg9 f_arg10 f_arg11 f_arg12 f_arg13 f_arg14 f_arg15 f_arg16)
      isplitl [HR_arg3]; · iexact HR_arg3
      isplitl [HR_arg4]; · iexact HR_arg4
      isplitl [HR_arg17]; · iexact HR_arg17
      isplitl [HR_arg18]; · iexact HR_arg18
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      isplitl [HW_arg14]; · iexact HW_arg14
      isplitl [HW_arg15]; · iexact HW_arg15
      iexact HW_arg16
    · iintro %_ ⟨HR_arg3, HR_arg4, HR_arg17, HR_arg18, HW_arg9, HW_arg10, HW_arg11, HW_arg12, HW_arg13, HW_arg14, HW_arg15, HW_arg16⟩
      isplitl [HR_arg3]; · iexact HR_arg3
      isplitl [HR_arg4]; · iexact HR_arg4
      isplitl [HR_arg17]; · iexact HR_arg17
      isplitl [HR_arg18]; · iexact HR_arg18
      rw [pb_k0_t3_succ]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      isplitl [HW_arg15]
      · iexists _; isplitl [HW_arg15]; · iexact HW_arg15
        ipureintro; rw [h_arg15, ← View.writes_append]
      iexists _; isplitl [HW_arg16]; · iexact HW_arg16
      ipureintro; rw [h_arg16, ← View.writes_append]

end Cert.Proof.KernelIdeal

end
-- ==== Proof.KernelIdealPoints.lean ====
module

public import proofs.«01_k».proof.Proof.Gen.KernelIdeal
public import Idealize.ShloMosaic.Lib.Pipeline.Kit

@[expose] public section

noncomputable section

namespace Cert.Proof.KernelIdeal

open Cert.KernelIdeal Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 63 = 0 :=
  (fun t => Pipeline.Window.fetchOf_const cc0_transform_2 (fun _ _ => rfl) (n := 63) (by decide) t : ∀ t : Fin grid0.N, Pipeline.Window.fetchOf grid0 false cc0_transform_2 t = true ↔ t.val % 63 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 63 = 0 :=
  (fun t => Pipeline.Window.fetchOf_const cc0_transform_3 (fun _ _ => rfl) (n := 63) (by decide) t : ∀ t : Fin grid0.N, Pipeline.Window.fetchOf grid0 false cc0_transform_3 t = true ↔ t.val % 63 = 0)
/-- Window 4 (operand 5 (%2)) is fetched at the first point only, at any contents of the tables (its index map reads none). -/
theorem fetch0_4 (a : (pcfg0 (F := F)).Adm) : ∀ t : Fin (cfg0 a).N, ((cfg0 a).win 4).fetch t = true ↔ t.val % 63 = 0 :=
  (fun t => Pipeline.Window.fetchOf_const cc0_transform_4 (fun _ _ => rfl) (n := 63) (by decide) t : ∀ t : Fin grid0.N, Pipeline.Window.fetchOf grid0 false cc0_transform_4 t = true ↔ t.val % 63 = 0)
/-- Window 5 (operand 6 (%3)) is fetched at the first point only, at any contents of the tables (its index map reads none). -/
theorem fetch0_5 (a : (pcfg0 (F := F)).Adm) : ∀ t : Fin (cfg0 a).N, ((cfg0 a).win 5).fetch t = true ↔ t.val % 63 = 0 :=
  (fun t => Pipeline.Window.fetchOf_const cc0_transform_5 (fun _ _ => rfl) (n := 63) (by decide) t : ∀ t : Fin grid0.N, Pipeline.Window.fetchOf grid0 false cc0_transform_5 t = true ↔ t.val % 63 = 0)
/-- Window 6 (result 0 (%4#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)
/-- Window 7 (result 1 (%4#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)
/-- Window 8 (result 2 (%4#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)
/-- Window 9 (result 3 (%4#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 0 (fun _ => rfl) (by decide)) (P := 1) (m := 0) (by decide) rfl t).mpr (Nat.mod_one _) : ∀ t : Fin grid0.N, Pipeline.Window.flushOf grid0 true cc0_transform_9 t = true)
/-- Window 10 (result 4 (%4#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 0 (fun _ => rfl) (by decide)) (P := 1) (m := 0) (by decide) rfl t).mpr (Nat.mod_one _) : ∀ t : Fin grid0.N, Pipeline.Window.flushOf grid0 true cc0_transform_10 t = true)
/-- Window 11 (result 5 (%4#5)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 0 (fun _ => rfl) (by decide)) (P := 1) (m := 0) (by decide) rfl t).mpr (Nat.mod_one _) : ∀ t : Fin grid0.N, Pipeline.Window.flushOf grid0 true cc0_transform_11 t = true)
/-- Window 12 (result 6 (%4#6)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 0 (fun _ => rfl) (by decide)) (P := 1) (m := 0) (by decide) rfl t).mpr (Nat.mod_one _) : ∀ t : Fin grid0.N, Pipeline.Window.flushOf grid0 true cc0_transform_12 t = true)
/-- Window 13 (result 7 (%4#7)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 0 (fun _ => rfl) (by decide)) (P := 1) (m := 0) (by decide) rfl t).mpr (Nat.mod_one _) : ∀ t : Fin grid0.N, Pipeline.Window.flushOf grid0 true cc0_transform_13 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_skvq_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _)

end Cert.Proof.KernelIdeal

end
-- ==== Proof.KernelIdealRuns.lean ====
module

public import proofs.«01_k».proof.Proof.Gen.KernelIdeal.Launch
public import proofs.«01_k».proof.Proof.Gen.KernelIdeal.Skeleton
public import proofs.«01_k».proof.Proof.KernelIdealLoop
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 7) — by arithmetic of the point. -/
theorem hcond0_0 : ∀ t : Fin grid0.N, cond0_0 (grid0.coords t) ↔ t.val % 7 = 0 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x768x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x768x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S36x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S36x128 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x36 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x36 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4x512x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x512x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4x64x256 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x4x256 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x4x4x256 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x4x64x256 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x4x4x256 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x4x4x256 .fp8e4m3 := spec0_13.stage ((cfgM m hO).slots t 13)
abbrev hs0_13 (hO : Ok m) (t : Fin (cfgM m hO).N) : (ms0_13 m hO t).IsWhole := hstage0_13 (((cfgM m hO).slots t 13).cast nbuf0_13)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S7) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S2x4x128x128 .bf16 := Memref.whole cc0_scratch0
abbrev scM0_1 : Memref sig .tc .vmem S2x4x8x128 .f32 := Memref.whole cc0_scratch1
/-- The scratch `arg17` the kernel carries between points, as a view: what it holds is stated through it. -/
abbrev VS0_0 : View sig .tc .vmem S2x4x128x128 .bf16 := scM0_0.view
/-- The scratch `arg18` the kernel carries between points, as a view: what it holds is stated through it. -/
abbrev VS0_1 : View sig .tc .vmem S2x4x8x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.KernelIdeal

end
-- ==== Proof.KernelIdealWin.lean ====
module

public import proofs.«01_k».proof.Proof.KernelIdealLoop
public import proofs.«01_k».proof.Proof.WordFacts
public import Idealize.ShloMosaic.Lib.Pointwise
public import Idealize.ShloMosaic.Lib.Bf16Pair

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- A head's window: row `t` of the result is row `n + t` of the input. -/
def winSpec (x : S1x4x768x128.Idx → EReal) (n : Nat) : S1x4x512x128.Idx → EReal := fun y =>
  x (ix4 (y 0) (y 1) ⟨(n + (y 2).val) % 768, Nat.mod_lt _ (by decide)⟩ (y 3))

/-- A list of written pieces agrees with one function of the result's index. -/
def Agree {s : Shape} {e : EltTy} (L : List (View.Piece (Elt Ideal) s e)) (G : s.Idx → Elt Ideal e) : Prop :=
  ∀ p ∈ L, ∀ x : p.1.shape.Idx, p.2 x = G (p.1.emb x)

theorem agree_nil {s : Shape} {e : EltTy} (G : s.Idx → Elt Ideal e) : Agree [] G := fun _ h => absurd h List.not_mem_nil

theorem agree_cons {s : Shape} {e : EltTy} {G : s.Idx → Elt Ideal e} {p : View.Piece (Elt Ideal) s e} {L : List (View.Piece (Elt Ideal) s e)}
    (h : ∀ x : p.1.shape.Idx, p.2 x = G (p.1.emb x)) (hL : Agree L G) : Agree (p :: L) G :=
  fun q hq => (List.mem_cons.1 hq).elim (fun e => e ▸ h) (hL q)

theorem agree_append {s : Shape} {e : EltTy} {G : s.Idx → Elt Ideal e} {L L' : List (View.Piece (Elt Ideal) s e)}
    (h : Agree L G) (h' : Agree L' G) : Agree (L ++ L') G :=
  fun q hq => (List.mem_append.1 hq).elim (h q) (h' q)

/-- Halves taken apart and put together again give the rows back. -/
theorem evenPay (raw : S1x1x16x128.Idx → EReal) (x : S1x1x16x128.Idx) :
    interleaveRows S1x1x16x128
      (shapeCast S1x1x8x128 (shapeCast S8x128 (shapeCast S1x8x128 (rowsOfParity 0 S1x1x8x128 raw bitcasts_S1x1x16x128_w16_S1x1x8x128_w32) shapeCasts_S1x1x8x128_S1x8x128) shapeCasts_S1x8x128_S8x128) shapeCasts_S8x128_S1x1x8x128)
      (shapeCast S1x1x8x128 (shapeCast S8x128 (shapeCast S1x8x128 (rowsOfParity 1 S1x1x8x128 raw bitcasts_S1x1x16x128_w16_S1x1x8x128_w32) shapeCasts_S1x1x8x128_S1x8x128) shapeCasts_S1x8x128_S8x128) shapeCasts_S8x128_S1x1x8x128)
      bitcasts_S1x1x16x128_w16_S1x1x8x128_w32 x = raw x := by
  pointwise []
  have h0 : ∀ (y : S1x1x16x128.Idx), ix4 (y 0) (y 1) (y 2) (y 3) = y := fun y => by
    funext a; fin_cases a <;> rfl
  split
  · conv_rhs => rw [← h0 x]
    congr 2
    exact Fin.ext (by simp; omega)
  · conv_rhs => rw [← h0 x]
    congr 2
    exact Fin.ext (by simp; omega)

/-- Odd rows of one stretch above even rows of the next: the rows from the second on. -/
theorem oddPay (ra rb : S1x1x16x128.Idx → EReal) (x : S1x1x16x128.Idx) :
    interleaveRows S1x1x16x128
      (shapeCast S1x1x8x128 (shapeCast S8x128 (shapeCast S1x8x128 (rowsOfParity 1 S1x1x8x128 ra bitcasts_S1x1x16x128_w16_S1x1x8x128_w32) shapeCasts_S1x1x8x128_S1x8x128) shapeCasts_S1x8x128_S8x128) shapeCasts_S8x128_S1x1x8x128)
      (shapeCast S1x1x8x128 (shapeCast S8x128 (shapeCast S1x8x128 (rowsOfParity 0 S1x1x8x128 rb bitcasts_S1x1x16x128_w16_S1x1x8x128_w32) shapeCasts_S1x1x8x128_S1x8x128) shapeCasts_S1x8x128_S8x128) shapeCasts_S8x128_S1x1x8x128)
      bitcasts_S1x1x16x128_w16_S1x1x8x128_w32 x
      = if (x 2).val % 2 = 0 then ra (ix4 (x 0) (x 1) ⟨2 * ((x 2).val / 2) + 1, by have : (x 2).val < 16 := (x 2).isLt; omega⟩ (x 3))
        else rb (ix4 (x 0) (x 1) ⟨2 * ((x 2).val / 2), by have : (x 2).val < 16 := (x 2).isLt; omega⟩ (x 3)) := by
  pointwise []

/-- The rows below `hi` of head `k` are all written. -/
def Below (L : List (View.Piece (Elt Ideal) S1x4x512x128 .bf16)) (k hi : Nat) : Prop :=
  ∀ y : S1x4x512x128.Idx, (y 1).val = k → (y 2).val < hi → ∃ p ∈ L, y ∈ p.1.set

theorem below_cons {L : List (View.Piece (Elt Ideal) S1x4x512x128 .bf16)} {k o : Nat} {offS : Fin 4 → Nat}
    {inbS : ∀ a, offS a + S1x1x16x128.size a ≤ S1x4x512x128.size a} {w : S1x1x16x128.Idx → EReal}
    (hS : offS = ![0, k, o, 0]) (h : Below L k o) : Below (⟨Rect.unit offS S1x1x16x128.size inbS, w⟩ :: L) k (o + 16) := by
  intro y hk hy
  by_cases ho : (y 2).val < o
  · obtain ⟨p, hp, hm⟩ := h y hk ho
    exact ⟨p, List.mem_cons_of_mem _ hp, hm⟩
  · refine ⟨_, List.mem_cons_self, ?_⟩
    subst hS
    rw [Rect.mem_set_unit]
    have h0 : (y 0).val < 1 := (y 0).isLt
    have h3 : (y 3).val < 128 := (y 3).isLt
    intro a
    fin_cases a
    · show 0 ≤ (y 0).val ∧ (y 0).val < 0 + 1; omega
    · show k ≤ (y 1).val ∧ (y 1).val < k + 1; omega
    · show o ≤ (y 2).val ∧ (y 2).val < o + 16; omega
    · show 0 ≤ (y 3).val ∧ (y 3).val < 0 + 128; omega

section Pieces

variable {sig : RefSig} {κ : Kind} {sp : Space} (v : View sig κ sp S1x4x768x128 .bf16) (X : BufTy.Contents (Elt Ideal) v.ty)

/-- A load of sixteen rows, read at one of them, once its place is known. -/
theorem readRows (x3 : S1x4x768x128.Idx → EReal) (hx : v.read (Elt Ideal) X = x3) {offL offS : Fin 4 → Nat}
    (inbL : ∀ a, offL a + S1x1x16x128.size a ≤ S1x4x768x128.size a) (inbS : ∀ a, offS a + S1x1x16x128.size a ≤ S1x4x512x128.size a)
    (n k o l : Nat) (hL : offL = ![0, k, l, 0]) (hS : offS = ![0, k, o, 0]) (x : S1x1x16x128.Idx) (r : Fin 16)
    (hr : l + r.val = n + o + (x 2).val) :
    v.readAt (Elt Ideal) (Rect.unit (s := S1x4x768x128) offL S1x1x16x128.size inbL).toLoadRect X (ix4 (x 0) (x 1) r (x 3))
      = winSpec x3 n ((Rect.unit (s := S1x4x512x128) offS S1x1x16x128.size inbS).emb x) := by
  subst hL hS hx
  have hi : l + 16 ≤ 768 := inbL 2
  have hx2 : (x 2).val < 16 := (x 2).isLt
  have hr2 := r.isLt
  unfold winSpec
  show v.read (Elt Ideal) X _ = v.read (Elt Ideal) X _
  congr 1
  funext a
  apply Fin.ext
  fin_cases a
  · rfl
  · rfl
  · show l + 1 * r.val = (n + (o + 1 * (x 2).val)) % 768
    rw [Nat.mod_eq_of_lt (by omega)]; omega
  · rfl

theorem off23_eq (v1 : BitVec 32) (h1 : 512 ≤ v1.toNat) (h2 : v1.toNat ≤ 768) (k : Fin k0_t3_loop.trips) (w : BitVec 32) (hw : w.toNat ≤ 248) :
    k0_off23 v1 k w = ![0, k.val, 2 * ((v1.toNat - 512) / 2 + w.toNat), 0] := by
  have hk : k.val < 4 := Nat.lt_of_lt_of_le k.isLt k0_t3_abs.2.1
  have e1 := iv_toNat k.val hk
  have e2 : (Scalar.addi (Scalar.shrsi (Scalar.subi v1 512#32) 1#32) w).toNat = (v1.toNat - 512) / 2 + w.toNat := by
    unfold Scalar.addi IntOp.addi
    rw [BitVec.toNat_add, half_toNat v1 h1 h2]; omega
  show ![0, (Scf.iv (0#32) (1#32) k.val).toNat, 2 * (Scalar.addi (Scalar.shrsi (Scalar.subi v1 512#32) 1#32) w).toNat, 0] = _
  rw [e1, e2]

theorem off57_eq (v1 : BitVec 32) (h1 : 512 ≤ v1.toNat) (h2 : v1.toNat ≤ 768) (k : Fin k0_t3_loop.trips) (w : BitVec 32) (hw : w.toNat ≤ 248) :
    k0_off57 v1 k w = ![0, k.val, 2 * ((v1.toNat - 512) / 2 + w.toNat + 1), 0] := by
  have hk : k.val < 4 := Nat.lt_of_lt_of_le k.isLt k0_t3_abs.2.1
  have e1 := iv_toNat k.val hk
  have e2 : (Scalar.addi (Scalar.addi (Scalar.shrsi (Scalar.subi v1 512#32) 1#32) w) 1#32).toNat = (v1.toNat - 512) / 2 + w.toNat + 1 := by
    unfold Scalar.addi IntOp.addi
    rw [BitVec.toNat_add, BitVec.toNat_add, half_toNat v1 h1 h2]; simp only [BitVec.toNat_ofNat]; omega
  show ![0, (Scf.iv (0#32) (1#32) k.val).toNat, 2 * (Scalar.addi (Scalar.addi (Scalar.shrsi (Scalar.subi v1 512#32) 1#32) w) 1#32).toNat, 0] = _
  rw [e1, e2]

theorem off23_inb (v1 : BitVec 32) (h1 : 512 ≤ v1.toNat) (h2 : v1.toNat ≤ 768) (k : Fin k0_t3_loop.trips) (w : BitVec 32) (hw : w.toNat ≤ 248) :
    ∀ a, k0_off23 v1 k w a + S1x1x16x128.size a ≤ S1x4x768x128.size a := by
  have hk : k.val < 4 := Nat.lt_of_lt_of_le k.isLt k0_t3_abs.2.1
  rw [off23_eq v1 h1 h2 k w hw]
  intro a
  fin_cases a
  · exact (by decide : 0 + 1 ≤ 1)
  · show k.val + 1 ≤ 4; omega
  · show 2 * ((v1.toNat - 512) / 2 + w.toNat) + 16 ≤ 768; omega
  · exact (by decide : 0 + 128 ≤ 128)

theorem off57_inb (v1 : BitVec 32) (h1 : 512 ≤ v1.toNat) (h2 : v1.toNat ≤ 768) (ho : v1.toNat % 2 = 1) (k : Fin k0_t3_loop.trips) (w : BitVec 32) (hw : w.toNat ≤ 248) :
    ∀ a, k0_off57 v1 k w a + S1x1x16x128.size a ≤ S1x4x768x128.size a := by
  have hk : k.val < 4 := Nat.lt_of_lt_of_le k.isLt k0_t3_abs.2.1
  rw [off57_eq v1 h1 h2 k w hw]
  intro a
  fin_cases a
  · exact (by decide : 0 + 1 ≤ 1)
  · show k.val + 1 ≤ 4; omega
  · show 2 * ((v1.toNat - 512) / 2 + w.toNat + 1) + 16 ≤ 768; omega
  · exact (by decide : 0 + 128 ≤ 128)

theorem ix_eta (y : S1x1x16x128.Idx) : ix4 (y 0) (y 1) (y 2) (y 3) = y := by
  funext a; fin_cases a <;> rfl

/-- One stretch of sixteen rows, window length even. -/
theorem pieceE (x3 : S1x4x768x128.Idx → EReal) (hx : v.read (Elt Ideal) X = x3) (v1 : BitVec 32) (h1 : 512 ≤ v1.toNat) (h2 : v1.toNat ≤ 768)
    (he : v1.toNat % 2 = 0) (k : Fin k0_t3_loop.trips) (w : BitVec 32) (hw : w.toNat ≤ 248) {offS : Fin 4 → Nat}
    (inbL : ∀ a, k0_off23 v1 k w a + S1x1x16x128.size a ≤ S1x4x768x128.size a) (inbS : ∀ a, offS a + S1x1x16x128.size a ≤ S1x4x512x128.size a)
    (hS : offS = ![0, k.val, 2 * w.toNat, 0]) (x : S1x1x16x128.Idx) :
    interleaveRows S1x1x16x128
      (shapeCast S1x1x8x128 (shapeCast S8x128 (shapeCast S1x8x128 (rowsOfParity 0 S1x1x8x128 (v.readAt (Elt Ideal) (Rect.unit (s := S1x4x768x128) (k0_off23 v1 k w) S1x1x16x128.size inbL).toLoadRect X : S1x1x16x128.Idx → EReal) bitcasts_S1x1x16x128_w16_S1x1x8x128_w32) shapeCasts_S1x1x8x128_S1x8x128) shapeCasts_S1x8x128_S8x128) shapeCasts_S8x128_S1x1x8x128)
      (shapeCast S1x1x8x128 (shapeCast S8x128 (shapeCast S1x8x128 (rowsOfParity 1 S1x1x8x128 (v.readAt (Elt Ideal) (Rect.unit (s := S1x4x768x128) (k0_off23 v1 k w) S1x1x16x128.size inbL).toLoadRect X : S1x1x16x128.Idx → EReal) bitcasts_S1x1x16x128_w16_S1x1x8x128_w32) shapeCasts_S1x1x8x128_S1x8x128) shapeCasts_S1x8x128_S8x128) shapeCasts_S8x128_S1x1x8x128)
      bitcasts_S1x1x16x128_w16_S1x1x8x128_w32 x
      = winSpec x3 (v1.toNat - 512) ((Rect.unit (s := S1x4x512x128) offS S1x1x16x128.size inbS).emb x) := by
  rw [evenPay]
  conv_lhs => rw [← ix_eta x]
  exact readRows v X x3 hx inbL inbS _ k.val _ _ (off23_eq v1 h1 h2 k w hw) hS x (x 2) (by omega)

/-- One stretch of sixteen rows, window length odd. -/
theorem pieceO (x3 : S1x4x768x128.Idx → EReal) (hx : v.read (Elt Ideal) X = x3) (v1 : BitVec 32) (h1 : 512 ≤ v1.toNat) (h2 : v1.toNat ≤ 768)
    (he : v1.toNat % 2 = 1) (k : Fin k0_t3_loop.trips) (w : BitVec 32) (hw : w.toNat ≤ 248) {offS : Fin 4 → Nat}
    (inbL : ∀ a, k0_off56 v1 k w a + S1x1x16x128.size a ≤ S1x4x768x128.size a)
    (inbL' : ∀ a, k0_off57 v1 k w a + S1x1x16x128.size a ≤ S1x4x768x128.size a) (inbS : ∀ a, offS a + S1x1x16x128.size a ≤ S1x4x512x128.size a)
    (hS : offS = ![0, k.val, 2 * w.toNat, 0]) (x : S1x1x16x128.Idx) :
    interleaveRows S1x1x16x128
      (shapeCast S1x1x8x128 (shapeCast S8x128 (shapeCast S1x8x128 (rowsOfParity 1 S1x1x8x128 (v.readAt (Elt Ideal) (Rect.unit (s := S1x4x768x128) (k0_off56 v1 k w) S1x1x16x128.size inbL).toLoadRect X : S1x1x16x128.Idx → EReal) bitcasts_S1x1x16x128_w16_S1x1x8x128_w32) shapeCasts_S1x1x8x128_S1x8x128) shapeCasts_S1x8x128_S8x128) shapeCasts_S8x128_S1x1x8x128)
      (shapeCast S1x1x8x128 (shapeCast S8x128 (shapeCast S1x8x128 (rowsOfParity 0 S1x1x8x128 (v.readAt (Elt Ideal) (Rect.unit (s := S1x4x768x128) (k0_off57 v1 k w) S1x1x16x128.size inbL').toLoadRect X : S1x1x16x128.Idx → EReal) bitcasts_S1x1x16x128_w16_S1x1x8x128_w32) shapeCasts_S1x1x8x128_S1x8x128) shapeCasts_S1x8x128_S8x128) shapeCasts_S8x128_S1x1x8x128)
      bitcasts_S1x1x16x128_w16_S1x1x8x128_w32 x
      = winSpec x3 (v1.toNat - 512) ((Rect.unit (s := S1x4x512x128) offS S1x1x16x128.size inbS).emb x) := by
  have hx2 : (x 2).val < 16 := (x 2).isLt
  rw [oddPay]
  split
  · exact readRows v X x3 hx inbL inbS _ k.val _ _ (off23_eq v1 h1 h2 k w hw) hS x _ (by show _ + (2 * ((x 2).val / 2) + 1) = _; omega)
  · exact readRows v X x3 hx inbL' inbS _ k.val _ _ (off57_eq v1 h1 h2 k w hw) hS x _ (by show _ + (2 * ((x 2).val / 2)) = _; omega)

end Pieces

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)

theorem tripE_win9 (v1 : BitVec 32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    X3 X4 X17 X18 (k : Fin k0_t3_loop.trips)
    (x3 : S1x4x768x128.Idx → EReal) (hx : arg3.view.read (Elt Ideal) X3 = x3) (hl : 512 ≤ v1.toNat) (hu : v1.toNat ≤ 768) (he : v1.toNat % 2 = 0) :
    Agree (tripE (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).1 (winSpec x3 (v1.toNat - 512)) := by
  unfold tripE
  dsimp only
  iterate 32
    refine agree_cons ?_ ?_
    · intro x
      refine (pieceE arg3.view X3 x3 hx v1 hl hu he k _ ?_ (off23_inb v1 hl hu k _ (by decide)) (by decide +kernel +revert) ?_ x)
      · decide
      · decide +kernel +revert
  exact agree_nil _

theorem tripE_win10 (v1 : BitVec 32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    X3 X4 X17 X18 (k : Fin k0_t3_loop.trips)
    (x3 : S1x4x768x128.Idx → EReal) (hx : arg4.view.read (Elt Ideal) X4 = x3) (hl : 512 ≤ v1.toNat) (hu : v1.toNat ≤ 768) (he : v1.toNat % 2 = 0) :
    Agree (tripE (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).2.1 (winSpec x3 (v1.toNat - 512)) := by
  unfold tripE
  dsimp only
  iterate 32
    refine agree_cons ?_ ?_
    · intro x
      refine (pieceE arg4.view X4 x3 hx v1 hl hu he k _ ?_ (off23_inb v1 hl hu k _ (by decide)) (by decide +kernel +revert) ?_ x)
      · decide
      · decide +kernel +revert
  exact agree_nil _

theorem tripO_win9 (v1 : BitVec 32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    X3 X4 X17 X18 (k : Fin k0_t3_loop.trips)
    (x3 : S1x4x768x128.Idx → EReal) (hx : arg3.view.read (Elt Ideal) X3 = x3) (hl : 512 ≤ v1.toNat) (hu : v1.toNat ≤ 768) (he : v1.toNat % 2 = 1) :
    Agree (tripO (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).1 (winSpec x3 (v1.toNat - 512)) := by
  unfold tripO
  dsimp only
  iterate 32
    refine agree_cons ?_ ?_
    · intro x
      refine (pieceO arg3.view X3 x3 hx v1 hl hu he k _ ?_ (off23_inb v1 hl hu k _ (by decide)) (off57_inb v1 hl hu he k _ (by decide)) (by decide +kernel +revert) ?_ x)
      · decide
      · decide +kernel +revert
  exact agree_nil _

theorem tripO_win10 (v1 : BitVec 32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    X3 X4 X17 X18 (k : Fin k0_t3_loop.trips)
    (x3 : S1x4x768x128.Idx → EReal) (hx : arg4.view.read (Elt Ideal) X4 = x3) (hl : 512 ≤ v1.toNat) (hu : v1.toNat ≤ 768) (he : v1.toNat % 2 = 1) :
    Agree (tripO (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).2.1 (winSpec x3 (v1.toNat - 512)) := by
  unfold tripO
  dsimp only
  iterate 32
    refine agree_cons ?_ ?_
    · intro x
      refine (pieceO arg4.view X4 x3 hx v1 hl hu he k _ ?_ (off23_inb v1 hl hu k _ (by decide)) (off57_inb v1 hl hu he k _ (by decide)) (by decide +kernel +revert) ?_ x)
      · decide
      · decide +kernel +revert
  exact agree_nil _

theorem tripE_below9 (v1 : BitVec 32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    X3 X4 X17 X18 (k : Fin k0_t3_loop.trips) :
    Below (tripE (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).1 k.val 512 := by
  unfold tripE
  dsimp only
  iterate 32 refine below_cons (by decide +kernel +revert) ?_
  exact fun y _ h => absurd h (Nat.not_lt_zero _)

theorem tripE_below10 (v1 : BitVec 32) (k0_hw1 : k0_chk1 v1) (v2 : BitVec 32)
    (h2 : k0_cond2 v1 = 1#1) (h3 : k0_cond3 v1 ≠ 1#1) (h4 : k0_cond4 v1 = 1#1) (h5 : k0_cond5 v1 ≠ 1#1)
    X3 X4 X17 X18 (k : Fin k0_t3_loop.trips) :
    Below (tripE (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).2.1 k.val 512 := by
  unfold tripE
  dsimp only
  iterate 32 refine below_cons (by decide +kernel +revert) ?_
  exact fun y _ h => absurd h (Nat.not_lt_zero _)

theorem tripO_below9 (v1 : BitVec 32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    X3 X4 X17 X18 (k : Fin k0_t3_loop.trips) :
    Below (tripO (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).1 k.val 512 := by
  unfold tripO
  dsimp only
  iterate 32 refine below_cons (by decide +kernel +revert) ?_
  exact fun y _ h => absurd h (Nat.not_lt_zero _)

theorem tripO_below10 (v1 : BitVec 32) (k0_hw1 : k0_chk1 v1) (v2 : BitVec 32)
    (h2 : k0_cond2 v1 ≠ 1#1) (h3 : k0_cond3 v1 = 1#1) (h4 : k0_cond4 v1 ≠ 1#1) (h5 : k0_cond5 v1 = 1#1)
    X3 X4 X17 X18 (k : Fin k0_t3_loop.trips) :
    Below (tripO (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 h2 h3 h4 h5 X3 X4 X17 X18 k).2.1 k.val 512 := by
  unfold tripO
  dsimp only
  iterate 32 refine below_cons (by decide +kernel +revert) ?_
  exact fun y _ h => absurd h (Nat.not_lt_zero _)

end Cert.Proof.KernelIdeal

end
-- ==== Proof.KernelIdealLoopVal.lean ====
module

public import proofs.«01_k».proof.Proof.KernelIdealWin

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- Trip after trip writes pieces that agree with `G`, each trip all of its head: in the end `G` is read back. -/
theorem loop_read {sig : RefSig} {κ : Kind} {sp : Space} {s : Shape} {e : EltTy} (v : View sig κ sp s e) (f : BufTy.Contents (Elt Ideal) v.ty)
    (hd : s.Idx → Nat) (T : Nat) (hT : ∀ y, hd y < T) (L : Nat → List (View.Piece (Elt Ideal) s e)) (tr : Fin T → List (View.Piece (Elt Ideal) s e))
    (h0 : L 0 = []) (hs : ∀ k : Fin T, L (k.val + 1) = tr k ++ L k.val) (G : s.Idx → Elt Ideal e)
    (hA : ∀ k, Agree (tr k) G ∧ ∀ y, hd y = k.val → ∃ p ∈ tr k, y ∈ p.1.set) :
    v.read (Elt Ideal) (v.writes (Elt Ideal) f (L T)) = G := by
  have key : ∀ k, k ≤ T → Agree (L k) G ∧ ∀ y, hd y < k → ∃ p ∈ L k, y ∈ p.1.set := by
    intro k
    induction k with
    | zero => intro _; rw [h0]; exact ⟨agree_nil G, fun y h => absurd h (Nat.not_lt_zero _)⟩
    | succ k ih =>
      intro hk
      obtain ⟨i1, i2⟩ := ih (Nat.le_of_succ_le hk)
      rw [hs ⟨k, hk⟩]
      refine ⟨agree_append (hA _).1 i1, fun y hy => ?_⟩
      by_cases e : hd y = k
      · obtain ⟨p, hp, hm⟩ := (hA ⟨k, hk⟩).2 y e
        exact ⟨p, List.mem_append_left _ hp, hm⟩
      · obtain ⟨p, hp, hm⟩ := i2 y (by omega)
        exact ⟨p, List.mem_append_right _ hp, hm⟩
  obtain ⟨k1, k2⟩ := key T le_rfl
  exact funext fun y => View.read_writes_apply_of_pieces v f G (L T) k1 y (k2 y (hT y))

/-- The branch taken says whether the window length is even. -/
theorem even_of_cond {v1 : BitVec 32} (h1 : 512 ≤ v1.toNat) (h2 : v1.toNat ≤ 768) (h : k0_cond2 v1 = 1#1) : v1.toNat % 2 = 0 := by
  have hs : (Scalar.subi v1 512#32).toNat = v1.toNat - 512 := by
    unfold Scalar.subi IntOp.subi
    rw [BitVec.toNat_sub]; simp only [BitVec.toNat_ofNat]; omega
  have ha : (Scalar.andi (Scalar.subi v1 512#32) 1#32).toNat = (v1.toNat - 512) % 2 := by
    unfold Scalar.andi IntOp.andi
    rw [BitVec.toNat_and, hs]; simp only [BitVec.toNat_ofNat]; exact Nat.and_one_is_mod _
  rcases parity v1 with e | e
  · rw [e] at ha; simp only [BitVec.toNat_ofNat] at ha; omega
  · simp only [k0_cond2, e] at h; exact absurd h (by decide)

theorem odd_of_cond {v1 : BitVec 32} (h1 : 512 ≤ v1.toNat) (h2 : v1.toNat ≤ 768) (h : k0_cond2 v1 ≠ 1#1) : v1.toNat % 2 = 1 := by
  have hs : (Scalar.subi v1 512#32).toNat = v1.toNat - 512 := by
    unfold Scalar.subi IntOp.subi
    rw [BitVec.toNat_sub]; simp only [BitVec.toNat_ofNat]; omega
  have ha : (Scalar.andi (Scalar.subi v1 512#32) 1#32).toNat = (v1.toNat - 512) % 2 := by
    unfold Scalar.andi IntOp.andi
    rw [BitVec.toNat_and, hs]; simp only [BitVec.toNat_ofNat]; exact Nat.and_one_is_mod _
  rcases parity v1 with e | e
  · simp only [k0_cond2, e] at h; exact absurd (by decide) h
  · rw [e] at ha; simp only [BitVec.toNat_ofNat] at ha; omega

theorem trips_eq : k0_t3_loop.trips = 4 := by decide

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)  (v1 : BitVec 32) (k0_hw1 : k0_chk1 v1) (v2 : BitVec 32) (X3 : BufTy.Contents (Elt Ideal) arg3.view.ty) (X4 : BufTy.Contents (Elt Ideal) arg4.view.ty) (X17 : BufTy.Contents (Elt Ideal) arg17.view.ty) (X18 : BufTy.Contents (Elt Ideal) arg18.view.ty)

/-- What the four trips leave in the first window. -/
theorem pb_win9 (x3 : S1x4x768x128.Idx → EReal) (hl : 512 ≤ v1.toNat) (hu : v1.toNat ≤ 768) (hx : arg3.view.read (Elt Ideal) X3 = x3) (f : BufTy.Contents (Elt Ideal) arg9.view.ty) :
    arg9.view.read (Elt Ideal) (arg9.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).1) = winSpec x3 (v1.toNat - 512) := by
  refine loop_read arg9.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).1) ?_ (fun k => by rw [pb_k0_t3_succ]) _ (fun k => ?_)
  · rw [pb_k0_t3.eq_1]
  · by_cases h : k0_cond2 v1 = 1#1
    · simp only [tripL_k0_t3, dif_pos h]
      exact ⟨tripE_win9 _ _ _ _ _ _ _ _ _ _ _ _ _ _ _ _ _ _ _ _ _ _ _ _ _ _ _ _ _ _ _ _ _ _ _ _ _ _ _ _ _ h (cond3_even h) h (cond3_even h) _ _ _ _ k x3 hx hl hu (even_of_cond hl hu h),
        fun y hy => tripE_below9 _ _ _ _ _ _ _ _ _ _ _ _ _ _ _ _ _ _ _ _ _ _ _ _ _ _ _ _ _ _ _ _ _ _ _ _ _ _ _ _ _ h (cond3_even h) h (cond3_even h) _ _ _ _ k y hy (y 2).isLt⟩
    · simp only [tripL_k0_t3, dif_neg h]
      exact ⟨tripO_win9 _ _ _ _ _ _ _ _ _ _ _ _ _ _ _ _ _ _ _ _ _ _ _ _ _ _ _ _ _ _ _ _ _ _ _ _ _ _ _ _ _ h (cond3_odd h) h (cond3_odd h) _ _ _ _ k x3 hx hl hu (odd_of_cond hl hu h),
        fun y hy => tripO_below9 _ _ _ _ _ _ _ _ _ _ _ _ _ _ _ _ _ _ _ _ _ _ _ _ _ _ _ _ _ _ _ _ _ _ _ _ _ _ _ _ _ h (cond3_odd h) h (cond3_odd h) _ _ _ _ k y hy (y 2).isLt⟩

/-- What the four trips leave in the second window. -/
theorem pb_win10 (x3 : S1x4x768x128.Idx → EReal) (hl : 512 ≤ v1.toNat) (hu : v1.toNat ≤ 768) (hx : arg4.view.read (Elt Ideal) X4 = x3) (f : BufTy.Contents (Elt Ideal) arg10.view.ty) :
    arg10.view.read (Elt Ideal) (arg10.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.1) = winSpec x3 (v1.toNat - 512) := by
  refine loop_read arg10.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.1) ?_ (fun k => by rw [pb_k0_t3_succ]) _ (fun k => ?_)
  · rw [pb_k0_t3.eq_1]
  · by_cases h : k0_cond2 v1 = 1#1
    · simp only [tripL_k0_t3, dif_pos h]
      exact ⟨tripE_win10 _ _ _ _ _ _ _ _ _ _ _ _ _ _ _ _ _ _ _ _ _ _ _ _ _ _ _ _ _ _ _ _ _ _ _ _ _ _ _ _ _ h (cond3_even h) h (cond3_even h) _ _ _ _ k x3 hx hl hu (even_of_cond hl hu h),
        fun y hy => tripE_below10 _ _ _ _ _ _ _ _ _ _ _ _ _ _ _ _ _ _ _ _ _ _ _ _ _ _ _ _ _ _ _ _ _ _ _ _ _ _ _ _ _ h (cond3_even h) h (cond3_even h) _ _ _ _ k y hy (y 2).isLt⟩
    · simp only [tripL_k0_t3, dif_neg h]
      exact ⟨tripO_win10 _ _ _ _ _ _ _ _ _ _ _ _ _ _ _ _ _ _ _ _ _ _ _ _ _ _ _ _ _ _ _ _ _ _ _ _ _ _ _ _ _ h (cond3_odd h) h (cond3_odd h) _ _ _ _ k x3 hx hl hu (odd_of_cond hl hu h),
        fun y hy => tripO_below10 _ _ _ _ _ _ _ _ _ _ _ _ _ _ _ _ _ _ _ _ _ _ _ _ _ _ _ _ _ _ _ _ _ _ _ _ _ _ _ _ _ h (cond3_odd h) h (cond3_odd h) _ _ _ _ k y hy (y 2).isLt⟩

end Cert.Proof.KernelIdeal

end
-- ==== Proof.KernelIdealQuant.lean ====
module

public import proofs.«01_k».proof.Proof.KernelIdealTripE
public import Idealize.ShloMosaic.Lib.Pointwise

/-! What one head's scales and zeros are, read off the body's vector operations: a group's least and greatest
product, each over the four rows of eight tiles that hold the group, times the group's clip. -/

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- The sublane of every element of a register. -/
abbrev subs : IVec S8x128 32 := iota Kind.tc S8x128 32 [0] iota_S8x128_d0_w32
/-- The lane of every element of a register. -/
abbrev lanes : IVec S8x128 32 := iota Kind.tc S8x128 32 [1] iota_S8x128_d1_w32

/-- Lane `l` of half `c` of the tokens. -/
def lane (c : Nat) (l : Fin 128) : Fin 256 :=
  match c with
  | 0 => ⟨l.val, Nat.lt_trans l.isLt (by decide)⟩
  | _ => ⟨128 + l.val, Nat.add_lt_add_left l.isLt 128⟩

/-- An entry of the tile of half `o` of the rows, place `m`, and half `c` of the tokens. -/
def tileAt (Y : S128x256.Idx → EReal) (o c m i : Nat) (l : Fin 128) : EReal :=
  Y (ix2 (⟨(64 * o + 8 * m + i) % 128, Nat.mod_lt _ (by decide)⟩ : Fin 128) (lane c l))

/-- Eight tiles folded. -/
def fold8 (op : EReal → EReal → EReal) (Y : S128x256.Idx → EReal) (o c i : Nat) (l : Fin 128) : EReal :=
  op (op (op (op (op (op (op (tileAt Y o c 0 i l) (tileAt Y o c 1 i l)) (tileAt Y o c 2 i l)) (tileAt Y o c 3 i l)) (tileAt Y o c 4 i l))
    (tileAt Y o c 5 i l)) (tileAt Y o c 6 i l)) (tileAt Y o c 7 i l)

/-- A group's fold: the four rows of eight tiles that belong to it. -/
def foldG (op : EReal → EReal → EReal) (Y : S128x256.Idx → EReal) (i : Fin 8) (l : Fin 128) : EReal :=
  op (op (fold8 op Y (i.val / 2 % 2) (i.val % 2) i.val l) (fold8 op Y (i.val / 2 % 2) (i.val % 2) (i.val ^^^ 2) l))
    (op (fold8 op Y (i.val / 2 % 2) (i.val % 2) (i.val ^^^ 1) l) (fold8 op Y (i.val / 2 % 2) (i.val % 2) (i.val ^^^ 3) l))

/-- The scale of a range. -/
def scaleOf (lo hi : EReal) : EReal :=
  if 0 < hi - lo then Ideal.div (hi - lo) (Ideal.ofBits .f32 1097859072#32) else 1

/-- One row of a stored register: the group's entry where the token is kept, 0 elsewhere. -/
def outRow (v2 : BitVec 32) (z : S8x128.Idx → EReal) (c : Nat) (g : Fin 4) (l : Fin 128) : EReal :=
  Scalar.select (IntOp.cmpi .slt (IntOp.addi (BitVec.ofNat 32 l.val) (match c with | 0 => 0#32 | _ => 128#32)) v2)
    (z (ix2 (⟨(4 * (g.val % 2) + 2 * (g.val / 2) + c) % 8, Nat.mod_lt _ (by decide)⟩ : Fin 8) l)) 0

variable (a : S1x1x128x128.Idx → EReal) (x : S1x256x128.Idx → EReal) (C : S1x1x8x128.Idx → EReal) (v2 : BitVec 32)

theorem prod_k (r : Fin 128) (t : Fin 256) : k0_pay240 (F := Ideal) a x (ix2 r t) = ∑ j : Fin 128, a (ix4 0 0 r j) * x (ix3 0 t j) := by
  pointwise [k0_pay240]

theorem prod_v (r : Fin 128) (t : Fin 256) : k0_pay311 (F := Ideal) a x (ix2 r t) = ∑ j : Fin 128, a (ix4 0 0 r j) * x (ix3 0 t j) := by
  pointwise [k0_pay311]

/-- The first operand's zeros of a head, a row to a sublane. -/
def zeroK : S8x128.Idx → EReal :=
  k0_pay263 (F := Ideal) (k0_pay239 C) (k0_pay248 subs (k0_pay242 a x) (k0_pay245 (k0_pay240 a x)) (k0_pay246 subs (k0_pay240 a x) (k0_pay241 a x) (k0_pay243 a x) (k0_pay244 a x)) (k0_pay247 subs) 0#32)

theorem zeroK_apply (i : Fin 8) (l : Fin 128) : zeroK a x C (ix2 i l) = C (ix4 0 0 i l) * foldG min (k0_pay240 (F := Ideal) a x) i l := by
  unfold zeroK
  fin_cases i
  all_goals pointwise [k0_pay263, k0_pay261, k0_pay239, k0_pay248, k0_pay242, k0_pay241, k0_pay243, k0_pay244, k0_pay245, k0_pay246, k0_pay247]
  all_goals rfl

/-- The second operand's. -/
def zeroV : S8x128.Idx → EReal :=
  let Y := k0_pay311 (F := Ideal) a x
  let r52 := k0_pay314 Y (k0_pay313 a x)
  let r54 := k0_pay317 subs Y (k0_pay312 a x)
  let r55 := k0_pay318 subs Y (k0_pay312 a x)
  k0_pay337 (k0_pay310 C) (k0_pay327 (k0_pay324 subs r52 (k0_pay316 Y) r54 r55 (k0_pay319 subs) (k0_pay320 subs) k0_pay321)
    (k0_pay325 subs r52 (k0_pay316 Y) r54 r55 (k0_pay319 subs) (k0_pay320 subs) k0_pay321) (k0_pay326 subs))

theorem zeroV_apply (i : Fin 8) (l : Fin 128) : zeroV a x C (ix2 i l) = C (ix4 0 0 i l) * foldG min (k0_pay311 (F := Ideal) a x) i l := by
  unfold zeroV
  fin_cases i
  all_goals pointwise [k0_pay337, k0_pay335, k0_pay310, k0_pay327, k0_pay326, k0_pay325, k0_pay324, k0_pay323, k0_pay322, k0_pay321, k0_pay320, k0_pay319, k0_pay318, k0_pay317, k0_pay316, k0_pay315, k0_pay314, k0_pay313, k0_pay312]
  all_goals rfl

/-- The first operand's scales of a head. -/
def scaleK : S8x128.Idx → EReal :=
  let Y := k0_pay240 (F := Ideal) a x
  let r11 := k0_pay251 Y (k0_pay249 Y) (k0_pay250 Y)
  let r15 := k0_pay255 subs Y (k0_pay249 Y) (k0_pay250 Y)
  k0_pay262 (k0_pay239 C) subs (k0_pay248 subs (k0_pay242 a x) (k0_pay245 Y) (k0_pay246 subs Y (k0_pay241 a x) (k0_pay243 a x) (k0_pay244 a x)) (k0_pay247 subs) 0#32)
    (k0_pay256 subs r11 (k0_pay253 Y) r15 2#32) (k0_pay257 subs (k0_pay252 Y) (k0_pay254 Y)) (k0_pay258 subs r11 (k0_pay252 Y) (k0_pay253 Y) (k0_pay254 Y) r15 2#32) (k0_pay259 subs) k0_pay260

/-- The second operand's. -/
def scaleV : S8x128.Idx → EReal :=
  let Y := k0_pay311 (F := Ideal) a x
  let r52 := k0_pay314 Y (k0_pay313 a x)
  let r54 := k0_pay317 subs Y (k0_pay312 a x)
  let r55 := k0_pay318 subs Y (k0_pay312 a x)
  k0_pay336 (k0_pay310 C) subs (k0_pay327 (k0_pay324 subs r52 (k0_pay316 Y) r54 r55 (k0_pay319 subs) (k0_pay320 subs) k0_pay321)
    (k0_pay325 subs r52 (k0_pay316 Y) r54 r55 (k0_pay319 subs) (k0_pay320 subs) k0_pay321) (k0_pay326 subs))
    (k0_pay332 subs (k0_pay328 Y) (k0_pay330 Y)) (k0_pay333 subs Y (k0_pay329 Y) (k0_pay331 Y)) k0_pay334

theorem scaleK_apply (i : Fin 8) (l : Fin 128) : scaleK a x C (ix2 i l)
    = scaleOf (C (ix4 0 0 i l) * foldG min (k0_pay240 (F := Ideal) a x) i l) (C (ix4 0 0 i l) * foldG max (k0_pay240 (F := Ideal) a x) i l) := by
  unfold scaleK
  fin_cases i
  all_goals pointwise [k0_pay262, k0_pay261, k0_pay260, k0_pay259, k0_pay258, k0_pay257, k0_pay256, k0_pay255, k0_pay254, k0_pay253, k0_pay252, k0_pay251, k0_pay250, k0_pay249, k0_pay239, k0_pay248, k0_pay242, k0_pay241, k0_pay243, k0_pay244, k0_pay245, k0_pay246, k0_pay247]
  all_goals rfl

theorem scaleV_apply (i : Fin 8) (l : Fin 128) : scaleV a x C (ix2 i l)
    = scaleOf (C (ix4 0 0 i l) * foldG min (k0_pay311 (F := Ideal) a x) i l) (C (ix4 0 0 i l) * foldG max (k0_pay311 (F := Ideal) a x) i l) := by
  unfold scaleV
  fin_cases i
  all_goals pointwise [k0_pay336, k0_pay335, k0_pay334, k0_pay333, k0_pay332, k0_pay331, k0_pay330, k0_pay329, k0_pay328, k0_pay310, k0_pay327, k0_pay326, k0_pay325, k0_pay324, k0_pay323, k0_pay322, k0_pay321, k0_pay320, k0_pay319, k0_pay318, k0_pay317, k0_pay316, k0_pay315, k0_pay314, k0_pay313, k0_pay312]
  all_goals rfl

variable (z : S8x128.Idx → EReal) (g : Fin 4) (l : Fin 128)

theorem row_k13_0 : k0_pay270 (F := Ideal) z (k0_pay264 subs) (k0_pay265 v2 subs lanes) (ix4 0 0 g l) = outRow v2 z 0 g l := by
  fin_cases g
  all_goals pointwise [k0_pay270, k0_pay268, k0_pay265, k0_pay264]
  all_goals rfl
theorem row_k13_1 : k0_pay273 (F := Ideal) (k0_pay272 z (k0_pay264 subs) (k0_pay265 v2 subs lanes)) (ix4 0 0 g l) = outRow v2 z 1 g l := by
  fin_cases g
  all_goals pointwise [k0_pay273, k0_pay272, k0_pay268, k0_pay265, k0_pay264]
  all_goals rfl
theorem row_k12_0 : k0_pay269 (F := Ideal) z (k0_pay264 subs) (k0_pay265 v2 subs lanes) (k0_pay266 subs) (ix4 0 0 g l) = outRow v2 z 0 g l := by
  fin_cases g
  all_goals pointwise [k0_pay269, k0_pay267, k0_pay266, k0_pay265, k0_pay264]
  all_goals rfl
theorem row_k12_1 : k0_pay271 (F := Ideal) z (k0_pay264 subs) (k0_pay265 v2 subs lanes) (k0_pay266 subs) (ix4 0 0 g l) = outRow v2 z 1 g l := by
  fin_cases g
  all_goals pointwise [k0_pay271, k0_pay267, k0_pay266, k0_pay265, k0_pay264]
  all_goals rfl
theorem row_v15_0 : k0_pay343 (F := Ideal) v2 lanes z (k0_pay338 subs) (k0_pay339 subs) 128#32 (ix4 0 0 g l) = outRow v2 z 0 g l := by
  fin_cases g
  all_goals pointwise [k0_pay343, k0_pay341, k0_pay340, k0_pay339, k0_pay338]
  all_goals rfl
theorem row_v15_1 : k0_pay346 (F := Ideal) (k0_pay345 v2 lanes z (k0_pay338 subs) (k0_pay339 subs) 128#32) (ix4 0 0 g l) = outRow v2 z 1 g l := by
  fin_cases g
  all_goals pointwise [k0_pay346, k0_pay345, k0_pay341, k0_pay340, k0_pay339, k0_pay338]
  all_goals rfl
theorem row_v16_0 : k0_pay344 (F := Ideal) v2 lanes z (k0_pay338 subs) (k0_pay339 subs) 128#32 (ix4 0 0 g l) = outRow v2 z 0 g l := by
  fin_cases g
  all_goals pointwise [k0_pay344, k0_pay342, k0_pay340, k0_pay339, k0_pay338]
  all_goals rfl
theorem row_v16_1 : k0_pay347 (F := Ideal) (k0_pay342 v2 lanes z (k0_pay338 subs) (k0_pay339 subs) 128#32) (ix4 0 0 g l) = outRow v2 z 1 g l := by
  fin_cases g
  all_goals pointwise [k0_pay347, k0_pay342, k0_pay340, k0_pay339, k0_pay338]
  all_goals rfl

end Cert.Proof.KernelIdeal

end
-- ==== Proof.KernelIdealQuantTrip.lean ====
module

public import proofs.«01_k».proof.Proof.KernelIdealLoopVal
public import proofs.«01_k».proof.Proof.KernelIdealQuant
public import Idealize.ShloMosaic.Lib.ValueLayout
public import Idealize.ShloMosaic.Lib.VecWindow

/-! The scales and zeros the four trips leave, in terms of the block and of the two scratch tables. -/

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- The permuted head: row `r` of the table `t` of head `h` against every token. -/
def prodAt (x : S1x4x768x128.Idx → EReal) (s17 : S2x4x128x128.Idx → EReal) (t : Fin 2) (h : Fin 4) : S128x256.Idx → EReal := fun j =>
  ∑ q : Fin 128, s17 (ix4 t h (j 0) q) * x (ix4 0 h (⟨(j 1).val, Nat.lt_trans (j 1).isLt (by decide)⟩ : Fin 768) q)

/-- A head's zeros. -/
def zeroRow (x : S1x4x768x128.Idx → EReal) (s17 : S2x4x128x128.Idx → EReal) (s18 : S2x4x8x128.Idx → EReal) (t : Fin 2) (h : Fin 4) : S8x128.Idx → EReal := fun j =>
  s18 (ix4 t h (j 0) (j 1)) * foldG min (prodAt x s17 t h) (j 0) (j 1)

/-- A head's scales. -/
def scaleRow (x : S1x4x768x128.Idx → EReal) (s17 : S2x4x128x128.Idx → EReal) (s18 : S2x4x8x128.Idx → EReal) (t : Fin 2) (h : Fin 4) : S8x128.Idx → EReal := fun j =>
  scaleOf (s18 (ix4 t h (j 0) (j 1)) * foldG min (prodAt x s17 t h) (j 0) (j 1)) (s18 (ix4 t h (j 0) (j 1)) * foldG max (prodAt x s17 t h) (j 0) (j 1))

/-- The block of a result whose heads' registers are `zs`. -/
def outG (v2 : BitVec 32) (zs : Fin 4 → S8x128.Idx → EReal) : S1x4x4x256.Idx → EReal := fun y =>
  outRow v2 (zs (y 1)) ((y 3).val / 128) (y 2) (⟨(y 3).val % 128, Nat.mod_lt _ (by decide)⟩ : Fin 128)

theorem split2 {m n : Nat} (y : (⟨2, ![m, n]⟩ : Shape).Idx) : ∃ (a : Fin m) (b : Fin n), y = ix2 a b :=
  ⟨y 0, y 1, by funext a; fin_cases a <;> rfl⟩

theorem split4 {m n p q : Nat} (y : (⟨4, ![m, n, p, q]⟩ : Shape).Idx) : ∃ (a : Fin m) (b : Fin n) (c : Fin p) (d : Fin q), y = ix4 a b c d :=
  ⟨y 0, y 1, y 2, y 3, by funext a; fin_cases a <;> rfl⟩

/-- The two halves a head stores agree with the block. -/
theorem agree_two (v2 : BitVec 32) (k : Fin 4) {oA oB : Fin 4 → Nat} (hA : oA = ![0, k.val, 0, 128]) (hB : oB = ![0, k.val, 0, 0])
    {iA : ∀ a, oA a + S1x1x4x128.size a ≤ S1x4x4x256.size a} {iB : ∀ a, oB a + S1x1x4x128.size a ≤ S1x4x4x256.size a}
    {wA wB : S1x1x4x128.Idx → EReal} (z : S8x128.Idx → EReal) (zs : Fin 4 → S8x128.Idx → EReal) (hz : z = zs k)
    (hwA : ∀ g l, wA (ix4 0 0 g l) = outRow v2 z 1 g l) (hwB : ∀ g l, wB (ix4 0 0 g l) = outRow v2 z 0 g l) :
    Agree (e := .fp8e4m3) (s := S1x4x4x256) [⟨Rect.unit (s := S1x4x4x256) oA S1x1x4x128.size iA, wA⟩, ⟨Rect.unit (s := S1x4x4x256) oB S1x1x4x128.size iB, wB⟩] (outG v2 zs) := by
  subst hA hB hz
  refine agree_cons (fun (x : S1x1x4x128.Idx) => ?_) (agree_cons (fun (x : S1x1x4x128.Idx) => ?_) (agree_nil _))
  · obtain ⟨a, b, g, l, rfl⟩ := split4 (m := 1) (n := 1) (p := 4) (q := 128) x
    obtain rfl : a = 0 := Subsingleton.elim _ _
    obtain rfl : b = 0 := Subsingleton.elim _ _
    have hl := l.isLt
    refine (hwA _ _).trans ?_
    show outRow v2 (zs k) 1 g l = outRow v2 (zs ⟨k.val + 1 * 0, _⟩) ((128 + 1 * l.val) / 128) ⟨0 + 1 * g.val, _⟩ ⟨(128 + 1 * l.val) % 128, _⟩
    congr 1
    · omega
    · exact Fin.ext (by show g.val = 0 + 1 * g.val; omega)
    · exact Fin.ext (by show l.val = (128 + 1 * l.val) % 128; omega)
  · obtain ⟨a, b, g, l, rfl⟩ := split4 (m := 1) (n := 1) (p := 4) (q := 128) x
    obtain rfl : a = 0 := Subsingleton.elim _ _
    obtain rfl : b = 0 := Subsingleton.elim _ _
    have hl := l.isLt
    refine (hwB _ _).trans ?_
    show outRow v2 (zs k) 0 g l = outRow v2 (zs ⟨k.val + 1 * 0, _⟩) ((0 + 1 * l.val) / 128) ⟨0 + 1 * g.val, _⟩ ⟨(0 + 1 * l.val) % 128, _⟩
    congr 1
    · omega
    · exact Fin.ext (by show g.val = 0 + 1 * g.val; omega)
    · exact Fin.ext (by show l.val = (0 + 1 * l.val) % 128; omega)

/-- And they are all of the head. -/
theorem cover_two (k : Fin 4) {oA oB : Fin 4 → Nat} (hA : oA = ![0, k.val, 0, 128]) (hB : oB = ![0, k.val, 0, 0])
    {iA : ∀ a, oA a + S1x1x4x128.size a ≤ S1x4x4x256.size a} {iB : ∀ a, oB a + S1x1x4x128.size a ≤ S1x4x4x256.size a}
    {wA wB : S1x1x4x128.Idx → EReal} (y : S1x4x4x256.Idx) (hy : (y 1).val = k.val) :
    ∃ p ∈ ([⟨Rect.unit (s := S1x4x4x256) oA S1x1x4x128.size iA, wA⟩, ⟨Rect.unit (s := S1x4x4x256) oB S1x1x4x128.size iB, wB⟩] : List (View.Piece (Elt Ideal) S1x4x4x256 .fp8e4m3)), y ∈ p.1.set := by
  subst hA hB
  have h0 : (y 0).val < 1 := (y 0).isLt
  have h2 : (y 2).val < 4 := (y 2).isLt
  have h3 : (y 3).val < 256 := (y 3).isLt
  by_cases h : (y 3).val < 128
  · refine ⟨_, List.mem_cons_of_mem _ List.mem_cons_self, ?_⟩
    rw [Rect.mem_set_unit]
    intro a
    fin_cases a
    · show 0 ≤ (y 0).val ∧ (y 0).val < 0 + 1; omega
    · show k.val ≤ (y 1).val ∧ (y 1).val < k.val + 1; omega
    · show 0 ≤ (y 2).val ∧ (y 2).val < 0 + 4; omega
    · show 0 ≤ (y 3).val ∧ (y 3).val < 0 + 128; omega
  · refine ⟨_, List.mem_cons_self, ?_⟩
    rw [Rect.mem_set_unit]
    intro a
    fin_cases a
    · show 0 ≤ (y 0).val ∧ (y 0).val < 0 + 1; omega
    · show k.val ≤ (y 1).val ∧ (y 1).val < k.val + 1; omega
    · show 0 ≤ (y 2).val ∧ (y 2).val < 0 + 4; omega
    · show 128 ≤ (y 3).val ∧ (y 3).val < 128 + 128; omega

/-- Both, as the walk over the four trips asks for them. -/
theorem fills_two (v2 : BitVec 32) (k : Fin 4) {oA oB : Fin 4 → Nat} (hA : oA = ![0, k.val, 0, 128]) (hB : oB = ![0, k.val, 0, 0])
    {iA : ∀ a, oA a + S1x1x4x128.size a ≤ S1x4x4x256.size a} {iB : ∀ a, oB a + S1x1x4x128.size a ≤ S1x4x4x256.size a}
    {wA wB : S1x1x4x128.Idx → EReal} (z : S8x128.Idx → EReal) (zs : Fin 4 → S8x128.Idx → EReal) (hz : z = zs k)
    (hwA : ∀ g l, wA (ix4 0 0 g l) = outRow v2 z 1 g l) (hwB : ∀ g l, wB (ix4 0 0 g l) = outRow v2 z 0 g l) :
    Agree (e := .fp8e4m3) (s := S1x4x4x256) [⟨Rect.unit (s := S1x4x4x256) oA S1x1x4x128.size iA, wA⟩, ⟨Rect.unit (s := S1x4x4x256) oB S1x1x4x128.size iB, wB⟩] (outG v2 zs) ∧ ∀ y : S1x4x4x256.Idx, (y 1).val = k.val → ∃ p ∈ ([⟨Rect.unit (s := S1x4x4x256) oA S1x1x4x128.size iA, wA⟩, ⟨Rect.unit (s := S1x4x4x256) oB S1x1x4x128.size iB, wB⟩] : List (View.Piece (Elt Ideal) S1x4x4x256 .fp8e4m3)), y ∈ p.1.set := by
  exact ⟨agree_two v2 k hA hB z zs hz hwA hwB, fun y hy => cover_two k hA hB y hy⟩

section Loads

variable {sig : RefSig} {κ : Kind} {sp : Space}

theorem load17 (v : View sig κ sp S2x4x128x128 .bf16) (X : BufTy.Contents (Elt Ideal) v.ty) (t : Fin 2) (k : Fin 4) {o : Fin 4 → Nat} (ho : o = ![t.val, k.val, 0, 0])
    (inb : ∀ a, o a + S1x1x128x128.size a ≤ S2x4x128x128.size a) (r q : Fin 128) :
    v.readAt (Elt Ideal) (Rect.unit (s := S2x4x128x128) o S1x1x128x128.size inb).toLoadRect X (ix4 0 0 r q) = (v.read (Elt Ideal) X : S2x4x128x128.Idx → EReal) (ix4 t k r q) := by
  subst ho
  show v.read (Elt Ideal) X _ = v.read (Elt Ideal) X _
  congr 1
  funext a
  apply Fin.ext
  fin_cases a
  · rfl
  · rfl
  · show 0 + 1 * r.val = r.val; omega
  · show 0 + 1 * q.val = q.val; omega

theorem load18 (v : View sig κ sp S2x4x8x128 .f32) (X : BufTy.Contents (Elt Ideal) v.ty) (t : Fin 2) (k : Fin 4) {o : Fin 4 → Nat} (ho : o = ![t.val, k.val, 0, 0])
    (inb : ∀ a, o a + S1x1x8x128.size a ≤ S2x4x8x128.size a) (r : Fin 8) (q : Fin 128) :
    v.readAt (Elt Ideal) (Rect.unit (s := S2x4x8x128) o S1x1x8x128.size inb).toLoadRect X (ix4 0 0 r q) = (v.read (Elt Ideal) X : S2x4x8x128.Idx → EReal) (ix4 t k r q) := by
  subst ho
  show v.read (Elt Ideal) X _ = v.read (Elt Ideal) X _
  congr 1
  funext a
  apply Fin.ext
  fin_cases a
  · rfl
  · rfl
  · show 0 + 1 * r.val = r.val; omega
  · show 0 + 1 * q.val = q.val; omega

theorem load3 (m : Memref sig κ sp S1x4x768x128 .bf16) (X : BufTy.Contents (Elt Ideal) m.view.ty) (k : Fin 4) {o : Fin 3 → Nat} (ho : o = ![k.val, 0, 0])
    (inb : ∀ a, o a + S1x256x128.size a ≤ S4x768x128.size a) (h1 : ∀ a, (![0, 0, 0, 0] : Fin 4 → Nat) a + S1x4x768x128.size a ≤ S1x4x768x128.size a) (h2) (h3) (r : Fin 256) (q : Fin 128) :
    ((m.slice (Rect.unit (s := S1x4x768x128) ![0, 0, 0, 0] S1x4x768x128.size h1) h2).squeeze S4x768x128 h3).view.readAt (Elt Ideal) (Rect.unit (s := S4x768x128) o S1x256x128.size inb).toLoadRect X (ix3 0 r q)
      = (m.view.read (Elt Ideal) X : S1x4x768x128.Idx → EReal) (ix4 0 k (⟨r.val, Nat.lt_trans r.isLt (by decide)⟩ : Fin 768) q) := by
  subst ho
  rw [View.readAt_eq_ld, Memref.read_squeeze_full]
  generalize m.view.read (Elt Ideal) X = x
  show x (Shape.reshapeEquiv (s := S1x4x768x128) _ ((Rect.unit (s := S4x768x128) ![k.val, 0, 0] S1x256x128.size inb).emb (ix3 0 r q))) = _
  rw [show (Rect.unit (s := S4x768x128) ![k.val, 0, 0] S1x256x128.size inb).emb (ix3 0 r q) = ix3 (n0 := 4) (n1 := 768) (n2 := 128) k ⟨r.val, Nat.lt_trans r.isLt (by decide)⟩ q from ?_]
  · exact congrArg x (Idealize.ShloMosaic.ValueIdx.reshapeEquiv_ix3_1abc _ _ _ _)
  funext a
  apply Fin.ext
  fin_cases a
  · rfl
  · show 0 + 1 * r.val = r.val; omega
  · show 0 + 1 * q.val = q.val; omega

end Loads

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)  (v1 : BitVec 32) (k0_hw1 : k0_chk1 v1) (v2 : BitVec 32) (X3 : BufTy.Contents (Elt Ideal) arg3.view.ty) (X4 : BufTy.Contents (Elt Ideal) arg4.view.ty) (X17 : BufTy.Contents (Elt Ideal) arg17.view.ty) (X18 : BufTy.Contents (Elt Ideal) arg18.view.ty)

/-- The product a trip forms. -/
theorem prodK_read (k : Fin k0_t3_loop.trips) (k' : Fin 4) (hk : k'.val = k.val) (i17) (i3) (h1) (h2) (h3) :
    k0_pay240 (F := Ideal) (arg17.view.readAt (Elt Ideal) (Rect.unit (s := S2x4x128x128) (k0_off14 k) S1x1x128x128.size i17).toLoadRect X17)
      (((arg3.slice (Rect.unit (s := S1x4x768x128) ![0, 0, 0, 0] S1x4x768x128.size h1) h2).squeeze S4x768x128 h3).view.readAt (Elt Ideal) (Rect.unit (s := S4x768x128) (k0_off16 k) S1x256x128.size i3).toLoadRect X3)
      = prodAt (arg3.view.read (Elt Ideal) X3) (arg17.view.read (Elt Ideal) X17) 0 k' := by
  have e17 : k0_off14 k = ![((0 : Fin 2)).val, k'.val, 0, 0] := by rw [hk]; clear hk; decide +kernel +revert
  have e3 : k0_off16 k = ![k'.val, 0, 0] := by rw [hk]; clear hk; decide +kernel +revert
  funext j
  obtain ⟨r, q', rfl⟩ := split2 (m := 128) (n := 256) j
  rw [prod_k]
  refine Finset.sum_congr rfl fun q _ => ?_
  rw [load17 arg17.view X17 0 k' e17, load3 arg3 X3 k' e3]
  rfl

theorem zeroK_read (x3 : S1x4x768x128.Idx → EReal) (s17 : S2x4x128x128.Idx → EReal) (s18 : S2x4x8x128.Idx → EReal) (hx : arg3.view.read (Elt Ideal) X3 = x3) (h17 : arg17.view.read (Elt Ideal) X17 = s17) (h18 : arg18.view.read (Elt Ideal) X18 = s18) (k : Fin k0_t3_loop.trips) (k' : Fin 4) (hk : k'.val = k.val) (i17) (i18) (i3) (h1) (h2) (h3) :
    zeroK (arg17.view.readAt (Elt Ideal) (Rect.unit (s := S2x4x128x128) (k0_off14 k) S1x1x128x128.size i17).toLoadRect X17)
      (((arg3.slice (Rect.unit (s := S1x4x768x128) ![0, 0, 0, 0] S1x4x768x128.size h1) h2).squeeze S4x768x128 h3).view.readAt (Elt Ideal) (Rect.unit (s := S4x768x128) (k0_off16 k) S1x256x128.size i3).toLoadRect X3)
      (arg18.view.readAt (Elt Ideal) (Rect.unit (s := S2x4x8x128) (k0_off15 k) S1x1x8x128.size i18).toLoadRect X18) = zeroRow x3 s17 s18 0 k' := by
  subst hx h17 h18
  have e18 : k0_off15 k = ![((0 : Fin 2)).val, k'.val, 0, 0] := by rw [hk]; clear hk; decide +kernel +revert
  funext j
  obtain ⟨r, q', rfl⟩ := split2 (m := 8) (n := 128) j
  rw [zeroK_apply, prodK_read _ _ _ _ k k' hk, load18 arg18.view X18 0 k' e18]
  rfl

theorem scaleK_read (x3 : S1x4x768x128.Idx → EReal) (s17 : S2x4x128x128.Idx → EReal) (s18 : S2x4x8x128.Idx → EReal) (hx : arg3.view.read (Elt Ideal) X3 = x3) (h17 : arg17.view.read (Elt Ideal) X17 = s17) (h18 : arg18.view.read (Elt Ideal) X18 = s18) (k : Fin k0_t3_loop.trips) (k' : Fin 4) (hk : k'.val = k.val) (i17) (i18) (i3) (h1) (h2) (h3) :
    scaleK (arg17.view.readAt (Elt Ideal) (Rect.unit (s := S2x4x128x128) (k0_off14 k) S1x1x128x128.size i17).toLoadRect X17)
      (((arg3.slice (Rect.unit (s := S1x4x768x128) ![0, 0, 0, 0] S1x4x768x128.size h1) h2).squeeze S4x768x128 h3).view.readAt (Elt Ideal) (Rect.unit (s := S4x768x128) (k0_off16 k) S1x256x128.size i3).toLoadRect X3)
      (arg18.view.readAt (Elt Ideal) (Rect.unit (s := S2x4x8x128) (k0_off15 k) S1x1x8x128.size i18).toLoadRect X18) = scaleRow x3 s17 s18 0 k' := by
  subst hx h17 h18
  have e18 : k0_off15 k = ![((0 : Fin 2)).val, k'.val, 0, 0] := by rw [hk]; clear hk; decide +kernel +revert
  funext j
  obtain ⟨r, q', rfl⟩ := split2 (m := 8) (n := 128) j
  rw [scaleK_apply, prodK_read _ _ _ _ k k' hk, load18 arg18.view X18 0 k' e18]
  rfl

/-- The product a trip forms. -/
theorem prodV_read (k : Fin k0_t3_loop.trips) (k' : Fin 4) (hk : k'.val = k.val) (i17) (i3) (h1) (h2) (h3) :
    k0_pay311 (F := Ideal) (arg17.view.readAt (Elt Ideal) (Rect.unit (s := S2x4x128x128) (k0_off90 k) S1x1x128x128.size i17).toLoadRect X17)
      (((arg4.slice (Rect.unit (s := S1x4x768x128) ![0, 0, 0, 0] S1x4x768x128.size h1) h2).squeeze S4x768x128 h3).view.readAt (Elt Ideal) (Rect.unit (s := S4x768x128) (k0_off92 k) S1x256x128.size i3).toLoadRect X4)
      = prodAt (arg4.view.read (Elt Ideal) X4) (arg17.view.read (Elt Ideal) X17) 1 k' := by
  have e17 : k0_off90 k = ![((1 : Fin 2)).val, k'.val, 0, 0] := by rw [hk]; clear hk; decide +kernel +revert
  have e3 : k0_off92 k = ![k'.val, 0, 0] := by rw [hk]; clear hk; decide +kernel +revert
  funext j
  obtain ⟨r, q', rfl⟩ := split2 (m := 128) (n := 256) j
  rw [prod_v]
  refine Finset.sum_congr rfl fun q _ => ?_
  rw [load17 arg17.view X17 1 k' e17, load3 arg4 X4 k' e3]
  rfl

theorem zeroV_read (x3 : S1x4x768x128.Idx → EReal) (s17 : S2x4x128x128.Idx → EReal) (s18 : S2x4x8x128.Idx → EReal) (hx : arg4.view.read (Elt Ideal) X4 = x3) (h17 : arg17.view.read (Elt Ideal) X17 = s17) (h18 : arg18.view.read (Elt Ideal) X18 = s18) (k : Fin k0_t3_loop.trips) (k' : Fin 4) (hk : k'.val = k.val) (i17) (i18) (i3) (h1) (h2) (h3) :
    zeroV (arg17.view.readAt (Elt Ideal) (Rect.unit (s := S2x4x128x128) (k0_off90 k) S1x1x128x128.size i17).toLoadRect X17)
      (((arg4.slice (Rect.unit (s := S1x4x768x128) ![0, 0, 0, 0] S1x4x768x128.size h1) h2).squeeze S4x768x128 h3).view.readAt (Elt Ideal) (Rect.unit (s := S4x768x128) (k0_off92 k) S1x256x128.size i3).toLoadRect X4)
      (arg18.view.readAt (Elt Ideal) (Rect.unit (s := S2x4x8x128) (k0_off91 k) S1x1x8x128.size i18).toLoadRect X18) = zeroRow x3 s17 s18 1 k' := by
  subst hx h17 h18
  have e18 : k0_off91 k = ![((1 : Fin 2)).val, k'.val, 0, 0] := by rw [hk]; clear hk; decide +kernel +revert
  funext j
  obtain ⟨r, q', rfl⟩ := split2 (m := 8) (n := 128) j
  rw [zeroV_apply, prodV_read _ _ _ _ k k' hk, load18 arg18.view X18 1 k' e18]
  rfl

theorem scaleV_read (x3 : S1x4x768x128.Idx → EReal) (s17 : S2x4x128x128.Idx → EReal) (s18 : S2x4x8x128.Idx → EReal) (hx : arg4.view.read (Elt Ideal) X4 = x3) (h17 : arg17.view.read (Elt Ideal) X17 = s17) (h18 : arg18.view.read (Elt Ideal) X18 = s18) (k : Fin k0_t3_loop.trips) (k' : Fin 4) (hk : k'.val = k.val) (i17) (i18) (i3) (h1) (h2) (h3) :
    scaleV (arg17.view.readAt (Elt Ideal) (Rect.unit (s := S2x4x128x128) (k0_off90 k) S1x1x128x128.size i17).toLoadRect X17)
      (((arg4.slice (Rect.unit (s := S1x4x768x128) ![0, 0, 0, 0] S1x4x768x128.size h1) h2).squeeze S4x768x128 h3).view.readAt (Elt Ideal) (Rect.unit (s := S4x768x128) (k0_off92 k) S1x256x128.size i3).toLoadRect X4)
      (arg18.view.readAt (Elt Ideal) (Rect.unit (s := S2x4x8x128) (k0_off91 k) S1x1x8x128.size i18).toLoadRect X18) = scaleRow x3 s17 s18 1 k' := by
  subst hx h17 h18
  have e18 : k0_off91 k = ![((1 : Fin 2)).val, k'.val, 0, 0] := by rw [hk]; clear hk; decide +kernel +revert
  funext j
  obtain ⟨r, q', rfl⟩ := split2 (m := 8) (n := 128) j
  rw [scaleV_apply, prodV_read _ _ _ _ k k' hk, load18 arg18.view X18 1 k' e18]
  rfl

/-- What the four trips leave of the scales of operand 0. -/
theorem pb_val12 (x3 : S1x4x768x128.Idx → EReal) (s17 : S2x4x128x128.Idx → EReal) (s18 : S2x4x8x128.Idx → EReal) (hx : arg3.view.read (Elt Ideal) X3 = x3) (h17 : arg17.view.read (Elt Ideal) X17 = s17) (h18 : arg18.view.read (Elt Ideal) X18 = s18) (f : BufTy.Contents (Elt Ideal) arg12.view.ty) :
    arg12.view.read (Elt Ideal) (arg12.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.2.1) = outG v2 (scaleRow x3 s17 s18 0) := by
  refine loop_read arg12.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.1) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_two v2 ⟨k.val, hk⟩ (by decide +kernel +revert) (by decide +kernel +revert) _ _ (scaleK_read _ _ _ _ _ _ x3 s17 s18 hx h17 h18 k ⟨k.val, hk⟩ rfl _ _ _ _ _ _) (fun g l => row_k12_1 v2 _ g l) (fun g l => row_k12_0 v2 _ g l)

/-- What the four trips leave of the zeros of operand 0. -/
theorem pb_val13 (x3 : S1x4x768x128.Idx → EReal) (s17 : S2x4x128x128.Idx → EReal) (s18 : S2x4x8x128.Idx → EReal) (hx : arg3.view.read (Elt Ideal) X3 = x3) (h17 : arg17.view.read (Elt Ideal) X17 = s17) (h18 : arg18.view.read (Elt Ideal) X18 = s18) (f : BufTy.Contents (Elt Ideal) arg13.view.ty) :
    arg13.view.read (Elt Ideal) (arg13.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.2.2.1) = outG v2 (zeroRow x3 s17 s18 0) := by
  refine loop_read arg13.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.1) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_two v2 ⟨k.val, hk⟩ (by decide +kernel +revert) (by decide +kernel +revert) _ _ (zeroK_read _ _ _ _ _ _ x3 s17 s18 hx h17 h18 k ⟨k.val, hk⟩ rfl _ _ _ _ _ _) (fun g l => row_k13_1 v2 _ g l) (fun g l => row_k13_0 v2 _ g l)

/-- What the four trips leave of the scales of operand 1. -/
theorem pb_val15 (x3 : S1x4x768x128.Idx → EReal) (s17 : S2x4x128x128.Idx → EReal) (s18 : S2x4x8x128.Idx → EReal) (hx : arg4.view.read (Elt Ideal) X4 = x3) (h17 : arg17.view.read (Elt Ideal) X17 = s17) (h18 : arg18.view.read (Elt Ideal) X18 = s18) (f : BufTy.Contents (Elt Ideal) arg15.view.ty) :
    arg15.view.read (Elt Ideal) (arg15.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.2.2.2.2.1) = outG v2 (scaleRow x3 s17 s18 1) := by
  refine loop_read arg15.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.2.1) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_two v2 ⟨k.val, hk⟩ (by decide +kernel +revert) (by decide +kernel +revert) _ _ (scaleV_read _ _ _ _ _ _ x3 s17 s18 hx h17 h18 k ⟨k.val, hk⟩ rfl _ _ _ _ _ _) (fun g l => row_v15_1 v2 _ g l) (fun g l => row_v15_0 v2 _ g l)

/-- What the four trips leave of the zeros of operand 1. -/
theorem pb_val16 (x3 : S1x4x768x128.Idx → EReal) (s17 : S2x4x128x128.Idx → EReal) (s18 : S2x4x8x128.Idx → EReal) (hx : arg4.view.read (Elt Ideal) X4 = x3) (h17 : arg17.view.read (Elt Ideal) X17 = s17) (h18 : arg18.view.read (Elt Ideal) X18 = s18) (f : BufTy.Contents (Elt Ideal) arg16.view.ty) :
    arg16.view.read (Elt Ideal) (arg16.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.2.2.2.2.2) = outG v2 (zeroRow x3 s17 s18 1) := by
  refine loop_read arg16.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.2.2) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.2.2) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_two v2 ⟨k.val, hk⟩ (by decide +kernel +revert) (by decide +kernel +revert) _ _ (zeroV_read _ _ _ _ _ _ x3 s17 s18 hx h17 h18 k ⟨k.val, hk⟩ rfl _ _ _ _ _ _) (fun g l => row_v16_1 v2 _ g l) (fun g l => row_v16_0 v2 _ g l)

end Cert.Proof.KernelIdeal

end
-- ==== Proof.KernelIdealPrep.lean ====
module

public import proofs.«01_k».proof.Proof.KernelIdealQuantTrip

/-! The two scratch tables as the first point of a block of heads fills them: the permuted one-hot rows and the clip factors. -/

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- The place in a permutation that row `r` of the product stands for. -/
def src (r : Fin 128) : Fin 128 := ⟨64 * (r.val / 64) + 8 * (r.val % 8) + r.val / 8 % 8, by omega⟩

/-- Row `r` of the one-hot table of a permutation. -/
def rowOf (p : Fin 128 → BitVec 32) (r q : Fin 128) : EReal := if BitVec.ofNat 32 q.val = p (src r) then 1 else 0

/-- The head a block's head is. -/
def headOf (a : Nat) (h : Nat) : Fin 36 := ⟨(4 * a + h) % 36, Nat.mod_lt _ (by decide)⟩

/-- The one-hot tables of block `a`. -/
def tab17 (a : Nat) (P0 P1 : S36x128.Idx → BitVec 32) : S2x4x128x128.Idx → EReal := fun y =>
  rowOf (fun d => (if (y 0).val = 0 then P0 else P1) (ix2 (headOf a (y 1).val) d)) (y 2) (y 3)

/-- The clip tables of block `a`. -/
def tab18 (a : Nat) (C0 C1 : S4x36.Idx → EReal) : S2x4x8x128.Idx → EReal := fun y =>
  (if (y 0).val = 0 then C0 else C1) (ix2 ⟨(2 * ((y 2).val / 2 % 2) + (y 2).val / 4) % 4, Nat.mod_lt _ (by decide)⟩ (headOf a (y 1).val))

/-- The bit of an equality, as the number the body makes of it. -/
theorem eq_bit (a b : BitVec 32) : FloatOps.sitofp (F := Ideal) .f32 (BitVec.setWidth 32 (IntOp.cmpi .eq a b)) = (if a = b then 1 else 0 : EReal) := by
  by_cases h : a = b
  · rw [if_pos h]
    have e : BitVec.setWidth 32 (IntOp.cmpi .eq a b) = 1#32 := by simp [IntOp.cmpi, h]
    rw [e]
    show (((1#32 : BitVec 32).toInt : ℝ) : EReal) = 1
    norm_num
  · rw [if_neg h]
    have e : BitVec.setWidth 32 (IntOp.cmpi .eq a b) = 0#32 := by simp only [IntOp.cmpi]; rw [beq_eq_false_iff_ne.2 h]; rfl
    rw [e]
    show (((0#32 : BitVec 32).toInt : ℝ) : EReal) = 0
    norm_num

theorem src_bits (r : Fin 128) : IntOp.ori
    (IntOp.ori (IntOp.andi (BitVec.ofNat 32 r.val) 64#32) (IntOp.shli .vector (IntOp.andi (BitVec.ofNat 32 r.val) 7#32) 3#32))
    (IntOp.andi (IntOp.shrsi .vector (BitVec.ofNat 32 r.val) 3#32) 7#32) = BitVec.ofNat 32 (src r).val := by
  decide +kernel +revert

theorem ofNat_inj {n : Nat} (hn : n ≤ 256) {a b : Fin n} (h : BitVec.ofNat 32 a.val = BitVec.ofNat 32 b.val) : a = b := by
  have ha := a.isLt
  have hb := b.isLt
  have e := congrArg BitVec.toNat h
  simp only [BitVec.toNat_ofNat] at e
  exact Fin.ext (by omega)

theorem pay11_apply (p : S1x128.Idx → BitVec 32) (r q : Fin 128) : k0_pay11 (F := Ideal) p (ix4 0 0 r q) = rowOf (fun d => p (ix2 0 d)) r q := by
  pointwise [k0_pay11]
  rw [Finset.sum_eq_single (src r)]
  · rw [src_bits, eq_bit, eq_bit, if_pos rfl, one_mul]
    rfl
  · intro x _ hx
    rw [src_bits, eq_bit, if_neg (fun h => hx (ofNat_inj (by decide) h)), zero_mul]
  · exact fun h => absurd (Finset.mem_univ _) h

theorem head_bits (a : Fin 9) (k : Fin k0_t1_loop.trips) :
    Scalar.addi (Scalar.muli (BitVec.ofNat 32 a.val) 4#32) (Scf.iv 0#32 1#32 k.val) = BitVec.ofNat 32 (headOf a.val k.val).val := by
  decide +kernel +revert

theorem pay12_apply (a : Fin 9) (k : Fin k0_t1_loop.trips) (C : S4x36.Idx → EReal) (g : Fin 4) (l : Fin 128) :
    k0_pay12 (F := Ideal) (BitVec.ofNat 32 a.val) (iota .tc S4x36 32 [1] iota_S4x36_d1_w32) 0#32 1#32 k C (ix2 g l) = C (ix2 g (headOf a.val k.val)) := by
  pointwise [k0_pay12]
  rw [Finset.sum_eq_single (headOf a.val k.val)]
  · rw [head_bits, show IntOp.cmpi .eq (BitVec.ofNat 32 (headOf a.val k.val).val) (BitVec.ofNat 32 (headOf a.val k.val).val) = 1#1 by simp [IntOp.cmpi]]
    rfl
  · intro x _ hx
    rw [head_bits, show IntOp.cmpi .eq (BitVec.ofNat 32 x.val) (BitVec.ofNat 32 (headOf a.val k.val).val) = 0#1 by
      simp only [IntOp.cmpi]; rw [beq_eq_false_iff_ne.2 (fun h => hx (ofNat_inj (by decide) h))]; rfl]
    rfl
  · exact fun h => absurd (Finset.mem_univ _) h

theorem pair_apply (w : S4x128.Idx → EReal) (x : Fin 2) (l : Fin 128) :
    k0_pay1 (F := Ideal) w (ix4 0 0 x l) = w (ix2 0 l) ∧ k0_pay2 (F := Ideal) w (ix4 0 0 x l) = w (ix2 1 l) ∧
    k0_pay3 (F := Ideal) w (ix4 0 0 x l) = w (ix2 2 l) ∧ k0_pay4 (F := Ideal) w (ix4 0 0 x l) = w (ix2 3 l) := by
  refine ⟨?_, ?_, ?_, ?_⟩
  · pointwise [k0_pay1]
  · pointwise [k0_pay2]
  · pointwise [k0_pay3]
  · pointwise [k0_pay4]

/-- Trip after trip writes pieces that agree with `G`, each trip all of its head: so do they all together. -/
theorem loop_pieces {s : Shape} {e : EltTy} (on : s.Idx → Prop) (hd : s.Idx → Nat) (T : Nat) (hT : ∀ y, hd y < T) (L : Nat → List (View.Piece (Elt Ideal) s e))
    (tr : Fin T → List (View.Piece (Elt Ideal) s e)) (h0 : L 0 = []) (hs : ∀ k : Fin T, L (k.val + 1) = tr k ++ L k.val) (G : s.Idx → Elt Ideal e)
    (hA : ∀ k, Agree (tr k) G) (hC : ∀ k y, on y → hd y = k.val → ∃ p ∈ tr k, y ∈ p.1.set) :
    Agree (L T) G ∧ ∀ y, on y → ∃ p ∈ L T, y ∈ p.1.set := by
  have key : ∀ k, k ≤ T → Agree (L k) G ∧ ∀ y, on y → hd y < k → ∃ p ∈ L k, y ∈ p.1.set := by
    intro k
    induction k with
    | zero => intro _; rw [h0]; exact ⟨agree_nil G, fun y _ h => absurd h (Nat.not_lt_zero _)⟩
    | succ k ih =>
      intro hk
      obtain ⟨i1, i2⟩ := ih (Nat.le_of_succ_le hk)
      rw [hs ⟨k, hk⟩]
      refine ⟨agree_append (hA _) i1, fun y ho hy => ?_⟩
      by_cases e : hd y = k
      · obtain ⟨p, hp, hm⟩ := hC ⟨k, hk⟩ y ho e
        exact ⟨p, List.mem_append_left _ hp, hm⟩
      · obtain ⟨p, hp, hm⟩ := i2 y ho (by omega)
        exact ⟨p, List.mem_append_right _ hp, hm⟩
  obtain ⟨k1, k2⟩ := key T le_rfl
  exact ⟨k1, fun y ho => k2 y ho (hT y)⟩

/-- The one piece of a trip's one-hot table. -/
theorem piece17 (t : Fin 2) (a : Nat) (h : Fin 4) (P0 P1 : S36x128.Idx → BitVec 32) {o : Fin 4 → Nat} (ho : o = ![t.val, h.val, 0, 0])
    {inb : ∀ x, o x + S1x1x128x128.size x ≤ S2x4x128x128.size x} (p : S1x128.Idx → BitVec 32)
    (hp : ∀ d, p (ix2 0 d) = (if t.val = 0 then P0 else P1) (ix2 (headOf a h.val) d)) :
    Agree (e := .bf16) (s := S2x4x128x128) [⟨Rect.unit (s := S2x4x128x128) o S1x1x128x128.size inb, k0_pay11 (F := Ideal) p⟩] (tab17 a P0 P1) := by
  subst ho
  refine agree_cons (fun (x : S1x1x128x128.Idx) => ?_) (agree_nil _)
  obtain ⟨x0, x1, r, q, rfl⟩ := split4 (m := 1) (n := 1) (p := 128) (q := 128) x
  obtain rfl : x0 = 0 := Subsingleton.elim _ _
  obtain rfl : x1 = 0 := Subsingleton.elim _ _
  refine (pay11_apply p r q).trans ?_
  show _ = rowOf (fun d => (if t.val = 0 then P0 else P1) (ix2 (headOf a h.val) d)) ⟨0 + 1 * r.val, _⟩ ⟨0 + 1 * q.val, _⟩
  congr 1
  · exact funext hp
  · exact Fin.ext (by show r.val = 0 + 1 * r.val; omega)
  · exact Fin.ext (by show q.val = 0 + 1 * q.val; omega)

theorem piece17_cover (t : Fin 2) (h : Fin 4) {o : Fin 4 → Nat} (ho : o = ![t.val, h.val, 0, 0])
    {inb : ∀ x, o x + S1x1x128x128.size x ≤ S2x4x128x128.size x} (w : S1x1x128x128.Idx → EReal) (y : S2x4x128x128.Idx) (hy : (y 0).val = t.val) (hy' : (y 1).val = h.val) :
    ∃ p ∈ ([⟨Rect.unit (s := S2x4x128x128) o S1x1x128x128.size inb, w⟩] : List (View.Piece (Elt Ideal) S2x4x128x128 .bf16)), y ∈ p.1.set := by
  subst ho
  refine ⟨_, List.mem_cons_self, ?_⟩
  have h2 : (y 2).val < 128 := (y 2).isLt
  have h3 : (y 3).val < 128 := (y 3).isLt
  rw [Rect.mem_set_unit]
  intro x
  fin_cases x
  · show t.val ≤ (y 0).val ∧ (y 0).val < t.val + 1; omega
  · show h.val ≤ (y 1).val ∧ (y 1).val < h.val + 1; omega
  · show 0 ≤ (y 2).val ∧ (y 2).val < 0 + 128; omega
  · show 0 ≤ (y 3).val ∧ (y 3).val < 0 + 128; omega

/-- One pair of rows of a trip's clip table. -/
theorem piece18 (t : Fin 2) (a : Nat) (h : Fin 4) (C0 C1 : S4x36.Idx → EReal) (s : Nat) (g : Fin 4) (hs : 2 * (s / 2 % 2) + s / 4 = g.val) (he : s % 2 = 0)
    {o : Fin 4 → Nat} (ho : o = ![t.val, h.val, s, 0])
    (inb : ∀ x, o x + S1x1x2x128.size x ≤ S2x4x8x128.size x) (w : S1x1x2x128.Idx → EReal)
    (hw : ∀ x l, w (ix4 0 0 x l) = (if t.val = 0 then C0 else C1) (ix2 g (headOf a h.val))) :
    ∀ x : (Rect.unit (s := S2x4x8x128) o S1x1x2x128.size inb).shape.Idx, w x = tab18 a C0 C1 ((Rect.unit (s := S2x4x8x128) o S1x1x2x128.size inb).emb x) := by
  subst ho
  intro (x : S1x1x2x128.Idx)
  obtain ⟨x0, x1, r, q, rfl⟩ := split4 (m := 1) (n := 1) (p := 2) (q := 128) x
  obtain rfl : x0 = 0 := Subsingleton.elim _ _
  obtain rfl : x1 = 0 := Subsingleton.elim _ _
  refine (hw r q).trans ?_
  have hr := r.isLt
  show _ = (if t.val = 0 then C0 else C1) (ix2 ⟨(2 * ((s + 1 * r.val) / 2 % 2) + (s + 1 * r.val) / 4) % 4, _⟩ (headOf a h.val))
  exact congrArg (fun z => (if t.val = 0 then C0 else C1) (ix2 z (headOf a h.val))) (Fin.ext (show g.val = (2 * ((s + 1 * r.val) / 2 % 2) + (s + 1 * r.val) / 4) % 4 by rw [show (s + 1 * r.val) / 2 = s / 2 by omega, show (s + 1 * r.val) / 4 = s / 4 by omega, hs]; have := g.isLt; omega))

theorem piece18_mem (t : Fin 2) (h : Fin 4) {o : Fin 4 → Nat} (s : Nat) (ho : o = ![t.val, h.val, s, 0])
    {inb : ∀ x, o x + S1x1x2x128.size x ≤ S2x4x8x128.size x} (y : S2x4x8x128.Idx) (hy : (y 0).val = t.val) (hy' : (y 1).val = h.val)
    (hs : s ≤ (y 2).val) (hs' : (y 2).val < s + 2) : y ∈ (Rect.unit (s := S2x4x8x128) o S1x1x2x128.size inb).set := by
  subst ho
  have h3 : (y 3).val < 128 := (y 3).isLt
  rw [Rect.mem_set_unit]
  intro x
  fin_cases x
  · show t.val ≤ (y 0).val ∧ (y 0).val < t.val + 1; omega
  · show h.val ≤ (y 1).val ∧ (y 1).val < h.val + 1; omega
  · show s ≤ (y 2).val ∧ (y 2).val < s + 2; omega
  · show 0 ≤ (y 3).val ∧ (y 3).val < 0 + 128; omega

/-- The row of a permutation table a trip reads. -/
theorem load5 {sig : RefSig} {κ : Kind} {sp : Space} (v : View sig κ sp S36x128 .i32) (X : BufTy.Contents (Elt Ideal) v.ty) (a : Fin 36) {o : Fin 2 → Nat} (ho : o = ![a.val, 0])
    (inb : ∀ x, o x + S1x128.size x ≤ S36x128.size x) (d : Fin 128) :
    v.readAt (Elt Ideal) (Rect.unit (s := S36x128) o S1x128.size inb).toLoadRect X (ix2 0 d) = (v.read (Elt Ideal) X : S36x128.Idx → BitVec 32) (ix2 a d) := by
  subst ho
  show v.read (Elt Ideal) X _ = v.read (Elt Ideal) X _
  congr 1
  funext x
  apply Fin.ext
  fin_cases x
  · rfl
  · show 0 + 1 * d.val = d.val; omega

/-- The clip factors a trip reads, all of them. -/
theorem load7 {sig : RefSig} {κ : Kind} {sp : Space} (v : View sig κ sp S4x36 .f32) (X : BufTy.Contents (Elt Ideal) v.ty)
    (inb : ∀ x, (![0, 0] : Fin 2 → Nat) x + S4x36.size x ≤ S4x36.size x) (g : Fin 4) (d : Fin 36) :
    v.readAt (Elt Ideal) (Rect.unit (s := S4x36) ![0, 0] S4x36.size inb).toLoadRect X (ix2 g d) = (v.read (Elt Ideal) X : S4x36.Idx → EReal) (ix2 g d) := by
  show v.read (Elt Ideal) X _ = v.read (Elt Ideal) X _
  congr 1
  funext x
  apply Fin.ext
  fin_cases x
  · show 0 + 1 * g.val = g.val; omega
  · show 0 + 1 * d.val = d.val; omega

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)  (h1 : k0_cond1 i = 1#1)

theorem row_off0 (k : Fin k0_t1_loop.trips) : k0_off2 i k = ![(headOf (i 0).val k.val).val, 0] := by
  unfold k0_off2
  generalize i 0 = a
  revert a
  show ∀ a : Fin 9, _
  decide +kernel +revert

/-- What the trips of operand 0 write into the two tables. -/
theorem prep_0 (Xp : BufTy.Contents (Elt Ideal) arg5.view.ty) (Xc : BufTy.Contents (Elt Ideal) arg7.view.ty)
    (P0 P1 : S36x128.Idx → BitVec 32) (C0 C1 : S4x36.Idx → EReal) (hP : arg5.view.read (Elt Ideal) Xp = P0) (hC : arg7.view.read (Elt Ideal) Xc = C0) :
    (Agree (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t1_loop.trips).1 (tab17 (i 0).val P0 P1) ∧ ∀ y, (y 0).val = 0 → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t1_loop.trips).1, y ∈ p.1.set) ∧
    (Agree (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t1_loop.trips).2 (tab18 (i 0).val C0 C1) ∧ ∀ y, (y 0).val = 0 → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t1_loop.trips).2, y ∈ p.1.set) := by
  have hT : ∀ k : Fin k0_t1_loop.trips, k.val < 4 := fun k => Nat.lt_of_lt_of_le k.isLt k0_t1_abs.2.1
  have o0 : ∀ k : Fin k0_t1_loop.trips, k0_off3 k = ![0, k.val, 0, 0] := by decide +kernel
  have o1 : ∀ k : Fin k0_t1_loop.trips, k0_off4 k = ![0, k.val, 0, 0] := by decide +kernel
  have o2 : ∀ k : Fin k0_t1_loop.trips, k0_off5 k = ![0, k.val, 4, 0] := by decide +kernel
  have o3 : ∀ k : Fin k0_t1_loop.trips, k0_off6 k = ![0, k.val, 2, 0] := by decide +kernel
  have o4 : ∀ k : Fin k0_t1_loop.trips, k0_off7 k = ![0, k.val, 6, 0] := by decide +kernel
  constructor
  · refine loop_pieces (fun y => (y 0).val = 0) (fun y => (y 1).val) k0_t1_loop.trips (fun y => (y 1).isLt) (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).1)
      (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).1) (by rw [pb_k0_t1.eq_1]) (fun k => by rw [pb_k0_t1_succ]) _ (fun k => ?_) (fun k y ho hy => ?_)
    · unfold tripL_k0_t1 trip_k0_t1
      dsimp only
      exact piece17 0 (i 0).val ⟨k.val, hT k⟩ P0 P1 (o0 k) _ (fun d => (load5 arg5.view Xp _ (row_off0 _ k) _ d).trans (by rw [hP]; rfl))
    · unfold tripL_k0_t1 trip_k0_t1
      dsimp only
      exact piece17_cover 0 ⟨k.val, hT k⟩ (o0 k) _ y ho hy
  · refine loop_pieces (fun y => (y 0).val = 0) (fun y => (y 1).val) k0_t1_loop.trips (fun y => (y 1).isLt) (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).2)
      (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).2) (by rw [pb_k0_t1.eq_1]) (fun k => by rw [pb_k0_t1_succ]) _ (fun k => ?_) (fun k y ho hy => ?_)
    · unfold tripL_k0_t1 trip_k0_t1
      dsimp only
      have e : ∀ (g : Fin 4) (l : Fin 128), trip_k0_t1.sl.r arg7 (BitVec.ofNat 32 (i 0).val) (iota .tc S4x36 32 [1] iota_S4x36_d1_w32) Xc k (ix2 g l) = (if ((0 : Fin 2)).val = 0 then C0 else C1) (ix2 g (headOf (i 0).val k.val)) := fun g l =>
        (pay12_apply (i 0) k _ g l).trans ((load7 arg7.view Xc _ g _).trans (by rw [hC]; rfl))
      exact agree_cons (piece18 0 (i 0).val ⟨k.val, hT k⟩ C0 C1 6 3 rfl rfl (o4 k) (k0_off7_inb i k h1) _ (fun x l => ((pair_apply _ x l).2.2.2).trans (e 3 l)))
        (agree_cons (piece18 0 (i 0).val ⟨k.val, hT k⟩ C0 C1 2 2 rfl rfl (o3 k) (k0_off6_inb i k h1) _ (fun x l => ((pair_apply _ x l).2.2.1).trans (e 2 l)))
        (agree_cons (piece18 0 (i 0).val ⟨k.val, hT k⟩ C0 C1 4 1 rfl rfl (o2 k) (k0_off5_inb i k h1) _ (fun x l => ((pair_apply _ x l).2.1).trans (e 1 l)))
        (agree_cons (piece18 0 (i 0).val ⟨k.val, hT k⟩ C0 C1 0 0 rfl rfl (o1 k) (k0_off4_inb i k h1) _ (fun x l => ((pair_apply _ x l).1).trans (e 0 l)))
        (agree_nil _))))
    · unfold tripL_k0_t1 trip_k0_t1
      dsimp only
      have h2 : (y 2).val < 8 := (y 2).isLt
      by_cases c1 : (y 2).val < 2
      · exact ⟨_, List.mem_cons_of_mem _ (List.mem_cons_of_mem _ (List.mem_cons_of_mem _ List.mem_cons_self)), piece18_mem 0 ⟨k.val, hT k⟩ 0 (o1 k) (inb := k0_off4_inb i k h1) y ho hy (by omega) (by omega)⟩
      by_cases c2 : (y 2).val < 4
      · exact ⟨_, List.mem_cons_of_mem _ List.mem_cons_self, piece18_mem 0 ⟨k.val, hT k⟩ 2 (o3 k) (inb := k0_off6_inb i k h1) y ho hy (by omega) (by omega)⟩
      by_cases c3 : (y 2).val < 6
      · exact ⟨_, List.mem_cons_of_mem _ (List.mem_cons_of_mem _ List.mem_cons_self), piece18_mem 0 ⟨k.val, hT k⟩ 4 (o2 k) (inb := k0_off5_inb i k h1) y ho hy (by omega) (by omega)⟩
      · exact ⟨_, List.mem_cons_self, piece18_mem 0 ⟨k.val, hT k⟩ 6 (o4 k) (inb := k0_off7_inb i k h1) y ho hy (by omega) (by omega)⟩

theorem row_off1 (k : Fin k0_t2_loop.trips) : k0_off8 i k = ![(headOf (i 0).val k.val).val, 0] := by
  unfold k0_off8
  generalize i 0 = a
  revert a
  show ∀ a : Fin 9, _
  decide +kernel +revert

/-- What the trips of operand 1 write into the two tables. -/
theorem prep_1 (Xp : BufTy.Contents (Elt Ideal) arg6.view.ty) (Xc : BufTy.Contents (Elt Ideal) arg8.view.ty)
    (P0 P1 : S36x128.Idx → BitVec 32) (C0 C1 : S4x36.Idx → EReal) (hP : arg6.view.read (Elt Ideal) Xp = P1) (hC : arg8.view.read (Elt Ideal) Xc = C1) :
    (Agree (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t2_loop.trips).1 (tab17 (i 0).val P0 P1) ∧ ∀ y, (y 0).val = 1 → ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t2_loop.trips).1, y ∈ p.1.set) ∧
    (Agree (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t2_loop.trips).2 (tab18 (i 0).val C0 C1) ∧ ∀ y, (y 0).val = 1 → ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k0_t2_loop.trips).2, y ∈ p.1.set) := by
  have hT : ∀ k : Fin k0_t2_loop.trips, k.val < 4 := fun k => Nat.lt_of_lt_of_le k.isLt k0_t2_abs.2.1
  have o0 : ∀ k : Fin k0_t2_loop.trips, k0_off9 k = ![1, k.val, 0, 0] := by decide +kernel
  have o1 : ∀ k : Fin k0_t2_loop.trips, k0_off10 k = ![1, k.val, 0, 0] := by decide +kernel
  have o2 : ∀ k : Fin k0_t2_loop.trips, k0_off11 k = ![1, k.val, 4, 0] := by decide +kernel
  have o3 : ∀ k : Fin k0_t2_loop.trips, k0_off12 k = ![1, k.val, 2, 0] := by decide +kernel
  have o4 : ∀ k : Fin k0_t2_loop.trips, k0_off13 k = ![1, k.val, 6, 0] := by decide +kernel
  constructor
  · refine loop_pieces (fun y => (y 0).val = 1) (fun y => (y 1).val) k0_t2_loop.trips (fun y => (y 1).isLt) (fun k => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).1)
      (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).1) (by rw [pb_k0_t2.eq_1]) (fun k => by rw [pb_k0_t2_succ]) _ (fun k => ?_) (fun k y ho hy => ?_)
    · unfold tripL_k0_t2 trip_k0_t2
      dsimp only
      exact piece17 1 (i 0).val ⟨k.val, hT k⟩ P0 P1 (o0 k) _ (fun d => (load5 arg6.view Xp _ (row_off1 _ k) _ d).trans (by rw [hP]; rfl))
    · unfold tripL_k0_t2 trip_k0_t2
      dsimp only
      exact piece17_cover 1 ⟨k.val, hT k⟩ (o0 k) _ y ho hy
  · refine loop_pieces (fun y => (y 0).val = 1) (fun y => (y 1).val) k0_t2_loop.trips (fun y => (y 1).isLt) (fun k => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).2)
      (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) Xp Xc k).2) (by rw [pb_k0_t2.eq_1]) (fun k => by rw [pb_k0_t2_succ]) _ (fun k => ?_) (fun k y ho hy => ?_)
    · unfold tripL_k0_t2 trip_k0_t2
      dsimp only
      have e : ∀ (g : Fin 4) (l : Fin 128), trip_k0_t2.sl.r arg8 (BitVec.ofNat 32 (i 0).val) (iota .tc S4x36 32 [1] iota_S4x36_d1_w32) Xc k (ix2 g l) = (if ((1 : Fin 2)).val = 0 then C0 else C1) (ix2 g (headOf (i 0).val k.val)) := fun g l =>
        (pay12_apply (i 0) k _ g l).trans ((load7 arg8.view Xc _ g _).trans (by rw [hC]; rfl))
      exact agree_cons (piece18 1 (i 0).val ⟨k.val, hT k⟩ C0 C1 6 3 rfl rfl (o4 k) (k0_off13_inb i k h1) _ (fun x l => ((pair_apply _ x l).2.2.2).trans (e 3 l)))
        (agree_cons (piece18 1 (i 0).val ⟨k.val, hT k⟩ C0 C1 2 2 rfl rfl (o3 k) (k0_off12_inb i k h1) _ (fun x l => ((pair_apply _ x l).2.2.1).trans (e 2 l)))
        (agree_cons (piece18 1 (i 0).val ⟨k.val, hT k⟩ C0 C1 4 1 rfl rfl (o2 k) (k0_off11_inb i k h1) _ (fun x l => ((pair_apply _ x l).2.1).trans (e 1 l)))
        (agree_cons (piece18 1 (i 0).val ⟨k.val, hT k⟩ C0 C1 0 0 rfl rfl (o1 k) (k0_off10_inb i k h1) _ (fun x l => ((pair_apply _ x l).1).trans (e 0 l)))
        (agree_nil _))))
    · unfold tripL_k0_t2 trip_k0_t2
      dsimp only
      have h2 : (y 2).val < 8 := (y 2).isLt
      by_cases c1 : (y 2).val < 2
      · exact ⟨_, List.mem_cons_of_mem _ (List.mem_cons_of_mem _ (List.mem_cons_of_mem _ List.mem_cons_self)), piece18_mem 1 ⟨k.val, hT k⟩ 0 (o1 k) (inb := k0_off10_inb i k h1) y ho hy (by omega) (by omega)⟩
      by_cases c2 : (y 2).val < 4
      · exact ⟨_, List.mem_cons_of_mem _ List.mem_cons_self, piece18_mem 1 ⟨k.val, hT k⟩ 2 (o3 k) (inb := k0_off12_inb i k h1) y ho hy (by omega) (by omega)⟩
      by_cases c3 : (y 2).val < 6
      · exact ⟨_, List.mem_cons_of_mem _ (List.mem_cons_of_mem _ List.mem_cons_self), piece18_mem 1 ⟨k.val, hT k⟩ 4 (o2 k) (inb := k0_off11_inb i k h1) y ho hy (by omega) (by omega)⟩
      · exact ⟨_, List.mem_cons_self, piece18_mem 1 ⟨k.val, hT k⟩ 6 (o4 k) (inb := k0_off13_inb i k h1) y ho hy (by omega) (by omega)⟩

/-- The two tables read back after both operands' trips. -/
theorem prep_read (X5 : BufTy.Contents (Elt Ideal) arg5.view.ty) (X7 : BufTy.Contents (Elt Ideal) arg7.view.ty) (X6 : BufTy.Contents (Elt Ideal) arg6.view.ty) (X8 : BufTy.Contents (Elt Ideal) arg8.view.ty)
    (P0 P1 : S36x128.Idx → BitVec 32) (C0 C1 : S4x36.Idx → EReal) (h5 : arg5.view.read (Elt Ideal) X5 = P0) (h7 : arg7.view.read (Elt Ideal) X7 = C0)
    (h6 : arg6.view.read (Elt Ideal) X6 = P1) (h8 : arg8.view.read (Elt Ideal) X8 = C1) :
    (∀ {sp : Space} (v : View sig .tc sp S2x4x128x128 .bf16) (f : BufTy.Contents (Elt Ideal) v.ty), v.read (Elt Ideal) (v.writes (Elt Ideal) f ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) X6 X8 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) X5 X7 k0_t1_loop.trips).1)) = tab17 (i 0).val P0 P1) ∧
    (∀ {sp : Space} (v : View sig .tc sp S2x4x8x128 .f32) (f : BufTy.Contents (Elt Ideal) v.ty), v.read (Elt Ideal) (v.writes (Elt Ideal) f ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) X6 X8 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) h1 (iota .tc S4x36 32 [1] iota_S4x36_d1_w32) X5 X7 k0_t1_loop.trips).2)) = tab18 (i 0).val C0 C1) := by
  obtain ⟨⟨a1, c1⟩, b1, d1⟩ := prep_0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X5 X7 P0 P1 C0 C1 h5 h7
  obtain ⟨⟨a2, c2⟩, b2, d2⟩ := prep_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X6 X8 P0 P1 C0 C1 h6 h8
  refine ⟨fun v f => funext fun y => View.read_writes_apply_of_pieces v f _ _ (agree_append a2 a1) y ?_, fun v f => funext fun y => View.read_writes_apply_of_pieces v f _ _ (agree_append b2 b1) y ?_⟩
  · have h0 : (y 0).val < 2 := (y 0).isLt
    by_cases h : (y 0).val = 0
    · obtain ⟨p, hp, hm⟩ := c1 y h
      exact ⟨p, List.mem_append_right _ hp, hm⟩
    · obtain ⟨p, hp, hm⟩ := c2 y (by omega)
      exact ⟨p, List.mem_append_left _ hp, hm⟩
  · have h0 : (y 0).val < 2 := (y 0).isLt
    by_cases h : (y 0).val = 0
    · obtain ⟨p, hp, hm⟩ := d1 y h
      exact ⟨p, List.mem_append_right _ hp, hm⟩
    · obtain ⟨p, hp, hm⟩ := d2 y (by omega)
      exact ⟨p, List.mem_append_left _ hp, hm⟩

end Cert.Proof.KernelIdeal

end
-- ==== Proof.QuantSpec.lean ====
module

public import proofs.«01_k».proof.Defs
public import Idealize.ShloMosaic.Lib.Pointwise
public import proofs.«01_k».proof.Proof.WordFacts

/-! The scales and zeros, as functions of the arguments: a token's 128 channels of a head in the order a permutation
gives, in four groups of 32; a group's least and greatest entry, each times the group's clip; the least is the zero,
and a fifteenth of the difference (1 where the difference is not positive) is the scale. A token past the sequence's
length has 0 for both. -/

@[expose] public section

noncomputable section

namespace Cert.Proof

open Cert.ReferenceIdeal
open Idealize.ShloMosaic

variable (x : S7x768x36x128.Idx → EReal) (P : S36x128.Idx → BitVec 32) (C : S36x4.Idx → EReal) (L : S7.Idx → BitVec 32)

/-- The entries of a group. -/
def groupAt (b : Fin 7) (t : Fin 256) (h : Fin 36) (g : Fin 4) (q : Fin 32) : EReal :=
  x (ix4 b (⟨t.val, Nat.lt_trans t.isLt (by decide)⟩ : Fin 768) h
    (⟨(P (ix2 h (⟨32 * g.val + q.val, by omega⟩ : Fin 128))).toNat % 128, Nat.mod_lt _ (by decide)⟩ : Fin 128))

/-- A group's least entry, clipped. -/
def lowAt (b : Fin 7) (t : Fin 256) (h : Fin 36) (g : Fin 4) : EReal := C (ix2 h g) * Finset.univ.inf (groupAt x P b t h g)
/-- A group's greatest entry, clipped. -/
def highAt (b : Fin 7) (t : Fin 256) (h : Fin 36) (g : Fin 4) : EReal := C (ix2 h g) * Finset.univ.sup (groupAt x P b t h g)

/-- The scale of a range. -/
def stepOf (lo hi : EReal) : EReal :=
  if 0 < hi - lo then Ideal.div (hi - lo) (Ideal.ofBits .f32 1097859072#32) else 1

/-- The zeros. -/
def zeroArr : S7x36x4x256.Idx → EReal := fun y =>
  if (y 3).val + 512 < (L (ix1 (y 0))).toNat then lowAt x P C (y 0) (y 3) (y 1) (y 2) else 0

/-- The scales. -/
def scaleArr : S7x36x4x256.Idx → EReal := fun y =>
  if (y 3).val + 512 < (L (ix1 (y 0))).toNat then stepOf (lowAt x P C (y 0) (y 3) (y 1) (y 2)) (highAt x P C (y 0) (y 3) (y 1) (y 2)) else 0

/-- A token's number against the tokens past the first 512, compared as signed words. -/
theorem kept_iff (n : Nat) (hn : n < 256) (v : BitVec 32) (h1 : 512 ≤ v.toNat) (h2 : v.toNat ≤ 768) :
    IntOp.cmpi .slt (BitVec.ofNat 32 n) (v - 512#32) = if n + 512 < v.toNat then 1#1 else 0#1 := by
  have hs : (v - 512#32).toNat = v.toNat - 512 := by
    rw [BitVec.toNat_sub]; simp only [BitVec.toNat_ofNat]; omega
  have ha : (v - 512#32).toInt = ((v.toNat - 512 : Nat) : Int) := by rw [BitVec.toInt_eq_toNat_of_lt (by omega), hs]
  have hb : (BitVec.ofNat 32 n).toInt = (n : Int) := by
    rw [BitVec.toInt_eq_toNat_of_lt (by rw [BitVec.toNat_ofNat]; omega), BitVec.toNat_ofNat]; omega
  by_cases h : n + 512 < v.toNat
  · rw [if_pos h]
    have : (BitVec.ofNat 32 n).toInt < (v - 512#32).toInt := by rw [ha, hb]; omega
    simp only [IntOp.cmpi, BitVec.slt, decide_eq_true this]; rfl
  · rw [if_neg h]
    have : ¬ (BitVec.ofNat 32 n).toInt < (v - 512#32).toInt := by rw [ha, hb]; omega
    simp only [IntOp.cmpi, BitVec.slt, decide_eq_false this]; rfl

end Cert.Proof

end
-- ==== Proof.CodeSpec.lean ====
module

public import proofs.«01_k».proof.Proof.QuantSpec
public import Idealize.ShloMosaic.Lib.BitcastPair
public import Mathlib.Tactic.IntervalCases

/-! The codes, as functions of the arguments: an entry less its group's zero, over the group's scale, rounded to the
nearest integer and clipped to 0 … 15; two neighbours to a byte, the even one in the low half. -/

@[expose] public section

noncomputable section

namespace Cert.Proof

open Cert.ReferenceIdeal
open Idealize.ShloMosaic

/-- The code of an entry. -/
def qOf (y z s : EReal) : BitVec 32 :=
  Ideal.fptosi 32 (min (Ideal.ofBits .f32 1097859072#32) (max 0 (Ideal.liftRound Ideal.roundHalfEven (Ideal.div (y - z) s))))

/-- Two codes in a byte. -/
def codeByte (a b : BitVec 32) : BitVec 8 := (a ||| b <<< 4).setWidth 8

variable (x : S7x768x36x128.Idx → EReal) (P : S36x128.Idx → BitVec 32) (C : S36x4.Idx → EReal) (L : S7.Idx → BitVec 32)

/-- The code of an entry of a group. -/
def qAt (b : Fin 7) (t : Fin 256) (h : Fin 36) (g : Fin 4) (e : Fin 32) : BitVec 32 :=
  qOf (groupAt x P b t h g e) (lowAt x P C b t h g) (stepOf (lowAt x P C b t h g) (highAt x P C b t h g))

/-- The codes of a pair of channels. -/
def pairAt (b : Fin 7) (t : Fin 256) (h : Fin 36) (p : Fin 64) : BitVec 8 :=
  codeByte (qAt x P C b t h ⟨p.val / 16, by omega⟩ ⟨2 * (p.val % 16), by omega⟩) (qAt x P C b t h ⟨p.val / 16, by omega⟩ ⟨2 * (p.val % 16) + 1, by omega⟩)

/-- The codes. -/
def codeArr : S7x36x64x256.Idx → BitVec 8 := fun y =>
  if (y 3).val + 512 < (L (ix1 (y 0))).toNat then pairAt x P C (y 0) (y 3) (y 1) (y 2) else 0

theorem fifteen : Ideal.ofBits .f32 1097859072#32 = ((15 : ℝ) : EReal) := by
  simp [Ideal.ofBits, Ideal.ieee]
  rw [← EReal.coe_mul]
  norm_num

/-- A code has four bits. -/
theorem qOf_lt (y z s : EReal) : (qOf y z s).toNat < 16 := by
  unfold qOf
  rw [fifteen]
  generalize Ideal.liftRound Ideal.roundHalfEven (Ideal.div (y - z) s) = u
  have h0 : (0 : EReal) ≤ min ((15 : ℝ) : EReal) (max 0 u) := le_min (by exact_mod_cast (by norm_num : (0:ℝ) ≤ 15)) (le_max_left _ _)
  have h1 : min ((15 : ℝ) : EReal) (max 0 u) ≤ ((15 : ℝ) : EReal) := min_le_left _ _
  generalize min ((15 : ℝ) : EReal) (max 0 u) = w at h0 h1
  induction w using EReal.rec with
  | bot => exact absurd h0 (by simp)
  | top => exact absurd h1 (by simp)
  | coe r =>
    have r0 : (0 : ℝ) ≤ r := by exact_mod_cast h0
    have r1 : r ≤ 15 := by exact_mod_cast h1
    have f0 : 0 ≤ ⌊r⌋ := Int.floor_nonneg.2 r0
    have f1 : ⌊r⌋ ≤ 15 := by
      have := Int.floor_le r
      have h : ((⌊r⌋ : ℤ) : ℝ) ≤ ((15 : ℤ) : ℝ) := by push_cast; linarith
      exact_mod_cast h
    have e : Ideal.fptosi 32 ((r : ℝ) : EReal) = BitVec.ofInt 32 ⌊r⌋ := by
      show BitVec.ofInt 32 (max _ (min _ (if 0 ≤ r then ⌊r⌋ else ⌈r⌉))) = _
      rw [if_pos r0]
      congr 1
      norm_num
      omega
    rw [e]
    generalize ⌊r⌋ = n at f0 f1
    interval_cases n <;> decide

/-- Eight codes in a word. -/
def joinW (q : Nat → BitVec 32) : BitVec 32 :=
  IntOp.ori (IntOp.ori (IntOp.ori (IntOp.ori (IntOp.ori (IntOp.ori (IntOp.ori (IntOp.shli .vector (q 0) 0#32) (IntOp.shli .vector (q 1) 4#32)) (IntOp.shli .vector (q 2) 8#32))
    (IntOp.shli .vector (q 3) 12#32)) (IntOp.shli .vector (q 4) 16#32)) (IntOp.shli .vector (q 5) 20#32)) (IntOp.shli .vector (q 6) 24#32)) (IntOp.shli .vector (q 7) 28#32)

theorem high_bit (q : BitVec 32) (h : q.toNat < 16) (i : Nat) (hi : 4 ≤ i) : q.getLsbD i = false := by
  exact Nat.testBit_lt_two_pow (Nat.lt_of_lt_of_le h (Nat.pow_le_pow_right (by decide) hi : 2 ^ 4 ≤ 2 ^ i))

/-- A byte of a word of codes is a pair of codes. -/
theorem joinW_bit (q : Nat → BitVec 32) (hq : ∀ m, (q m).toNat < 16) (k j : Nat) (hk : k < 4) (hj : j < 8) :
    (joinW q).getLsbD (8 * k + j) = (codeByte (q (2 * k)) (q (2 * k + 1))).getLsbD j := by
  have hb := fun m i (hi : 4 ≤ i) => high_bit (q m) (hq m) i hi
  have hc : ∀ m i (hi : 4 ≤ i) (h : i < 32), (q m)[i] = false := fun m i hi h => (BitVec.getLsbD_eq_getElem h).symm.trans (hb m i hi)
  unfold joinW codeByte IntOp.ori IntOp.shli
  simp only [BitVec.toNat_ofNat]
  interval_cases k <;> interval_cases j <;> simp [hb, hc]

end Cert.Proof

end
-- ==== Proof.KernelIdealCodes.lean ====
module

public import proofs.«01_k».proof.Proof.KernelIdealQuant
public import proofs.«01_k».proof.Proof.CodeSpec

/-! What one head's codes are, read off the body's vector operations: eight codes of four bits to a word, a word read as
four bytes. -/

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- The row of a register that holds the group of row `i`. -/
def pickRow (o c : Nat) (i : Fin 8) : Fin 8 := ⟨(4 * (i.val / 4) + 2 * o + c) % 8, Nat.mod_lt _ (by decide)⟩

/-- A word of one half of the rows and one half of the tokens, its group's zero and scale given. -/
def wordOf (v2 : BitVec 32) (Y : S128x256.Idx → EReal) (o c : Nat) (i : Fin 8) (l : Fin 128) (z s : EReal) : BitVec 32 :=
  Scalar.select (IntOp.cmpi .slt (IntOp.addi (BitVec.ofNat 32 l.val) (match c with | 0 => 0#32 | _ => 128#32)) v2)
    (joinW fun m => qOf (tileAt Y o c m i.val l) z s) 0#32

/-- The words of one half of the rows and one half of the tokens. -/
def wordRow (v2 : BitVec 32) (Y : S128x256.Idx → EReal) (Z S : S8x128.Idx → EReal) (o c : Nat) : S8x128.Idx → BitVec 32 := fun j =>
  wordOf v2 Y o c (j 0) (j 1) (Z (ix2 (pickRow o c (j 0)) (j 1))) (S (ix2 (pickRow o c (j 0)) (j 1)))

/-- Words read as bytes. -/
def bytes (W : S8x128.Idx → BitVec 32) : S1x1x32x128.Idx → BitVec 8 :=
  shapeCast S1x1x32x128 (bitcast S32x128 8 W bitcasts_S8x128_w32_S32x128_w8) shapeCasts_S32x128_S1x1x32x128

variable (v2 : BitVec 32) (Y : S128x256.Idx → EReal) (Z S : S8x128.Idx → EReal)

def codeK00 : S1x1x32x128.Idx → BitVec 8 :=
  let z := (k0_pay275 (F := Ideal)) subs Z
  let s := (k0_pay276 (F := Ideal)) subs S
  (k0_pay281 (F := Ideal)) v2 lanes Y z s ((k0_pay279 (F := Ideal)) Y z s ((k0_pay277 (F := Ideal)) subs Y S Z) ((k0_pay278 (F := Ideal)) subs Y Z)) ((k0_pay280 (F := Ideal)) Y z)

theorem zero_K00 (i : Fin 8) (l : Fin 128) : (k0_pay275 (F := Ideal)) subs Z (ix2 i l) = Z (ix2 (pickRow 0 0 i) l) := by
  fin_cases i
  all_goals pointwise [k0_pay275, k0_pay274]
  all_goals rfl

theorem step_K00 (i : Fin 8) (l : Fin 128) : (k0_pay276 (F := Ideal)) subs S (ix2 i l) = S (ix2 (pickRow 0 0 i) l) := by
  fin_cases i
  all_goals pointwise [k0_pay276, k0_pay274]
  all_goals rfl

theorem code_K00 : codeK00 v2 Y Z S = bytes (wordRow v2 Y Z S 0 0) := by
  unfold codeK00
  dsimp only
  unfold k0_pay281
  refine congrArg bytes ?_
  funext j
  obtain ⟨i, l, rfl⟩ : ∃ (i : Fin 8) (l : Fin 128), j = ix2 i l := ⟨j 0, j 1, by funext a; fin_cases a <;> rfl⟩
  show _ = wordOf v2 Y 0 0 i l (Z (ix2 (pickRow 0 0 i) l)) (S (ix2 (pickRow 0 0 i) l))
  rw [← zero_K00 Z i l, ← step_K00 S i l]
  pointwise [k0_pay277, k0_pay278, k0_pay279, k0_pay280]
  fin_cases i
  all_goals rfl

def codeK10 : S1x1x32x128.Idx → BitVec 8 :=
  let z := (k0_pay284 (F := Ideal)) Z (k0_pay283 subs)
  let s := (k0_pay285 (F := Ideal)) S (k0_pay282 subs)
  (k0_pay290 (F := Ideal)) v2 lanes ((k0_pay288 (F := Ideal)) Y z s ((k0_pay286 (F := Ideal)) Y S Z (k0_pay282 subs) (k0_pay283 subs)) ((k0_pay287 (F := Ideal)) Y S Z (k0_pay282 subs) (k0_pay283 subs)) (FloatOps.ofBits (F := Ideal) .f32 0#32)) ((k0_pay289 (F := Ideal)) Y z s) (FloatOps.ofBits (F := Ideal) .f32 0#32)

theorem zero_K10 (i : Fin 8) (l : Fin 128) : (k0_pay284 (F := Ideal)) Z (k0_pay283 subs) (ix2 i l) = Z (ix2 (pickRow 1 0 i) l) := by
  fin_cases i
  all_goals pointwise [k0_pay284, k0_pay282, k0_pay283]
  all_goals rfl

theorem step_K10 (i : Fin 8) (l : Fin 128) : (k0_pay285 (F := Ideal)) S (k0_pay282 subs) (ix2 i l) = S (ix2 (pickRow 1 0 i) l) := by
  fin_cases i
  all_goals pointwise [k0_pay285, k0_pay282, k0_pay283]
  all_goals rfl

theorem code_K10 : codeK10 v2 Y Z S = bytes (wordRow v2 Y Z S 1 0) := by
  unfold codeK10
  dsimp only
  unfold k0_pay290
  refine congrArg bytes ?_
  funext j
  obtain ⟨i, l, rfl⟩ : ∃ (i : Fin 8) (l : Fin 128), j = ix2 i l := ⟨j 0, j 1, by funext a; fin_cases a <;> rfl⟩
  show _ = wordOf v2 Y 1 0 i l (Z (ix2 (pickRow 1 0 i) l)) (S (ix2 (pickRow 1 0 i) l))
  rw [← zero_K10 Z i l, ← step_K10 S i l]
  pointwise [k0_pay286, k0_pay287, k0_pay288, k0_pay289]
  fin_cases i
  all_goals rfl

def codeK01 : S1x1x32x128.Idx → BitVec 8 :=
  let z := (k0_pay292 (F := Ideal)) subs Z
  let s := (k0_pay293 (F := Ideal)) subs S
  k0_pay299 ((k0_pay298 (F := Ideal)) v2 lanes Y z s ((k0_pay296 (F := Ideal)) Y z s ((k0_pay294 (F := Ideal)) subs Y S Z) (FloatOps.ofBits (F := Ideal) .f32 1097859072#32) (k0_pay295 (F := Ideal))) (FloatOps.ofBits (F := Ideal) .f32 1097859072#32) ((k0_pay297 (F := Ideal)) Y z s))

theorem zero_K01 (i : Fin 8) (l : Fin 128) : (k0_pay292 (F := Ideal)) subs Z (ix2 i l) = Z (ix2 (pickRow 0 1 i) l) := by
  fin_cases i
  all_goals pointwise [k0_pay292, k0_pay291]
  all_goals rfl

theorem step_K01 (i : Fin 8) (l : Fin 128) : (k0_pay293 (F := Ideal)) subs S (ix2 i l) = S (ix2 (pickRow 0 1 i) l) := by
  fin_cases i
  all_goals pointwise [k0_pay293, k0_pay291]
  all_goals rfl

theorem code_K01 : codeK01 v2 Y Z S = bytes (wordRow v2 Y Z S 0 1) := by
  unfold codeK01
  dsimp only
  unfold k0_pay299
  refine congrArg bytes ?_
  funext j
  obtain ⟨i, l, rfl⟩ : ∃ (i : Fin 8) (l : Fin 128), j = ix2 i l := ⟨j 0, j 1, by funext a; fin_cases a <;> rfl⟩
  show _ = wordOf v2 Y 0 1 i l (Z (ix2 (pickRow 0 1 i) l)) (S (ix2 (pickRow 0 1 i) l))
  rw [← zero_K01 Z i l, ← step_K01 S i l]
  pointwise [k0_pay294, k0_pay295, k0_pay296, k0_pay297, k0_pay298]
  fin_cases i
  all_goals rfl

def codeK11 : S1x1x32x128.Idx → BitVec 8 :=
  let z := (k0_pay301 (F := Ideal)) subs Z
  let s := (k0_pay302 (F := Ideal)) subs S
  (k0_pay307 (F := Ideal)) v2 lanes Y z s ((k0_pay305 (F := Ideal)) Y z s ((k0_pay303 (F := Ideal)) subs Y S Z) ((k0_pay304 (F := Ideal)) subs Y S Z)) ((k0_pay306 (F := Ideal)) Y z s)

theorem zero_K11 (i : Fin 8) (l : Fin 128) : (k0_pay301 (F := Ideal)) subs Z (ix2 i l) = Z (ix2 (pickRow 1 1 i) l) := by
  fin_cases i
  all_goals pointwise [k0_pay301, k0_pay300]
  all_goals rfl

theorem step_K11 (i : Fin 8) (l : Fin 128) : (k0_pay302 (F := Ideal)) subs S (ix2 i l) = S (ix2 (pickRow 1 1 i) l) := by
  fin_cases i
  all_goals pointwise [k0_pay302, k0_pay300]
  all_goals rfl

theorem code_K11 : codeK11 v2 Y Z S = bytes (wordRow v2 Y Z S 1 1) := by
  unfold codeK11
  dsimp only
  unfold k0_pay307
  refine congrArg bytes ?_
  funext j
  obtain ⟨i, l, rfl⟩ : ∃ (i : Fin 8) (l : Fin 128), j = ix2 i l := ⟨j 0, j 1, by funext a; fin_cases a <;> rfl⟩
  show _ = wordOf v2 Y 1 1 i l (Z (ix2 (pickRow 1 1 i) l)) (S (ix2 (pickRow 1 1 i) l))
  rw [← zero_K11 Z i l, ← step_K11 S i l]
  pointwise [k0_pay303, k0_pay304, k0_pay305, k0_pay306]
  fin_cases i
  all_goals rfl

def codeV00 : S1x1x32x128.Idx → BitVec 8 :=
  let z := (k0_pay349 (F := Ideal)) subs Z
  let s := (k0_pay350 (F := Ideal)) subs S
  (k0_pay357 (F := Ideal)) v2 lanes Y z s ((k0_pay354 (F := Ideal)) Y z s ((k0_pay351 (F := Ideal)) subs Y S Z) ((k0_pay352 (F := Ideal)) subs Y S Z) (FloatOps.ofBits (F := Ideal) .f32 1097859072#32) (k0_pay353 (F := Ideal))) ((k0_pay355 (F := Ideal)) Y z s) (FloatOps.ofBits (F := Ideal) .f32 1097859072#32) (k0_pay356 (F := Ideal))

theorem zero_V00 (i : Fin 8) (l : Fin 128) : (k0_pay349 (F := Ideal)) subs Z (ix2 i l) = Z (ix2 (pickRow 0 0 i) l) := by
  fin_cases i
  all_goals pointwise [k0_pay349, k0_pay348]
  all_goals rfl

theorem step_V00 (i : Fin 8) (l : Fin 128) : (k0_pay350 (F := Ideal)) subs S (ix2 i l) = S (ix2 (pickRow 0 0 i) l) := by
  fin_cases i
  all_goals pointwise [k0_pay350, k0_pay348]
  all_goals rfl

theorem code_V00 : codeV00 v2 Y Z S = bytes (wordRow v2 Y Z S 0 0) := by
  unfold codeV00
  dsimp only
  unfold k0_pay357
  refine congrArg bytes ?_
  funext j
  obtain ⟨i, l, rfl⟩ : ∃ (i : Fin 8) (l : Fin 128), j = ix2 i l := ⟨j 0, j 1, by funext a; fin_cases a <;> rfl⟩
  show _ = wordOf v2 Y 0 0 i l (Z (ix2 (pickRow 0 0 i) l)) (S (ix2 (pickRow 0 0 i) l))
  rw [← zero_V00 Z i l, ← step_V00 S i l]
  pointwise [k0_pay351, k0_pay352, k0_pay353, k0_pay354, k0_pay355, k0_pay356]
  fin_cases i
  all_goals rfl

def codeV10 : S1x1x32x128.Idx → BitVec 8 :=
  let z := (k0_pay361 (F := Ideal)) Z (k0_pay358 subs) k0_pay359
  let s := (k0_pay362 (F := Ideal)) S (k0_pay358 subs) k0_pay359
  (k0_pay367 (F := Ideal)) v2 lanes Y z s ((k0_pay365 (F := Ideal)) Y z s ((k0_pay363 (F := Ideal)) Y S Z (k0_pay358 subs) k0_pay359) ((k0_pay364 (F := Ideal)) Y S Z (k0_pay358 subs) k0_pay359)) ((k0_pay366 (F := Ideal)) Y z s)

theorem zero_V10 (i : Fin 8) (l : Fin 128) : (k0_pay361 (F := Ideal)) Z (k0_pay358 subs) k0_pay359 (ix2 i l) = Z (ix2 (pickRow 1 0 i) l) := by
  fin_cases i
  all_goals pointwise [k0_pay361, k0_pay358, k0_pay359, k0_pay360]
  all_goals rfl

theorem step_V10 (i : Fin 8) (l : Fin 128) : (k0_pay362 (F := Ideal)) S (k0_pay358 subs) k0_pay359 (ix2 i l) = S (ix2 (pickRow 1 0 i) l) := by
  fin_cases i
  all_goals pointwise [k0_pay362, k0_pay358, k0_pay359, k0_pay360]
  all_goals rfl

theorem code_V10 : codeV10 v2 Y Z S = bytes (wordRow v2 Y Z S 1 0) := by
  unfold codeV10
  dsimp only
  unfold k0_pay367
  refine congrArg bytes ?_
  funext j
  obtain ⟨i, l, rfl⟩ : ∃ (i : Fin 8) (l : Fin 128), j = ix2 i l := ⟨j 0, j 1, by funext a; fin_cases a <;> rfl⟩
  show _ = wordOf v2 Y 1 0 i l (Z (ix2 (pickRow 1 0 i) l)) (S (ix2 (pickRow 1 0 i) l))
  rw [← zero_V10 Z i l, ← step_V10 S i l]
  pointwise [k0_pay363, k0_pay364, k0_pay365, k0_pay366]
  fin_cases i
  all_goals rfl

def codeV01 : S1x1x32x128.Idx → BitVec 8 :=
  let z := (k0_pay369 (F := Ideal)) subs Z
  let s := (k0_pay371 (F := Ideal)) S (k0_pay370 subs)
  k0_pay378 v2 lanes ((k0_pay375 (F := Ideal)) Y z s ((k0_pay372 (F := Ideal)) Y S z (k0_pay370 subs)) ((k0_pay373 (F := Ideal)) Y S z (k0_pay370 subs)) k0_pay374) ((k0_pay376 (F := Ideal)) Y z s) k0_pay377

theorem zero_V01 (i : Fin 8) (l : Fin 128) : (k0_pay369 (F := Ideal)) subs Z (ix2 i l) = Z (ix2 (pickRow 0 1 i) l) := by
  fin_cases i
  all_goals pointwise [k0_pay369, k0_pay368, k0_pay370]
  all_goals rfl

theorem step_V01 (i : Fin 8) (l : Fin 128) : (k0_pay371 (F := Ideal)) S (k0_pay370 subs) (ix2 i l) = S (ix2 (pickRow 0 1 i) l) := by
  fin_cases i
  all_goals pointwise [k0_pay371, k0_pay368, k0_pay370]
  all_goals rfl

theorem code_V01 : codeV01 v2 Y Z S = bytes (wordRow v2 Y Z S 0 1) := by
  unfold codeV01
  dsimp only
  unfold k0_pay378
  refine congrArg bytes ?_
  funext j
  obtain ⟨i, l, rfl⟩ : ∃ (i : Fin 8) (l : Fin 128), j = ix2 i l := ⟨j 0, j 1, by funext a; fin_cases a <;> rfl⟩
  show _ = wordOf v2 Y 0 1 i l (Z (ix2 (pickRow 0 1 i) l)) (S (ix2 (pickRow 0 1 i) l))
  rw [← zero_V01 Z i l, ← step_V01 S i l]
  pointwise [k0_pay372, k0_pay373, k0_pay374, k0_pay375, k0_pay376, k0_pay377]
  fin_cases i
  all_goals rfl

def codeV11 : S1x1x32x128.Idx → BitVec 8 :=
  let z := (k0_pay380 (F := Ideal)) subs Z
  let s := (k0_pay381 (F := Ideal)) subs S
  (k0_pay386 (F := Ideal)) v2 lanes Y z s ((k0_pay384 (F := Ideal)) Y z s ((k0_pay382 (F := Ideal)) subs Y S Z) ((k0_pay383 (F := Ideal)) Y)) ((k0_pay385 (F := Ideal)) Y)

theorem zero_V11 (i : Fin 8) (l : Fin 128) : (k0_pay380 (F := Ideal)) subs Z (ix2 i l) = Z (ix2 (pickRow 1 1 i) l) := by
  fin_cases i
  all_goals pointwise [k0_pay380, k0_pay379]
  all_goals rfl

theorem step_V11 (i : Fin 8) (l : Fin 128) : (k0_pay381 (F := Ideal)) subs S (ix2 i l) = S (ix2 (pickRow 1 1 i) l) := by
  fin_cases i
  all_goals pointwise [k0_pay381, k0_pay379]
  all_goals rfl

theorem code_V11 : codeV11 v2 Y Z S = bytes (wordRow v2 Y Z S 1 1) := by
  unfold codeV11
  dsimp only
  unfold k0_pay386
  refine congrArg bytes ?_
  funext j
  obtain ⟨i, l, rfl⟩ : ∃ (i : Fin 8) (l : Fin 128), j = ix2 i l := ⟨j 0, j 1, by funext a; fin_cases a <;> rfl⟩
  show _ = wordOf v2 Y 1 1 i l (Z (ix2 (pickRow 1 1 i) l)) (S (ix2 (pickRow 1 1 i) l))
  rw [← zero_V11 Z i l, ← step_V11 S i l]
  pointwise [k0_pay382, k0_pay383, k0_pay384, k0_pay385]
  fin_cases i
  all_goals rfl

end Cert.Proof.KernelIdeal

end
-- ==== Proof.KernelIdealCodesTrip.lean ====
module

public import proofs.«01_k».proof.Proof.KernelIdealQuantTrip
public import proofs.«01_k».proof.Proof.KernelIdealCodes

/-! The codes the four trips leave, in terms of the block and of the two scratch tables. -/

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

/-- The block of codes whose heads' products, zeros and scales are given. -/
def codeG (v2 : BitVec 32) (Ys : Fin 4 → S128x256.Idx → EReal) (Zs Ss : Fin 4 → S8x128.Idx → EReal) : S1x4x64x256.Idx → BitVec 8 := fun y =>
  bytes (wordRow v2 (Ys (y 1)) (Zs (y 1)) (Ss (y 1)) ((y 2).val / 32) ((y 3).val / 128))
    (ix4 0 0 (⟨(y 2).val % 32, Nat.mod_lt _ (by decide)⟩ : Fin 32) (⟨(y 3).val % 128, Nat.mod_lt _ (by decide)⟩ : Fin 128))

/-- A quarter a head stores is the block's. -/
theorem quarter (v2 : BitVec 32) (k : Fin 4) (o c : Fin 2) {off : Fin 4 → Nat} (ho : off = ![0, k.val, 32 * o.val, 128 * c.val])
    (iA : ∀ a, off a + S1x1x32x128.size a ≤ S1x4x64x256.size a) (Ys : Fin 4 → S128x256.Idx → EReal) (Zs Ss : Fin 4 → S8x128.Idx → EReal)
    (x : S1x1x32x128.Idx) : bytes (wordRow v2 (Ys k) (Zs k) (Ss k) o.val c.val) x
      = codeG v2 Ys Zs Ss ((Rect.unit (s := S1x4x64x256) off S1x1x32x128.size iA).emb x) := by
  subst ho
  obtain ⟨a, b, r, l, rfl⟩ := split4 (m := 1) (n := 1) (p := 32) (q := 128) x
  obtain rfl : a = 0 := Subsingleton.elim _ _
  obtain rfl : b = 0 := Subsingleton.elim _ _
  have hl := l.isLt
  have hr := r.isLt
  show _ = bytes (wordRow v2 (Ys ⟨k.val + 1 * 0, _⟩) (Zs ⟨k.val + 1 * 0, _⟩) (Ss ⟨k.val + 1 * 0, _⟩) ((32 * o.val + 1 * r.val) / 32) ((128 * c.val + 1 * l.val) / 128))
    (ix4 0 0 ⟨(32 * o.val + 1 * r.val) % 32, _⟩ ⟨(128 * c.val + 1 * l.val) % 128, _⟩)
  have e1 : (32 * o.val + 1 * r.val) / 32 = o.val := by omega
  have e2 : (128 * c.val + 1 * l.val) / 128 = c.val := by omega
  rw [e1, e2]
  refine congrArg _ (congrArg₂ (ix4 0 0) (Fin.ext ?_) (Fin.ext ?_))
  · show r.val = (32 * o.val + 1 * r.val) % 32; omega
  · show l.val = (128 * c.val + 1 * l.val) % 128; omega

/-- The four quarters a head stores agree with the block. -/
theorem agree_four (v2 : BitVec 32) (k : Fin 4) {oA oB oC oD : Fin 4 → Nat} (hA : oA = ![0, k.val, 32, 128]) (hB : oB = ![0, k.val, 0, 128])
    (hC : oC = ![0, k.val, 32, 0]) (hD : oD = ![0, k.val, 0, 0])
    {iA : ∀ a, oA a + S1x1x32x128.size a ≤ S1x4x64x256.size a} {iB : ∀ a, oB a + S1x1x32x128.size a ≤ S1x4x64x256.size a}
    {iC : ∀ a, oC a + S1x1x32x128.size a ≤ S1x4x64x256.size a} {iD : ∀ a, oD a + S1x1x32x128.size a ≤ S1x4x64x256.size a}
    {wA wB wC wD : S1x1x32x128.Idx → BitVec 8} {Y : S128x256.Idx → EReal} {Z S : S8x128.Idx → EReal}
    {Ys : Fin 4 → S128x256.Idx → EReal} {Zs Ss : Fin 4 → S8x128.Idx → EReal} (hY : Y = Ys k) (hZ : Z = Zs k) (hS : S = Ss k)
    (hwA : wA = bytes (wordRow v2 Y Z S 1 1)) (hwB : wB = bytes (wordRow v2 Y Z S 0 1))
    (hwC : wC = bytes (wordRow v2 Y Z S 1 0)) (hwD : wD = bytes (wordRow v2 Y Z S 0 0)) :
    Agree (e := .i8) (s := S1x4x64x256) [⟨Rect.unit (s := S1x4x64x256) oA S1x1x32x128.size iA, wA⟩, ⟨Rect.unit (s := S1x4x64x256) oB S1x1x32x128.size iB, wB⟩,
      ⟨Rect.unit (s := S1x4x64x256) oC S1x1x32x128.size iC, wC⟩, ⟨Rect.unit (s := S1x4x64x256) oD S1x1x32x128.size iD, wD⟩] (codeG v2 Ys Zs Ss) := by
  subst hY hZ hS hwA hwB hwC hwD
  exact agree_cons (quarter v2 k 1 1 hA iA Ys Zs Ss) (agree_cons (quarter v2 k 0 1 hB iB Ys Zs Ss)
    (agree_cons (quarter v2 k 1 0 hC iC Ys Zs Ss) (agree_cons (quarter v2 k 0 0 hD iD Ys Zs Ss) (agree_nil _))))

/-- A place of a head lies in the quarter of its row and token. -/
theorem mem_quarter (k : Fin 4) (o c : Fin 2) {off : Fin 4 → Nat} (ho : off = ![0, k.val, 32 * o.val, 128 * c.val])
    (iA : ∀ a, off a + S1x1x32x128.size a ≤ S1x4x64x256.size a) (y : S1x4x64x256.Idx) (hy : (y 1).val = k.val)
    (h2 : (y 2).val / 32 = o.val) (h3 : (y 3).val / 128 = c.val) : y ∈ (Rect.unit (s := S1x4x64x256) off S1x1x32x128.size iA).set := by
  subst ho
  have h0 : (y 0).val < 1 := (y 0).isLt
  rw [Rect.mem_set_unit]
  intro a
  fin_cases a
  · show 0 ≤ (y 0).val ∧ (y 0).val < 0 + 1; omega
  · show k.val ≤ (y 1).val ∧ (y 1).val < k.val + 1; omega
  · show 32 * o.val ≤ (y 2).val ∧ (y 2).val < 32 * o.val + 32; omega
  · show 128 * c.val ≤ (y 3).val ∧ (y 3).val < 128 * c.val + 128; omega

/-- And they are all of the head. -/
theorem cover_four (k : Fin 4) {oA oB oC oD : Fin 4 → Nat} (hA : oA = ![0, k.val, 32, 128]) (hB : oB = ![0, k.val, 0, 128])
    (hC : oC = ![0, k.val, 32, 0]) (hD : oD = ![0, k.val, 0, 0])
    {iA : ∀ a, oA a + S1x1x32x128.size a ≤ S1x4x64x256.size a} {iB : ∀ a, oB a + S1x1x32x128.size a ≤ S1x4x64x256.size a}
    {iC : ∀ a, oC a + S1x1x32x128.size a ≤ S1x4x64x256.size a} {iD : ∀ a, oD a + S1x1x32x128.size a ≤ S1x4x64x256.size a}
    {wA wB wC wD : S1x1x32x128.Idx → BitVec 8} (y : S1x4x64x256.Idx) (hy : (y 1).val = k.val) :
    ∃ p ∈ ([⟨Rect.unit (s := S1x4x64x256) oA S1x1x32x128.size iA, wA⟩, ⟨Rect.unit (s := S1x4x64x256) oB S1x1x32x128.size iB, wB⟩,
      ⟨Rect.unit (s := S1x4x64x256) oC S1x1x32x128.size iC, wC⟩, ⟨Rect.unit (s := S1x4x64x256) oD S1x1x32x128.size iD, wD⟩] : List (View.Piece (Elt Ideal) S1x4x64x256 .i8)), y ∈ p.1.set := by
  have h2 : (y 2).val < 64 := (y 2).isLt
  have h3 : (y 3).val < 256 := (y 3).isLt
  obtain h | h : (y 2).val / 32 = 0 ∨ (y 2).val / 32 = 1 := by omega
  · obtain h' | h' : (y 3).val / 128 = 0 ∨ (y 3).val / 128 = 1 := by omega
    · exact ⟨_, List.mem_cons_of_mem _ (List.mem_cons_of_mem _ (List.mem_cons_of_mem _ List.mem_cons_self)), mem_quarter k 0 0 hD iD y hy h h'⟩
    · exact ⟨_, List.mem_cons_of_mem _ List.mem_cons_self, mem_quarter k 0 1 hB iB y hy h h'⟩
  · obtain h' | h' : (y 3).val / 128 = 0 ∨ (y 3).val / 128 = 1 := by omega
    · exact ⟨_, List.mem_cons_of_mem _ (List.mem_cons_of_mem _ List.mem_cons_self), mem_quarter k 1 0 hC iC y hy h h'⟩
    · exact ⟨_, List.mem_cons_self, mem_quarter k 1 1 hA iA y hy h h'⟩

/-- Both, as the walk over the four trips asks for them. -/
theorem fills_four (v2 : BitVec 32) (k : Fin 4) {oA oB oC oD : Fin 4 → Nat} (hA : oA = ![0, k.val, 32, 128]) (hB : oB = ![0, k.val, 0, 128])
    (hC : oC = ![0, k.val, 32, 0]) (hD : oD = ![0, k.val, 0, 0])
    {iA : ∀ a, oA a + S1x1x32x128.size a ≤ S1x4x64x256.size a} {iB : ∀ a, oB a + S1x1x32x128.size a ≤ S1x4x64x256.size a}
    {iC : ∀ a, oC a + S1x1x32x128.size a ≤ S1x4x64x256.size a} {iD : ∀ a, oD a + S1x1x32x128.size a ≤ S1x4x64x256.size a}
    {wA wB wC wD : S1x1x32x128.Idx → BitVec 8} {Y : S128x256.Idx → EReal} {Z S : S8x128.Idx → EReal}
    {Ys : Fin 4 → S128x256.Idx → EReal} {Zs Ss : Fin 4 → S8x128.Idx → EReal} (hY : Y = Ys k) (hZ : Z = Zs k) (hS : S = Ss k)
    (hwA : wA = bytes (wordRow v2 Y Z S 1 1)) (hwB : wB = bytes (wordRow v2 Y Z S 0 1))
    (hwC : wC = bytes (wordRow v2 Y Z S 1 0)) (hwD : wD = bytes (wordRow v2 Y Z S 0 0))  :
    Agree (e := .i8) (s := S1x4x64x256) [⟨Rect.unit (s := S1x4x64x256) oA S1x1x32x128.size iA, wA⟩, ⟨Rect.unit (s := S1x4x64x256) oB S1x1x32x128.size iB, wB⟩,
      ⟨Rect.unit (s := S1x4x64x256) oC S1x1x32x128.size iC, wC⟩, ⟨Rect.unit (s := S1x4x64x256) oD S1x1x32x128.size iD, wD⟩] (codeG v2 Ys Zs Ss) ∧ ∀ y : S1x4x64x256.Idx, (y 1).val = k.val → ∃ p ∈ ([⟨Rect.unit (s := S1x4x64x256) oA S1x1x32x128.size iA, wA⟩, ⟨Rect.unit (s := S1x4x64x256) oB S1x1x32x128.size iB, wB⟩,
      ⟨Rect.unit (s := S1x4x64x256) oC S1x1x32x128.size iC, wC⟩, ⟨Rect.unit (s := S1x4x64x256) oD S1x1x32x128.size iD, wD⟩] : List (View.Piece (Elt Ideal) S1x4x64x256 .i8)), y ∈ p.1.set := by
  exact ⟨agree_four v2 k hA hB hC hD hY hZ hS hwA hwB hwC hwD, fun y hy => cover_four k hA hB hC hD y hy⟩

variable (𝒱 : Variants) (c : Dev nD) (bd : Option 𝒱.V) (i : grid0.Coords) (arg2 : Memref sig .tc .smem S7 .i32) (harg2 : arg2.IsWhole) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole)  (v1 : BitVec 32) (k0_hw1 : k0_chk1 v1) (v2 : BitVec 32) (X3 : BufTy.Contents (Elt Ideal) arg3.view.ty) (X4 : BufTy.Contents (Elt Ideal) arg4.view.ty) (X17 : BufTy.Contents (Elt Ideal) arg17.view.ty) (X18 : BufTy.Contents (Elt Ideal) arg18.view.ty)

/-- What the four trips leave of the codes of operand 0. -/
theorem pb_val11 (x3 : S1x4x768x128.Idx → EReal) (s17 : S2x4x128x128.Idx → EReal) (s18 : S2x4x8x128.Idx → EReal) (hx : arg3.view.read (Elt Ideal) X3 = x3) (h17 : arg17.view.read (Elt Ideal) X17 = s17) (h18 : arg18.view.read (Elt Ideal) X18 = s18) (f : BufTy.Contents (Elt Ideal) arg11.view.ty) :
    arg11.view.read (Elt Ideal) (arg11.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.1) = codeG v2 (prodAt x3 s17 0) (zeroRow x3 s17 s18 0) (scaleRow x3 s17 s18 0) := by
  refine loop_read arg11.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.1) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_four v2 ⟨k.val, hk⟩ (by decide +kernel +revert) (by decide +kernel +revert) (by decide +kernel +revert) (by decide +kernel +revert)
        ((prodK_read _ _ _ _ k ⟨k.val, hk⟩ rfl _ _ _ _ _).trans (congrArg₂ (fun x s => prodAt x s 0 ⟨k.val, hk⟩) hx h17))
        (zeroK_read _ _ _ _ _ _ x3 s17 s18 hx h17 h18 k ⟨k.val, hk⟩ rfl _ _ _ _ _ _) (scaleK_read _ _ _ _ _ _ x3 s17 s18 hx h17 h18 k ⟨k.val, hk⟩ rfl _ _ _ _ _ _)
        (code_K11 v2 _ _ _) (code_K01 v2 _ _ _) (code_K10 v2 _ _ _) (code_K00 v2 _ _ _)

/-- What the four trips leave of the codes of operand 1. -/
theorem pb_val14 (x3 : S1x4x768x128.Idx → EReal) (s17 : S2x4x128x128.Idx → EReal) (s18 : S2x4x8x128.Idx → EReal) (hx : arg4.view.read (Elt Ideal) X4 = x3) (h17 : arg17.view.read (Elt Ideal) X17 = s17) (h18 : arg18.view.read (Elt Ideal) X18 = s18) (f : BufTy.Contents (Elt Ideal) arg14.view.ty) :
    arg14.view.read (Elt Ideal) (arg14.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k0_t3_loop.trips).2.2.2.2.2.1) = codeG v2 (prodAt x3 s17 1) (zeroRow x3 s17 s18 1) (scaleRow x3 s17 s18 1) := by
  refine loop_read arg14.view f (fun y => (y 1).val) k0_t3_loop.trips (fun y => by rw [trips_eq]; exact (y 1).isLt)
    (fun k => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 k0_hw1 v2 X3 X4 X17 X18 k).2.2.2.2.2.1) ?_ (fun k => by rw [pb_k0_t3_succ]) _ (fun k => ?_)
  · rw [pb_k0_t3.eq_1]
  · have hk : k.val < 4 := Nat.lt_of_lt_of_le k.isLt k0_t3_abs.2.1
    simp only [tripL_k0_t3]
    split
    on_goal 1 => unfold tripE
    on_goal 2 => unfold tripO
    all_goals
      dsimp only
      exact fills_four v2 ⟨k.val, hk⟩ (by decide +kernel +revert) (by decide +kernel +revert) (by decide +kernel +revert) (by decide +kernel +revert)
        ((prodV_read _ _ _ _ k ⟨k.val, hk⟩ rfl _ _ _ _ _).trans (congrArg₂ (fun x s => prodAt x s 1 ⟨k.val, hk⟩) hx h17))
        (zeroV_read _ _ _ _ _ _ x3 s17 s18 hx h17 h18 k ⟨k.val, hk⟩ rfl _ _ _ _ _ _) (scaleV_read _ _ _ _ _ _ x3 s17 s18 hx h17 h18 k ⟨k.val, hk⟩ rfl _ _ _ _ _ _)
        (code_V11 v2 _ _ _) (code_V01 v2 _ _ _) (code_V10 v2 _ _ _) (code_V00 v2 _ _ _)

end Cert.Proof.KernelIdeal

end
-- ==== Proof.KernelIdealRunA.lean ====
module

public import proofs.«01_k».proof.Proof.KernelIdealRuns
public import proofs.«01_k».proof.Proof.KernelIdealPrep
public import proofs.«01_k».proof.Proof.KernelIdealCodesTrip

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The length the body reads at a point. -/
abbrev word0 (i : grid0.Coords) (xt0 : TbBuf0 (F := Ideal) (0 : Dev nD) tbM0_0) : BitVec 32 := (tbM0_0.view.readAt (Elt Ideal) (Rect.unit (s := S7) (k0_off1 i) S1.size (k0_off1_inb i)).toLoadRect xt0 (Shape.Idx.first (numel1_S1.symm ▸ Nat.one_pos)))

-- (the run's proof term is large: the definition's epilogue — `abstractNestedProofs` — walks it past the default budget)
set_option maxHeartbeats 1000000 in
/-- What the body's stores leave in each output's staging memref, as pieces (last first) IN CASE A (`scf.if` 0 taken: points 0, 7, … 56: 9 of 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) :
    Σ' (LS0 : List (View.Piece (Elt Ideal) S2x4x128x128 .bf16)), { LS1 : List (View.Piece (Elt Ideal) S2x4x8x128 .f32) //
      ∀ (E : Set ℕ) (K : PUnit → sProp 𝕄) (hl : 512 ≤ (word0 i xt0).toNat) (hu : (word0 i xt0).toNat ≤ 768),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (winSpec x0 ((word0 i xt0).toNat - 512)) ∗ owns (c : Thread nD τ) arg10 fullShare (winSpec x1 ((word0 i xt0).toNat - 512)) ∗ owns (c : Thread nD τ) arg11 fullShare (codeG (Scalar.subi (word0 i xt0) 512#32) (prodAt x0 (tab17 (i 0).val x2 x3) 0) (zeroRow x0 (tab17 (i 0).val x2 x3) (tab18 (i 0).val x4 x5) 0) (scaleRow x0 (tab17 (i 0).val x2 x3) (tab18 (i 0).val x4 x5) 0)) ∗ owns (c : Thread nD τ) arg12 fullShare (outG (Scalar.subi (word0 i xt0) 512#32) (scaleRow x0 (tab17 (i 0).val x2 x3) (tab18 (i 0).val x4 x5) 0)) ∗ owns (c : Thread nD τ) arg13 fullShare (outG (Scalar.subi (word0 i xt0) 512#32) (zeroRow x0 (tab17 (i 0).val x2 x3) (tab18 (i 0).val x4 x5) 0)) ∗ owns (c : Thread nD τ) arg14 fullShare (codeG (Scalar.subi (word0 i xt0) 512#32) (prodAt x1 (tab17 (i 0).val x2 x3) 1) (zeroRow x1 (tab17 (i 0).val x2 x3) (tab18 (i 0).val x4 x5) 1) (scaleRow x1 (tab17 (i 0).val x2 x3) (tab18 (i 0).val x4 x5) 1)) ∗ owns (c : Thread nD τ) arg15 fullShare (outG (Scalar.subi (word0 i xt0) 512#32) (scaleRow x1 (tab17 (i 0).val x2 x3) (tab18 (i 0).val x4 x5) 1)) ∗ owns (c : Thread nD τ) arg16 fullShare (outG (Scalar.subi (word0 i xt0) 512#32) (zeroRow x1 (tab17 (i 0).val x2 x3) (tab18 (i 0).val x4 x5) 1)) ∗ (∃ f, arg17.view.loc (c : Thread nD τ) ↦[arg17.view.set]{fullShare} arg17.view.writes (Elt Ideal) f LS0) ∗ (∃ f, arg18.view.loc (c : Thread nD τ) ↦[arg18.view.set]{fullShare} arg18.view.writes (Elt Ideal) f LS1) ∗ tbPt0 c tbM0_0 xt0) -∗ K ⟨⟩))
          ⊢ wp frame (wpE (defs₀ (F := Ideal)) Variants.none c none) E (cc0_skvq_store i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K hl hu => ?run⟩
  case run =>
    simp only [cc0_skvq_store_eq_skeleton]; unfold cc0_skvq_store_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; exact pb_win9 _ _ _ _ _ _ _ _ _ _ _ _ _ _ _ _ _ _ _ _ _ _ _ _ _ _ _ _ _ _ _ _ _ _ _ _ _ _ _ _ _ _ _ _ _ _ hl hu (harg3.read_unread _) _
    isplitl [H7]
    · iexists _; isplitr; swap; · iexact H7
      ipureintro; exact pb_win10 _ _ _ _ _ _ _ _ _ _ _ _ _ _ _ _ _ _ _ _ _ _ _ _ _ _ _ _ _ _ _ _ _ _ _ _ _ _ _ _ _ _ _ _ _ _ hl hu (harg4.read_unread _) _
    isplitl [H8]
    · iexists _; isplitr; swap; · iexact H8
      ipureintro; exact pb_val11 _ _ _ _ _ _ _ _ _ _ _ _ _ _ _ _ _ _ _ _ _ _ _ _ _ _ _ _ _ _ _ _ _ _ _ _ _ _ _ _ _ _ _ _ _ _ _ _ (harg3.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [H9]
    · iexists _; isplitr; swap; · iexact H9
      ipureintro; exact pb_val12 _ _ _ _ _ _ _ _ _ _ _ _ _ _ _ _ _ _ _ _ _ _ _ _ _ _ _ _ _ _ _ _ _ _ _ _ _ _ _ _ _ _ _ _ _ _ _ _ (harg3.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [H10]
    · iexists _; isplitr; swap; · iexact H10
      ipureintro; exact pb_val13 _ _ _ _ _ _ _ _ _ _ _ _ _ _ _ _ _ _ _ _ _ _ _ _ _ _ _ _ _ _ _ _ _ _ _ _ _ _ _ _ _ _ _ _ _ _ _ _ (harg3.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [H11]
    · iexists _; isplitr; swap; · iexact H11
      ipureintro; exact pb_val14 _ _ _ _ _ _ _ _ _ _ _ _ _ _ _ _ _ _ _ _ _ _ _ _ _ _ _ _ _ _ _ _ _ _ _ _ _ _ _ _ _ _ _ _ _ _ _ _ (harg4.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [H12]
    · iexists _; isplitr; swap; · iexact H12
      ipureintro; exact pb_val15 _ _ _ _ _ _ _ _ _ _ _ _ _ _ _ _ _ _ _ _ _ _ _ _ _ _ _ _ _ _ _ _ _ _ _ _ _ _ _ _ _ _ _ _ _ _ _ _ (harg4.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [H13]
    · iexists _; isplitr; swap; · iexact H13
      ipureintro; exact pb_val16 _ _ _ _ _ _ _ _ _ _ _ _ _ _ _ _ _ _ _ _ _ _ _ _ _ _ _ _ _ _ _ _ _ _ _ _ _ _ _ _ _ _ _ _ _ _ _ _ (harg4.read_unread _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).1 _ _) ((prep_read _ _ _ _ _ _ _ _ _ _ _ _ _ _ _ _ _ _ _ _ _ _ _ _ _ _ _ _ _ _ _ _ _ _ _ _ _ _ hc0 _ _ _ _ _ _ _ _ (harg5.read_unread _) (harg7.read_unread _) (harg6.read_unread _) (harg8.read_unread _)).2 _ _) _
    isplitl [HS0]; · iexists _; iexact HS0
    isplitl [HS1]; · iexists _; iexact HS1
    iexact HT0

/-- The two tables after a point of case A, whatever they held before. -/
theorem runA_read (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) :
    (∀ {sp : Space} (v : View sig .tc sp S2x4x128x128 .bf16) (f : BufTy.Contents (Elt Ideal) v.ty), v.read (Elt Ideal) (v.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1) = tab17 (i 0).val x2 x3) ∧
    (∀ {sp : Space} (v : View sig .tc sp S2x4x8x128 .f32) (f : BufTy.Contents (Elt Ideal) v.ty), v.read (Elt Ideal) (v.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1) = tab18 (i 0).val x4 x5) :=
  prep_read Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 _ _ _ _ _ _ _ _ (harg5.read_unread _) (harg7.read_unread _) (harg6.read_unread _) (harg8.read_unread _)

end Cert.Proof.KernelIdeal

end
-- ==== Proof.KernelIdealRunB.lean ====
module

public import proofs.«01_k».proof.Proof.KernelIdealRunA

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 62: 54 of 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (xs0 : Vec Ideal S2x4x128x128 .bf16) (xs1 : Vec Ideal S2x4x8x128 .f32) (k0_hw1 : k0_chk1 (tbM0_0.view.readAt (Elt Ideal) (Rect.unit (s := S7) (k0_off1 i) S1.size (k0_off1_inb i)).toLoadRect xt0 (Shape.Idx.first (numel1_S1.symm ▸ Nat.one_pos)))) :
    Σ' (LS0 : List (View.Piece (Elt Ideal) S2x4x128x128 .bf16)), { LS1 : List (View.Piece (Elt Ideal) S2x4x8x128 .f32) //
      ∀ (E : Set ℕ) (K : PUnit → sProp 𝕄) (hl : 512 ≤ (word0 i xt0).toNat) (hu : (word0 i xt0).toNat ≤ 768),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (winSpec x0 ((word0 i xt0).toNat - 512)) ∗ owns (c : Thread nD τ) arg10 fullShare (winSpec x1 ((word0 i xt0).toNat - 512)) ∗ owns (c : Thread nD τ) arg11 fullShare (codeG (Scalar.subi (word0 i xt0) 512#32) (prodAt x0 xs0 0) (zeroRow x0 xs0 xs1 0) (scaleRow x0 xs0 xs1 0)) ∗ owns (c : Thread nD τ) arg12 fullShare (outG (Scalar.subi (word0 i xt0) 512#32) (scaleRow x0 xs0 xs1 0)) ∗ owns (c : Thread nD τ) arg13 fullShare (outG (Scalar.subi (word0 i xt0) 512#32) (zeroRow x0 xs0 xs1 0)) ∗ owns (c : Thread nD τ) arg14 fullShare (codeG (Scalar.subi (word0 i xt0) 512#32) (prodAt x1 xs0 1) (zeroRow x1 xs0 xs1 1) (scaleRow x1 xs0 xs1 1)) ∗ owns (c : Thread nD τ) arg15 fullShare (outG (Scalar.subi (word0 i xt0) 512#32) (scaleRow x1 xs0 xs1 1)) ∗ owns (c : Thread nD τ) arg16 fullShare (outG (Scalar.subi (word0 i xt0) 512#32) (zeroRow x1 xs0 xs1 1)) ∗ owns (c : Thread nD τ) arg17 fullShare xs0 ∗ owns (c : Thread nD τ) arg18 fullShare xs1 ∗ tbPt0 c tbM0_0 xt0) -∗ K ⟨⟩))
          ⊢ wp frame (wpE (defs₀ (F := Ideal)) Variants.none c none) E (cc0_skvq_store i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], fun E K hl hu => ?run⟩
  case run =>
    simp only [cc0_skvq_store_eq_skeleton]; unfold cc0_skvq_store_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg17.eq_unread hfs0; obtain rfl := harg18.eq_unread hfs1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; exact pb_win9 _ _ _ _ _ _ _ _ _ _ _ _ _ _ _ _ _ _ _ _ _ _ _ _ _ _ _ _ _ _ _ _ _ _ _ _ _ _ _ _ _ _ _ _ _ _ hl hu (harg3.read_unread _) _
    isplitl [H7]
    · iexists _; isplitr; swap; · iexact H7
      ipureintro; exact pb_win10 _ _ _ _ _ _ _ _ _ _ _ _ _ _ _ _ _ _ _ _ _ _ _ _ _ _ _ _ _ _ _ _ _ _ _ _ _ _ _ _ _ _ _ _ _ _ hl hu (harg4.read_unread _) _
    isplitl [H8]
    · iexists _; isplitr; swap; · iexact H8
      ipureintro; exact pb_val11 _ _ _ _ _ _ _ _ _ _ _ _ _ _ _ _ _ _ _ _ _ _ _ _ _ _ _ _ _ _ _ _ _ _ _ _ _ _ _ _ _ _ _ _ _ _ _ _ (harg3.read_unread _) (harg17.read_unread _) (harg18.read_unread _) _
    isplitl [H9]
    · iexists _; isplitr; swap; · iexact H9
      ipureintro; exact pb_val12 _ _ _ _ _ _ _ _ _ _ _ _ _ _ _ _ _ _ _ _ _ _ _ _ _ _ _ _ _ _ _ _ _ _ _ _ _ _ _ _ _ _ _ _ _ _ _ _ (harg3.read_unread _) (harg17.read_unread _) (harg18.read_unread _) _
    isplitl [H10]
    · iexists _; isplitr; swap; · iexact H10
      ipureintro; exact pb_val13 _ _ _ _ _ _ _ _ _ _ _ _ _ _ _ _ _ _ _ _ _ _ _ _ _ _ _ _ _ _ _ _ _ _ _ _ _ _ _ _ _ _ _ _ _ _ _ _ (harg3.read_unread _) (harg17.read_unread _) (harg18.read_unread _) _
    isplitl [H11]
    · iexists _; isplitr; swap; · iexact H11
      ipureintro; exact pb_val14 _ _ _ _ _ _ _ _ _ _ _ _ _ _ _ _ _ _ _ _ _ _ _ _ _ _ _ _ _ _ _ _ _ _ _ _ _ _ _ _ _ _ _ _ _ _ _ _ (harg4.read_unread _) (harg17.read_unread _) (harg18.read_unread _) _
    isplitl [H12]
    · iexists _; isplitr; swap; · iexact H12
      ipureintro; exact pb_val15 _ _ _ _ _ _ _ _ _ _ _ _ _ _ _ _ _ _ _ _ _ _ _ _ _ _ _ _ _ _ _ _ _ _ _ _ _ _ _ _ _ _ _ _ _ _ _ _ (harg4.read_unread _) (harg17.read_unread _) (harg18.read_unread _) _
    isplitl [H13]
    · iexists _; isplitr; swap; · iexact H13
      ipureintro; exact pb_val16 _ _ _ _ _ _ _ _ _ _ _ _ _ _ _ _ _ _ _ _ _ _ _ _ _ _ _ _ _ _ _ _ _ _ _ _ _ _ _ _ _ _ _ _ _ _ _ _ (harg4.read_unread _) (harg17.read_unread _) (harg18.read_unread _) _
    isplitl [HS0]
    · iexists _; isplitr; · ipureintro; exact harg17.read_unread _
      iexact HS0
    isplitl [HS1]
    · iexists _; isplitr; · ipureintro; exact harg18.read_unread _
      iexact HS1
    iexact HT0

end Cert.Proof.KernelIdeal

end
-- ==== Proof.KernelIdealFrame.lean ====
module

public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- Every length the body reads is in range. -/
def Rng (m : (ℓ : Loc nD τ sig) → Buf (Elt Ideal) ℓ) : Prop := ∀ i : grid0.Coords, 512 ≤ (word0 i (tbl m 0)).toNat ∧ (word0 i (tbl m 0)).toNat ≤ 768

/-- Case A's pieces for scratch `arg17`, which the kernel carries between points, cover it: 8 pieces of `S1x1x128x128` tiling it (Lib/Ring.lean `Piece.tiledL`). -/
theorem scover0_A_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) (y : S2x4x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1 S1x1x128x128.size (by sl_kernel_rfl) y

/-- What case A leaves in scratch `arg17`: its pieces read back over junk. -/
def sout0_A_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) : Vec Ideal S2x4x128x128 .bf16 :=
  VS0_0.read (Elt Ideal) (VS0_0.writes (Elt Ideal) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).1)

/-- Case A's pieces for scratch `arg18`, which the kernel carries between points, cover it: 32 pieces of `S1x1x2x128` tiling it (Lib/Ring.lean `Piece.tiledL`). -/
theorem scover0_A_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) (y : S2x4x8x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1 S1x1x2x128.size (by sl_kernel_rfl) y

/-- What case A leaves in scratch `arg18`: its pieces read back over junk. -/
def sout0_A_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (k0_hw1 : k0_chk1 (tbM0_0.view.readAt (Elt Ideal) (Rect.unit (s := S7) (k0_off1 i) S1.size (k0_off1_inb i)).toLoadRect xt0 (Shape.Idx.first (numel1_S1.symm ▸ Nat.one_pos)))) : Vec Ideal S2x4x8x128 .f32 :=
  VS0_1.read (Elt Ideal) (VS0_1.writes (Elt Ideal) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 k0_hw1).2.1)

/-- Case B stores nothing into scratch `arg17`: it holds what the point before left. -/
def sout0_B_0 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (xs0 : Vec Ideal S2x4x128x128 .bf16) (xs1 : Vec Ideal S2x4x8x128 .f32) (k0_hw1 : k0_chk1 (tbM0_0.view.readAt (Elt Ideal) (Rect.unit (s := S7) (k0_off1 i) S1.size (k0_off1_inb i)).toLoadRect xt0 (Shape.Idx.first (numel1_S1.symm ▸ Nat.one_pos)))) : Vec Ideal S2x4x128x128 .bf16 := xs0

/-- Case B stores nothing into scratch `arg18`: it holds what the point before left. -/
def sout0_B_1 (c : Dev nD) (i : grid0.Coords) (arg3 : Memref sig .tc .vmem S1x4x768x128 .bf16) (harg3 : arg3.IsWhole) (arg4 : Memref sig .tc .vmem S1x4x768x128 .bf16) (harg4 : arg4.IsWhole) (arg5 : Memref sig .tc .vmem S36x128 .i32) (harg5 : arg5.IsWhole) (arg6 : Memref sig .tc .vmem S36x128 .i32) (harg6 : arg6.IsWhole) (arg7 : Memref sig .tc .vmem S4x36 .f32) (harg7 : arg7.IsWhole) (arg8 : Memref sig .tc .vmem S4x36 .f32) (harg8 : arg8.IsWhole) (arg9 : Memref sig .tc .vmem S1x4x512x128 .bf16) (harg9 : arg9.IsWhole) (arg10 : Memref sig .tc .vmem S1x4x512x128 .bf16) (harg10 : arg10.IsWhole) (arg11 : Memref sig .tc .vmem S1x4x64x256 .i8) (harg11 : arg11.IsWhole) (arg12 : Memref sig .tc .vmem S1x4x4x256 .fp8e4m3) (harg12 : arg12.IsWhole) (arg13 : Memref sig .tc .vmem S1x4x4x256 .fp8e4m3) (harg13 : arg13.IsWhole) (arg14 : Memref sig .tc .vmem S1x4x64x256 .i8) (harg14 : arg14.IsWhole) (arg15 : Memref sig .tc .vmem S1x4x4x256 .fp8e4m3) (harg15 : arg15.IsWhole) (arg16 : Memref sig .tc .vmem S1x4x4x256 .fp8e4m3) (harg16 : arg16.IsWhole) (arg17 : Memref sig .tc .vmem S2x4x128x128 .bf16) (harg17 : arg17.IsWhole) (arg18 : Memref sig .tc .vmem S2x4x8x128 .f32) (harg18 : arg18.IsWhole) (hc0 : ¬cond0_0 i)
    (x0 : Vec Ideal S1x4x768x128 .bf16) (x1 : Vec Ideal S1x4x768x128 .bf16) (x2 : Vec Ideal S36x128 .i32) (x3 : Vec Ideal S36x128 .i32) (x4 : Vec Ideal S4x36 .f32) (x5 : Vec Ideal S4x36 .f32) (xt0 : TbBuf0 (F := Ideal) c tbM0_0) (xs0 : Vec Ideal S2x4x128x128 .bf16) (xs1 : Vec Ideal S2x4x8x128 .f32) (k0_hw1 : k0_chk1 (tbM0_0.view.readAt (Elt Ideal) (Rect.unit (s := S7) (k0_off1 i) S1.size (k0_off1_inb i)).toLoadRect xt0 (Shape.Idx.first (numel1_S1.symm ▸ Nat.one_pos)))) : Vec Ideal S2x4x8x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec Ideal S2x4x128x128 .bf16 × Vec Ideal S2x4x8x128 .f32
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩))
  | n + 1, hn =>
    if h0 : (n + 1) % 7 = 0 then
      (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩))
    else
      (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).1 (outsAt0 hO hH c n (Nat.lt_of_succ_lt hn)).2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).1 (outsAt0 hO hH c n (Nat.lt_of_succ_lt hn)).2 (Hyps.c0 hH c ⟨n + 1, hn⟩))

/-- `outsAt0` at a point of case A: that case's contents. -/
theorem outsAt0_A (hO : Ok m) (hH : Hyps m hO) (c : Dev nD) (t : Fin (cfgM m hO).N) (h0 : t.val % 7 = 0) :
    outsAt0 m hO hH c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t)) := by
  obtain ⟨n, hn⟩ := t
  cases n with
  | zero => exact rfl
  | succ n => exact (dif_pos h0).trans rfl

/-- At a point of case A the two tables are the ones that point's permutations and clips give. -/
theorem outsAt0_tab (hO : Ok m) (hH : Hyps m hO) (c : Dev nD) (t : Fin (cfgM m hO).N) (h0 : t.val % 7 = 0) :
    outsAt0 m hO hH c t.val t.isLt = (tab17 (grid0.coords t 0).val (iblk m hO c 2 t) (iblk m hO c 3 t), tab18 (grid0.coords t 0).val (iblk m hO c 4 t) (iblk m hO c 5 t)) := by
  rw [outsAt0_A m hO hH c t h0]
  unfold sout0_A_0 sout0_A_1
  exact congrArg₂ Prod.mk ((runA_read c _ _ _ _ _ _ _ _ _ _ _ _ _ _ _ _ _ _ _ _ _ _ _ _ _ _ _ _ _ _ _ _ _ _ _ _ _ _ _ _ _ (Hyps.c0 hH c t)).1 _ _)
    ((runA_read c _ _ _ _ _ _ _ _ _ _ _ _ _ _ _ _ _ _ _ _ _ _ _ _ _ _ _ _ _ _ _ _ _ _ _ _ _ _ _ _ _ (Hyps.c0 hH c t)).2 _ _)

/-- `outsAt0` at a point of case B: that case's contents, over what the point before left. -/
theorem outsAt0_B (hO : Ok m) (hH : Hyps m hO) (c : Dev nD) (t : Fin (cfgM m hO).N) (h0 : ¬t.val % 7 = 0) :
    outsAt0 m hO hH c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).1) ∗ owns (c : Thread nD τ) scM0_1 fullShare ((outsAt0 m hO hH c n hn).2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).1) ∗ owns (c : Thread nD τ) scM0_1 fullShare ((outsAt0 m hO hH c n hn).2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).1) ∗ owns (c : Thread nD τ) scM0_1 fullShare ((outsAt0 m hO hH c (n - 1) (by omega)).2)) ∗ (∃ r, prngReg c r)) ∗ Pipeline.ΦT pre0 (tbl m) c) := by
  cases n with
  | zero => exact absurd rfl hz
  | succ n => rfl

/-! ## The pipeline's proof data -/

/-- Every output window is named: none is forgotten (Lib/Pipeline/Dat.lean `Dat.toRForget`). -/
def forgets0 : Fin 14 → Bool := fun _ => false

/-- The proof data of the one pipeline on core `c`: the arrays as the region finds them (`V`); after the body at
    point `t` each input's buffer at its block, the two windows' outputs at the window of the block, the codes, scales and zeros at those of the tables' products; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => winSpec (iblk m hO c 0 t) ((word0 (grid0.coords t) (tbl m 0)).toNat - 512)
    | ⟨7, _⟩ => winSpec (iblk m hO c 1 t) ((word0 (grid0.coords t) (tbl m 0)).toNat - 512)
    | ⟨8, _⟩ => codeG (Scalar.subi (word0 (grid0.coords t) (tbl m 0)) 512#32) (prodAt (iblk m hO c 0 t) (outsAt0 m hO hH c t.val t.isLt).1 0) (zeroRow (iblk m hO c 0 t) (outsAt0 m hO hH c t.val t.isLt).1 (outsAt0 m hO hH c t.val t.isLt).2 0) (scaleRow (iblk m hO c 0 t) (outsAt0 m hO hH c t.val t.isLt).1 (outsAt0 m hO hH c t.val t.isLt).2 0)
    | ⟨9, _⟩ => outG (Scalar.subi (word0 (grid0.coords t) (tbl m 0)) 512#32) (scaleRow (iblk m hO c 0 t) (outsAt0 m hO hH c t.val t.isLt).1 (outsAt0 m hO hH c t.val t.isLt).2 0)
    | ⟨10, _⟩ => outG (Scalar.subi (word0 (grid0.coords t) (tbl m 0)) 512#32) (zeroRow (iblk m hO c 0 t) (outsAt0 m hO hH c t.val t.isLt).1 (outsAt0 m hO hH c t.val t.isLt).2 0)
    | ⟨11, _⟩ => codeG (Scalar.subi (word0 (grid0.coords t) (tbl m 0)) 512#32) (prodAt (iblk m hO c 1 t) (outsAt0 m hO hH c t.val t.isLt).1 1) (zeroRow (iblk m hO c 1 t) (outsAt0 m hO hH c t.val t.isLt).1 (outsAt0 m hO hH c t.val t.isLt).2 1) (scaleRow (iblk m hO c 1 t) (outsAt0 m hO hH c t.val t.isLt).1 (outsAt0 m hO hH c t.val t.isLt).2 1)
    | ⟨12, _⟩ => outG (Scalar.subi (word0 (grid0.coords t) (tbl m 0)) 512#32) (scaleRow (iblk m hO c 1 t) (outsAt0 m hO hH c t.val t.isLt).1 (outsAt0 m hO hH c t.val t.isLt).2 1)
    | ⟨13, _⟩ => outG (Scalar.subi (word0 (grid0.coords t) (tbl m 0)) 512#32) (zeroRow (iblk m hO c 1 t) (outsAt0 m hO hH c t.val t.isLt).1 (outsAt0 m hO hH c t.val t.isLt).2 1)
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

theorem after0_6 (hO : Ok m) (hH : Hyps m hO) (c : Dev nD) (t : Fin (cfgM m hO).N) : (dats m hO hH 0 c).after 6 t = winSpec (iblk m hO c 0 t) ((word0 (grid0.coords t) (tbl m 0)).toNat - 512) := by dsimp only [dats]; try rfl

theorem after0_7 (hO : Ok m) (hH : Hyps m hO) (c : Dev nD) (t : Fin (cfgM m hO).N) : (dats m hO hH 0 c).after 7 t = winSpec (iblk m hO c 1 t) ((word0 (grid0.coords t) (tbl m 0)).toNat - 512) := by dsimp only [dats]; try rfl

theorem after0_8 (hO : Ok m) (hH : Hyps m hO) (c : Dev nD) (t : Fin (cfgM m hO).N) : (dats m hO hH 0 c).after 8 t = codeG (Scalar.subi (word0 (grid0.coords t) (tbl m 0)) 512#32) (prodAt (iblk m hO c 0 t) (outsAt0 m hO hH c t.val t.isLt).1 0) (zeroRow (iblk m hO c 0 t) (outsAt0 m hO hH c t.val t.isLt).1 (outsAt0 m hO hH c t.val t.isLt).2 0) (scaleRow (iblk m hO c 0 t) (outsAt0 m hO hH c t.val t.isLt).1 (outsAt0 m hO hH c t.val t.isLt).2 0) := by dsimp only [dats]; try rfl

theorem after0_9 (hO : Ok m) (hH : Hyps m hO) (c : Dev nD) (t : Fin (cfgM m hO).N) : (dats m hO hH 0 c).after 9 t = outG (Scalar.subi (word0 (grid0.coords t) (tbl m 0)) 512#32) (scaleRow (iblk m hO c 0 t) (outsAt0 m hO hH c t.val t.isLt).1 (outsAt0 m hO hH c t.val t.isLt).2 0) := by dsimp only [dats]; try rfl

theorem after0_10 (hO : Ok m) (hH : Hyps m hO) (c : Dev nD) (t : Fin (cfgM m hO).N) : (dats m hO hH 0 c).after 10 t = outG (Scalar.subi (word0 (grid0.coords t) (tbl m 0)) 512#32) (zeroRow (iblk m hO c 0 t) (outsAt0 m hO hH c t.val t.isLt).1 (outsAt0 m hO hH c t.val t.isLt).2 0) := by dsimp only [dats]; try rfl

theorem after0_11 (hO : Ok m) (hH : Hyps m hO) (c : Dev nD) (t : Fin (cfgM m hO).N) : (dats m hO hH 0 c).after 11 t = codeG (Scalar.subi (word0 (grid0.coords t) (tbl m 0)) 512#32) (prodAt (iblk m hO c 1 t) (outsAt0 m hO hH c t.val t.isLt).1 1) (zeroRow (iblk m hO c 1 t) (outsAt0 m hO hH c t.val t.isLt).1 (outsAt0 m hO hH c t.val t.isLt).2 1) (scaleRow (iblk m hO c 1 t) (outsAt0 m hO hH c t.val t.isLt).1 (outsAt0 m hO hH c t.val t.isLt).2 1) := by dsimp only [dats]; try rfl

theorem after0_12 (hO : Ok m) (hH : Hyps m hO) (c : Dev nD) (t : Fin (cfgM m hO).N) : (dats m hO hH 0 c).after 12 t = outG (Scalar.subi (word0 (grid0.coords t) (tbl m 0)) 512#32) (scaleRow (iblk m hO c 1 t) (outsAt0 m hO hH c t.val t.isLt).1 (outsAt0 m hO hH c t.val t.isLt).2 1) := by dsimp only [dats]; try rfl

theorem after0_13 (hO : Ok m) (hH : Hyps m hO) (c : Dev nD) (t : Fin (cfgM m hO).N) : (dats m hO hH 0 c).after 13 t = outG (Scalar.subi (word0 (grid0.coords t) (tbl m 0)) 512#32) (zeroRow (iblk m hO c 1 t) (outsAt0 m hO hH c t.val t.isLt).1 (outsAt0 m hO hH c t.val t.isLt).2 1) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (hR : Rng m) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_6, after0_7, after0_8, after0_9, after0_10, after0_11, after0_12, after0_13]
  rw [show (dats m hO hH 0 c).Φ t.succ = PhiS m hO hH c (t.val + 1) t.isLt from rfl, PhiS_succ, PhiT0_eq]
  have hN : t.val < 63 := lt_of_lt_of_eq t.isLt (show (cfgM m hO).N = 63 from N_0)
  by_cases h0 : t.val % 7 = 0
  · by_cases hz : t.val = 0
    · rw [PhiS_castSucc m hO hH c t, PhiS_zero m hO hH c _ _ hz, PhiT0_eq, PhiA0_eq]
      rw [outsAt0_tab m hO hH c t h0]; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2 Set.univ _ (hR _).1 (hR _).2)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HT0]; · iexact HT0
      iintro ⟨H0, H1, H2, H3, H4, H5, H6, H7, H8, H9, H10, H11, H12, H13, ⟨%es0, HS0⟩, ⟨%es1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact (runA_read c _ _ _ _ _ _ _ _ _ _ _ _ _ _ _ _ _ _ _ _ _ _ _ _ _ _ _ _ _ _ _ _ _ _ _ _ _ _ _ _ _ (Hyps.c0 hH c t)).1 _ _
            unfold owns; iexists _; isplitr
            swap; · iexact HS1
            ipureintro; exact (runA_read c _ _ _ _ _ _ _ _ _ _ _ _ _ _ _ _ _ _ _ _ _ _ _ _ _ _ _ _ _ _ _ _ _ _ _ _ _ _ _ _ _ (Hyps.c0 hH c t)).2 _ _
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [PhiS_castSucc m hO hH c t, PhiS_pos m hO hH c _ _ hz, PhiT0_eq]
      rw [outsAt0_tab m hO hH c t h0]; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2 Set.univ _ (hR _).1 (hR _).2)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexists _; iexact HS0
      isplitl [HS1]; · iexists _; iexact HS1
      isplitl [HT0]; · iexact HT0
      iintro ⟨H0, H1, H2, H3, H4, H5, H6, H7, H8, H9, H10, H11, H12, H13, ⟨%es0, HS0⟩, ⟨%es1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact (runA_read c _ _ _ _ _ _ _ _ _ _ _ _ _ _ _ _ _ _ _ _ _ _ _ _ _ _ _ _ _ _ _ _ _ _ _ _ _ _ _ _ _ (Hyps.c0 hH c t)).1 _ _
            unfold owns; iexists _; isplitr
            swap; · iexact HS1
            ipureintro; exact (runA_read c _ _ _ _ _ _ _ _ _ _ _ _ _ _ _ _ _ _ _ _ _ _ _ _ _ _ _ _ _ _ _ _ _ _ _ _ _ _ _ _ _ (Hyps.c0 hH c t)).2 _ _
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases hz : t.val = 0
    · exfalso; have hN : t.val < 63 := lt_of_lt_of_eq t.isLt (show (cfgM m hO).N = 63 from N_0); omega
    · rw [PhiS_castSucc m hO hH c t, PhiS_pos m hO hH c _ _ hz, PhiT0_eq]
      rw [outsAt0_B m hO hH c t h0]
      unfold sout0_B_0 sout0_B_1; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _ _ (Hyps.c0 hH c t)).2.2 Set.univ _ (hR _).1 (hR _).2)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HT0]; · iexact HT0
      iintro ⟨H0, H1, H2, H3, H4, H5, H6, H7, H8, H9, H10, H11, H12, H13, HS0, HS1, HT0⟩
      isplitl [HS0 HS1 Hg HT0]
      · isplitl [HS0 HS1 Hg]
        · isplitl [HS0 HS1]
          · isplitl [HS0]
            · iexact HS0
            iexact HS1
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- One of the two conditions on the parity of a length holds. -/
theorem live_of_parity (v : BitVec 32) : (!(k0_cond2 v == 1#1) && !(k0_cond3 v == 1#1)) = false := by
  by_cases h : k0_cond2 v = 1#1
  · simp [h]
  · simp [cond3_odd h]

/-- The same of the second window's pair of conditions, which are the first's. -/
theorem live_of_parity' (v : BitVec 32) : (!(k0_cond4 v == 1#1) && !(k0_cond5 v == 1#1)) = false := live_of_parity v

/-- A window neither forgotten nor idle at a point is left at what the data name. -/
theorem leave_live {cfg : Cfg sig Λ₀} {c : Dev nD} (dat : Dat τ (Elt Ideal) Unit ℕ (UR sig nD τ) ℕ cfg c) (fgt : Fin cfg.W → Bool) (w : Fin cfg.W) (t : Fin cfg.N)
    (hf : fgt w = false) (hi : cfg.idle w (cfg.grid.coords t) = false) :
    owns (c : Thread nD τ) ((cfg.win w).stage (cfg.slots t w)) fullShare (dat.after w t) ⊢
      (match fgt w with
      | true => iprop(∃ X, owns (c : Thread nD τ) ((cfg.win w).stage (cfg.slots t w)) fullShare X)
      | false =>
        match cfg.idle w (cfg.grid.coords t) with
        | true =>
          match (cfg.win w).flush t with
          | false => iprop(∃ d, owns (c : Thread nD τ) ((cfg.win w).stage (cfg.slots t w)) fullShare (dat.before w t d))
          | true => owns (c : Thread nD τ) ((cfg.win w).stage (cfg.slots t w)) fullShare (dat.after w t)
        | false => owns (c : Thread nD τ) ((cfg.win w).stage (cfg.slots t w)) fullShare (dat.after w t) : sProp 𝕄) := by
  rw [hf, hi]

/-- The library's body obligation, at every point: the body's triple restated (Lib/Pipeline/FrameBody.lean `triple_restated`). -/
theorem body_obligation (hO : Ok m) (hH : Hyps m hO) (hR : Rng m) (c : Dev nD) : BodyObligation (dats m hO hH 0 c) (defs₀ (F := Ideal)) Variants.none () Set.univ forgets0 := fun t => by
  rw [bigSep_W0, bigSep_W0, defs₀_row m hO]
  exact triple_restated (sound_body m hO hH hR c t) rfl .rfl fun _ =>
    Idealize.SL.BI.Laws.sep_mono .rfl <| Idealize.SL.BI.Laws.sep_mono .rfl <| Idealize.SL.BI.Laws.sep_mono .rfl <| Idealize.SL.BI.Laws.sep_mono .rfl <| Idealize.SL.BI.Laws.sep_mono .rfl <| Idealize.SL.BI.Laws.sep_mono .rfl <| Idealize.SL.BI.Laws.sep_mono .rfl <| Idealize.SL.BI.Laws.sep_mono .rfl <|
    Idealize.SL.BI.Laws.sep_mono (leave_live (dats m hO hH 0 c) forgets0 6 t rfl (live_of_parity _)) <| Idealize.SL.BI.Laws.sep_mono (leave_live (dats m hO hH 0 c) forgets0 7 t rfl (live_of_parity' _)) <|
    Idealize.SL.BI.Laws.sep_mono (leave_live (dats m hO hH 0 c) forgets0 8 t rfl rfl) <| Idealize.SL.BI.Laws.sep_mono (leave_live (dats m hO hH 0 c) forgets0 9 t rfl rfl) <| Idealize.SL.BI.Laws.sep_mono (leave_live (dats m hO hH 0 c) forgets0 10 t rfl rfl) <|
    Idealize.SL.BI.Laws.sep_mono (leave_live (dats m hO hH 0 c) forgets0 11 t rfl rfl) <| Idealize.SL.BI.Laws.sep_mono (leave_live (dats m hO hH 0 c) forgets0 12 t rfl rfl) (leave_live (dats m hO hH 0 c) forgets0 13 t rfl rfl)

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 63 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) (hR : Rng m) : θ_run defs (onTc (τ := τ) (main (F := Ideal))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH hR c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, every output's blocks at
    what the proof data name (Lib/Pipeline/Frame.lean `RDat.FramePost`), and every other unscoped buffer at its region-entry contents. -/
theorem run_main (hO : Ok m) (hH : Hyps m hO) (hR : Rng m) : θ_run defs (onTc (τ := τ) (main (F := Ideal))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH hR)

/-- `frame` without the counters: the argument arrays end unchanged. -/
theorem unchanged (hO : Ok m) (hH : Hyps m hO) (hR : Rng m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH hR)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) (hR : Rng m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH hR) ((θ_run defs _ _).mono (fun _ h => h.2) (run_main_quiescent m ρ hO hH hR))

end Cert.Proof.KernelIdeal

end
-- ==== Proof.KernelIdealHyps.lean ====
module

public import proofs.«01_k».proof.Defs
public import proofs.«01_k».proof.Proof.Gen.Pre_in_range
public import proofs.«01_k».proof.Proof.WordFacts
public import proofs.«01_k».proof.Proof.KernelIdealFrame

@[expose] public section

noncomputable section

namespace Cert.Proof.KernelIdeal

open Cert.KernelIdeal Cert.KernelIdeal.Gen
open Idealize.ShloMosaic Idealize.ShloMosaic.TcCoe Idealize.SL Idealize.SL.Sem

/-- Every sequence length in range makes the kernel's window reads stay inside the block. -/
theorem chk_of_range (v : BitVec 32) (h1 : 512 ≤ v.toNat) (h2 : v.toNat ≤ 768) : k0_chk1 v := by
  have key : ∀ (k : Fin k0_t3_loop.trips) (w : BitVec 32), 2 * w.toNat + 16 ≤ 768 → ∀ a : Fin 4,
      (![0, (Scf.iv (0#32) (1#32) k.val).toNat, Nat.mul 2 w.toNat, 0] : Fin 4 → Nat) a + S1x1x16x128.size a ≤ S1x4x768x128.size a := by
    intro k w hw a
    have hk : k.val < 4 := Nat.lt_of_lt_of_le k.isLt k0_t3_abs.2.1
    have e := iv_toNat k.val hk
    fin_cases a
    · simp [Shape.size]
    · show (Scf.iv (0#32) (1#32) k.val).toNat + 1 ≤ 4
      omega
    · show 2 * w.toNat + 16 ≤ 768
      exact hw
    · simp [Shape.size]
  have odd : ∀ (h : k0_cond3 v = 1#1), v.toNat ≤ 767 := by
    intro h
    by_contra hc
    have : v = 768#32 := by apply BitVec.eq_of_toNat_eq; simp only [BitVec.toNat_ofNat]; omega
    subst this
    exact absurd h (by decide)
  refine ⟨fun k _ r => key k _ ?_, fun k _ r => key k _ ?_, fun k h r => key k _ ?_, fun k _ r => key k _ ?_, fun k _ r => key k _ ?_, fun k h r => key k _ ?_⟩
  all_goals have hr := r.isLt
  · have := half_add_toNat v h1 h2 r; show 2 * (Scalar.addi _ _).toNat + 16 ≤ 768; rw [this]; omega
  · have := half_add_toNat v h1 h2 r; show 2 * (Scalar.addi _ _).toNat + 16 ≤ 768; rw [this]; omega
  · have := half_add_one_toNat v h1 h2 r; have := odd h; show 2 * (Scalar.addi _ _).toNat + 16 ≤ 768; rw [half_add_one_toNat v h1 h2 r]; omega
  · have := half_add_toNat v h1 h2 r; show 2 * (Scalar.addi _ _).toNat + 16 ≤ 768; rw [this]; omega
  · have := half_add_toNat v h1 h2 r; show 2 * (Scalar.addi _ _).toNat + 16 ≤ 768; rw [this]; omega
  · have := half_add_one_toNat v h1 h2 r; have := odd h; show 2 * (Scalar.addi _ _).toNat + 16 ≤ 768; rw [half_add_one_toNat v h1 h2 r]; omega

variable (m : (ℓ : Loc nD τ sig) → Buf (Elt Ideal) ℓ)

/-- No index map reads the table of lengths. -/
theorem ok_all : Ok (F := Ideal) m := by
  first | trivial | (refine ⟨?_⟩; trivial)

/-- The precondition, read at one sequence. -/
theorem len_of_pre (h : Cert.Pre_KernelIdeal m) (c : Dev nD) (b : S7.Idx) :
    512 ≤ ((m ((c.tc : Thread nD τ).loc main_arg2) : S7.Idx → BitVec 32) b).toNat ∧ ((m ((c.tc : Thread nD τ).loc main_arg2) : S7.Idx → BitVec 32) b).toNat ≤ 768 := by
  have h0 := congrFun (h c) b
  simp only [Cert.Pre_in_range.fn, andi, cmpi, broadcastInDim, constantI] at h0
  have bit : ∀ a b : BitVec 1, IntOp.andi a b = 1#1 → a = 1#1 ∧ b = 1#1 := by decide
  have bool_one : ∀ {b : Bool}, BitVec.ofBool b = 1#1 → b = true := by decide
  obtain ⟨h1, h2⟩ := bit _ _ h0
  have h1 := bool_one h1
  have h2 := bool_one h2
  exact toNat_of_toInt _ (of_decide_eq_true h1) (of_decide_eq_true h2)

/-- The word the body reads at a point is one of the lengths. -/
theorem word_eq (c : Dev nD) (r : LoadRect S7) (x : r.shape.Idx) :
    ∃ b : S7.Idx, (tbM0_0.view.readAt (Elt Ideal) r (tbl m 0) x : BitVec 32) = (m ((c.tc : Thread nD τ).loc main_arg2) : S7.Idx → BitVec 32) b := by
  obtain rfl : c = 0 := Subsingleton.elim _ _
  exact ⟨r.idx x, congrFun (V_main_arg2 m 0) (r.idx x)⟩

/-- The side condition the body assumes holds at every point. -/
theorem hyps_of_pre (h : Cert.Pre_KernelIdeal m) : Hyps m (ok_all m) := by
  refine Hyps.of fun c t => ?_
  unfold Hyps.p0
  obtain ⟨b, hb⟩ := word_eq m c (Rect.unit (s := S7) (k0_off1 (grid0.coords t)) S1.size (k0_off1_inb (grid0.coords t))).toLoadRect (Shape.Idx.first (numel1_S1.symm ▸ Nat.one_pos))
  rw [hb]
  exact chk_of_range _ (len_of_pre m h c b).1 (len_of_pre m h c b).2

/-- Every length the body reads is in range. -/
theorem rng_of_pre (h : Cert.Pre_KernelIdeal m) : Rng m := fun i => by
  obtain ⟨b, hb⟩ := word_eq m 0 (Rect.unit (s := S7) (k0_off1 i) S1.size (k0_off1_inb i)).toLoadRect (Shape.Idx.first (numel1_S1.symm ▸ Nat.one_pos))
  unfold word0
  rw [hb]
  exact len_of_pre m h 0 b

end Cert.Proof.KernelIdeal

end
-- ==== Proof.KernelIdealValue.lean ====
module

public import proofs.«01_k».proof.Proof.KernelIdealHyps
public import Idealize.ShloMosaic.Lib.Pointwise
public import Idealize.ShloMosaic.Lib.Claim
public import Idealize.ShloMosaic.Lib.Pipeline.ValueKit.Geometry
public import Idealize.ShloMosaic.Lib.Pipeline.ValueKit.Point

/-! The kernel's two windows after the run: result `[b, h, r, d]` is the operand at token
`(length of b − 512) + r`. -/

@[expose] public section

set_option maxRecDepth 16384

noncomputable section

namespace Cert.Proof.KernelIdeal

open Cert.KernelIdeal Cert.KernelIdeal.Gen
open Idealize.ShloMosaic Idealize.ShloMosaic.TcCoe Idealize.SL Idealize.SL.Sem

/-- The window of `x` for the lengths `L`. -/
def winArr (x : S7x768x36x128.Idx → EReal) (L : S7.Idx → BitVec 32) : S7x36x512x128.Idx → EReal := fun y =>
  x (ix4 (y 0) (⟨((L (ix1 (y 0))).toNat - 512 + (y 2).val) % 768, Nat.mod_lt _ (by omega)⟩ : Fin 768) (y 1) (y 3))

variable (m : (ℓ : Loc nD τ sig) → Buf (Elt Ideal) ℓ)

/-- Every block of the windows' arrays is written back at some point. -/
theorem flushes : ∀ (b : Fin 7) (g : Fin 9), ∃ t : Fin grid0.N,
    (t.val + 1 = grid0.N || decide (∃ h : t.val + 1 < grid0.N, cc0_transform_6 (grid0.coords ⟨t.val + 1, h⟩) ≠ cc0_transform_6 (grid0.coords t))) = true
      ∧ ∀ a, cc0_transform_6 (grid0.coords t) a = (![b.val, g.val, 0, 0] : Fin 4 → Nat) a := by decide +kernel

theorem covered (β : Fin 4 → Nat) (hβ : ∀ a, β a < (S7x36x512x128.size a + S1x4x512x128.size a - 1) / S1x4x512x128.size a) : ∃ t : Fin grid0.N,
    (t.val + 1 = grid0.N || decide (∃ h : t.val + 1 < grid0.N, cc0_transform_6 (grid0.coords ⟨t.val + 1, h⟩) ≠ cc0_transform_6 (grid0.coords t))) = true
      ∧ ∀ a, cc0_transform_6 (grid0.coords t) a = β a := by
  have h0 : β 0 < 7 := hβ 0
  have h1 : β 1 < 9 := hβ 1
  have h2 : β 2 < 1 := hβ 2
  have h3 : β 3 < 1 := hβ 3
  obtain ⟨t, hf, ht⟩ := flushes ⟨β 0, h0⟩ ⟨β 1, h1⟩
  refine ⟨t, hf, fun a => (ht a).trans ?_⟩
  fin_cases a
  · rfl
  · rfl
  · exact (Nat.lt_one_iff.mp h2).symm
  · exact (Nat.lt_one_iff.mp h3).symm

theorem cov6 (hO : Ok m) : ((cfgM m hO).win 6).Covers := by
  refine ⟨fun a => ?_, fun β => ?_⟩
  · revert a; show ∀ a : Fin 4, 0 < S1x4x512x128.size a; decide
  · obtain ⟨t, hf, ht⟩ := covered (fun a : Fin 4 => (β a).val) (fun a => (β a).isLt)
    exact ⟨t, hf, fun a => ⟨ht a, Or.inl rfl⟩⟩

theorem cov7 (hO : Ok m) : ((cfgM m hO).win 7).Covers := by
  refine ⟨fun a => ?_, fun β => ?_⟩
  · revert a; show ∀ a : Fin 4, 0 < S1x4x512x128.size a; decide
  · obtain ⟨t, hf, ht⟩ := covered (fun a : Fin 4 => (β a).val) (fun a => (β a).isLt)
    exact ⟨t, hf, fun a => ⟨ht a, Or.inl rfl⟩⟩

/-- The heads' axis before the tokens': the first operand as the region finds it. -/
theorem V_k (c : Dev nD) (y : S7x36x768x128.Idx) :
    (V m c main_v0 : S7x36x768x128.Idx → EReal) y = (m ((c.tc : Thread nD τ).loc main_arg0) : S7x768x36x128.Idx → EReal) (ix4 (y 0) (y 2) (y 1) (y 3)) := by
  entry_read
  pointwise

/-- The same of the second operand. -/
theorem V_v (c : Dev nD) (y : S7x36x768x128.Idx) :
    (V m c main_v1 : S7x36x768x128.Idx → EReal) y = (m ((c.tc : Thread nD τ).loc main_arg1) : S7x768x36x128.Idx → EReal) (ix4 (y 0) (y 2) (y 1) (y 3)) := by
  entry_read
  pointwise

/-- The length the body reads at a point is its sequence's. -/
theorem word0_eq (c : Dev nD) (i : grid0.Coords) :
    word0 i (tbl m 0) = (m ((c.tc : Thread nD τ).loc main_arg2) : S7.Idx → BitVec 32) (ix1 (i 1)) := by
  obtain rfl : c = 0 := Subsingleton.elim _ _
  refine (congrFun (V_main_arg2 m 0) _).trans (congrArg (m (((0 : Dev nD).tc : Thread nD τ).loc main_arg2) : S7.Idx → BitVec 32) ?_)
  funext (a : Fin 1)
  obtain rfl : a = 0 := Subsingleton.elim _ _
  refine Fin.ext ?_
  have hi : (i 1).val < 7 := (i 1).isLt
  show (BitVec.ofNat 32 (i 1).val).toNat + 1 * 0 = (i 1).val
  rw [BitVec.toNat_ofNat]
  omega

/-- One element of a block. -/
theorem point_eq (x : S7x768x36x128.Idx → EReal) (L : S7.Idx → BitVec 32) (i : grid0.Coords) (y : S1x4x512x128.Idx)
    (e : S7x36x512x128.Idx) (f : S7x36x768x128.Idx)
    (he : ∀ a, (e a).val = cc0_transform_6 i a * S1x4x512x128.size a + 1 * (y a).val)
    (hf : ∀ a, (f a).val = cc0_transform_6 i a * S1x4x768x128.size a
      + 1 * ((ix4 (y 0) (y 1) (⟨((L (ix1 (i 1))).toNat - 512 + (y 2).val) % 768, Nat.mod_lt _ (by decide)⟩ : Fin 768) (y 3) : S1x4x768x128.Idx) a).val) :
    x (ix4 (f 0) (f 2) (f 1) (f 3)) = winArr x L e := by
  have hi : (i 1).val < 7 := (i 1).isLt
  have hb : (e 0).val = (i 1).val := by
    have h := he 0
    have hy : (y 0).val < 1 := (y 0).isLt
    have : cc0_transform_6 i 0 = (i 1).val := by show (BitVec.ofNat 32 (i 1).val).toNat = _; rw [BitVec.toNat_ofNat]; omega
    rw [this] at h
    have h : (e 0).val = (i 1).val * 1 + 1 * (y 0).val := h
    omega
  have hbi : (ix1 (e 0) : S7.Idx) = ix1 (i 1) := congrArg ix1 (Fin.ext hb)
  have e0 : f 0 = e 0 := Fin.ext ((hf 0).trans (he 0).symm)
  have e1 : f 1 = e 1 := Fin.ext ((hf 1).trans (he 1).symm)
  have e3 : f 3 = e 3 := Fin.ext ((hf 3).trans (he 3).symm)
  have e2 : f 2 = (⟨((L (ix1 (e 0))).toNat - 512 + (e 2).val) % 768, Nat.mod_lt _ (by omega)⟩ : Fin 768) := by
    refine Fin.ext ((hf 2).trans ?_)
    have h := he 2
    show 0 * 768 + 1 * (((L (ix1 (i 1))).toNat - 512 + (y 2).val) % 768) = ((L (ix1 (e 0))).toNat - 512 + (e 2).val) % 768
    have h2 : (e 2).val = (y 2).val := h.trans (by show 0 * 512 + 1 * (y 2).val = _; omega)
    have hL : L (ix1 (e 0)) = L (ix1 (i 1)) := congrArg L hbi
    rw [hL, h2]
    omega
  unfold winArr
  rw [e0, e1, e2, e3]

theorem arr6 (hO : Ok m) (hH : Hyps m hO) (c : Dev nD) : (dats m hO hH 0 c).arrAt 6 (cfgM m hO).N
    = winArr (m ((c.tc : Thread nD τ).loc main_arg0)) (m ((c.tc : Thread nD τ).loc main_arg2)) := by
  refine Pipeline.Dat.arrAt_eq_of_covers (dat := dats m hO hH 0 c) 6 _ (cov6 m hO) fun t hf (y : S1x4x512x128.Idx) => ?_
  blk_simp
  rw [after0_6, word0_eq m c]
  refine (V_k m c ((((cfgM m hO).win 0).blk t).view.emb _)).trans ?_
  exact point_eq _ _ (grid0.coords t) y _ _ (fun a => rfl) (fun a => rfl)

theorem arr7 (hO : Ok m) (hH : Hyps m hO) (c : Dev nD) : (dats m hO hH 0 c).arrAt 7 (cfgM m hO).N
    = winArr (m ((c.tc : Thread nD τ).loc main_arg1)) (m ((c.tc : Thread nD τ).loc main_arg2)) := by
  refine Pipeline.Dat.arrAt_eq_of_covers (dat := dats m hO hH 0 c) 7 _ (cov7 m hO) fun t hf (y : S1x4x512x128.Idx) => ?_
  blk_simp
  rw [after0_7, word0_eq m c]
  refine (V_v m c ((((cfgM m hO).win 1).blk t).view.emb _)).trans ?_
  exact point_eq _ _ (grid0.coords t) y _ _ (fun a => rfl) (fun a => rfl)

/-- The run, with the windows' contents and the arguments named. -/
theorem run_windows (ρ : Dev nD → PrngReg) (hO : Ok m) (hH : Hyps m hO) (hR : Rng m) :
    θ_run defs (onTc (τ := τ) (main (F := Ideal))) ⟨m, fun _ => 0, ρ⟩ (fun r => (∀ c : Dev nD,
      r.2.mem ((c.tc : Thread nD τ).loc main_v4_0) = winArr (m ((c.tc : Thread nD τ).loc main_arg0)) (m ((c.tc : Thread nD τ).loc main_arg2))
      ∧ r.2.mem ((c.tc : Thread nD τ).loc main_v4_1) = winArr (m ((c.tc : Thread nD τ).loc main_arg1)) (m ((c.tc : Thread nD τ).loc main_arg2)))) :=
  (θ_run defs _ _).mono (fun r h c =>
    ⟨((Pipeline.Dat.toRForget_arrAt_iff (dats m hO hH 0 c) (fgt := forgets0) (w := 6) rfl _ _).mp ((h c).1 6)).trans (arr6 m hO hH c),
     ((Pipeline.Dat.toRForget_arrAt_iff (dats m hO hH 0 c) (fgt := forgets0) (w := 7) rfl _ _).mp ((h c).1 7)).trans (arr7 m hO hH c)⟩)
    (run_main m ρ hO hH hR)

end Cert.Proof.KernelIdeal

end
-- ==== Proof.KernelIdealScales.lean ====
module

public import proofs.«01_k».proof.Proof.KernelIdealQuantTrip
public import proofs.«01_k».proof.Proof.KernelIdealPrep
public import proofs.«01_k».proof.Proof.QuantSpec

/-! The blocks of scales and zeros the kernel stores, against the functions of the arguments they are. -/

@[expose] public section

set_option maxRecDepth 16384

noncomputable section

namespace Cert.Proof.KernelIdeal

open Cert.KernelIdeal Cert.KernelIdeal.Gen
open Idealize.ShloMosaic Idealize.ShloMosaic.TcCoe

/-! ## A group's fold -/

theorem fold8_iff (op : EReal → EReal → EReal) (p : EReal → Prop) (hop : ∀ a b, p (op a b) ↔ p a ∧ p b) (Y : S128x256.Idx → EReal)
    (o c i : Nat) (l : Fin 128) : p (fold8 op Y o c i l) ↔ ∀ k : Fin 8, p (tileAt Y o c k.val i l) := by
  simp only [fold8, hop]
  constructor
  · rintro ⟨⟨⟨⟨⟨⟨⟨h0, h1⟩, h2⟩, h3⟩, h4⟩, h5⟩, h6⟩, h7⟩ k
    fin_cases k <;> assumption
  · intro h
    exact ⟨⟨⟨⟨⟨⟨⟨h 0, h 1⟩, h 2⟩, h 3⟩, h 4⟩, h 5⟩, h 6⟩, h 7⟩

/-- The four rows a row is folded with are the rows of its half of the register. -/
theorem rows_of : ∀ (i : Fin 8) (e : Fin 4), 4 * (i.val / 4) + e.val = i.val ∨ 4 * (i.val / 4) + e.val = i.val ^^^ 2
    ∨ 4 * (i.val / 4) + e.val = i.val ^^^ 1 ∨ 4 * (i.val / 4) + e.val = i.val ^^^ 3 := by decide

theorem row_of : ∀ (i : Fin 8) (s : Fin 4), ∃ e : Fin 4, i.val ^^^ s.val = 4 * (i.val / 4) + e.val := by decide

theorem foldG_iff (op : EReal → EReal → EReal) (p : EReal → Prop) (hop : ∀ a b, p (op a b) ↔ p a ∧ p b) (Y : S128x256.Idx → EReal)
    (i : Fin 8) (l : Fin 128) (f : Fin 32 → EReal)
    (hf : ∀ (e : Fin 4) (k : Fin 8), tileAt Y (i.val / 2 % 2) (i.val % 2) k.val (4 * (i.val / 4) + e.val) l = f ⟨8 * e.val + k.val, by omega⟩) :
    p (foldG op Y i l) ↔ ∀ q, p (f q) := by
  simp only [foldG, hop, fold8_iff op p hop]
  constructor
  · rintro ⟨⟨h0, h2⟩, h1, h3⟩ q
    have hq : q = ⟨8 * (⟨q.val / 8, by omega⟩ : Fin 4).val + (⟨q.val % 8, Nat.mod_lt _ (by decide)⟩ : Fin 8).val, by omega⟩ :=
      Fin.ext (by show q.val = 8 * (q.val / 8) + q.val % 8; omega)
    rw [hq, ← hf]
    rcases rows_of i ⟨q.val / 8, by omega⟩ with h | h | h | h <;> rw [h]
    · exact h0 _
    · exact h2 _
    · exact h1 _
    · exact h3 _
  · intro h
    have H : ∀ (s : Fin 4) (k : Fin 8), p (tileAt Y (i.val / 2 % 2) (i.val % 2) k.val (i.val ^^^ s.val) l) := fun s k => by
      obtain ⟨e, he⟩ := row_of i s
      rw [he, hf]
      exact h _
    refine ⟨⟨fun k => ?_, H 2⟩, H 1, H 3⟩
    have h0 := H 0 k
    rwa [show (0 : Fin 4).val = 0 from rfl, Nat.xor_zero] at h0

theorem foldG_min (Y : S128x256.Idx → EReal) (i : Fin 8) (l : Fin 128) (f : Fin 32 → EReal)
    (hf : ∀ (e : Fin 4) (k : Fin 8), tileAt Y (i.val / 2 % 2) (i.val % 2) k.val (4 * (i.val / 4) + e.val) l = f ⟨8 * e.val + k.val, by omega⟩) :
    foldG min Y i l = Finset.univ.inf f :=
  eq_of_forall_le_iff fun z => (foldG_iff min (fun a => z ≤ a) (fun _ _ => le_min_iff) Y i l f hf).trans
    (by simp only [Finset.le_inf_iff, Finset.mem_univ, true_imp_iff])

theorem foldG_max (Y : S128x256.Idx → EReal) (i : Fin 8) (l : Fin 128) (f : Fin 32 → EReal)
    (hf : ∀ (e : Fin 4) (k : Fin 8), tileAt Y (i.val / 2 % 2) (i.val % 2) k.val (4 * (i.val / 4) + e.val) l = f ⟨8 * e.val + k.val, by omega⟩) :
    foldG max Y i l = Finset.univ.sup f :=
  eq_of_forall_ge_iff fun z => (foldG_iff max (fun a => a ≤ z) (fun _ _ => max_le_iff) Y i l f hf).trans
    (by simp only [Finset.sup_le_iff, Finset.mem_univ, true_imp_iff])

/-! ## The product with a one-hot table is a channel -/

/-- The channel a place of a head's permutation names. -/
def chan (P : S36x128.Idx → BitVec 32) (h : Fin 36) (d : Fin 128) : Fin 128 := ⟨(P (ix2 h d)).toNat % 128, Nat.mod_lt _ (by decide)⟩

theorem prod_tab (x : S1x4x768x128.Idx → EReal) (a : Nat) (P0 P1 P : S36x128.Idx → BitVec 32) (τ : Fin 2)
    (hP : (if τ.val = 0 then P0 else P1) = P) (hlt : ∀ i, (P i).toNat < 128) (h : Fin 4) (r : Fin 128) (k : Fin 256) :
    prodAt x (tab17 a P0 P1) τ h (ix2 r k)
      = x (ix4 0 h (⟨k.val, Nat.lt_trans k.isLt (by decide)⟩ : Fin 768) (chan P (headOf a h.val) (src r))) := by
  have key : ∀ q : Fin 128, tab17 a P0 P1 (ix4 τ h r q) = if q = chan P (headOf a h.val) (src r) then 1 else 0 := fun q => by
    show rowOf (fun d => (if τ.val = 0 then P0 else P1) (ix2 (headOf a h.val) d)) r q = _
    rw [hP]
    show (if BitVec.ofNat 32 q.val = P (ix2 (headOf a h.val) (src r)) then (1 : EReal) else 0) = _
    have hp := hlt (ix2 (headOf a h.val) (src r))
    have e : BitVec.ofNat 32 q.val = P (ix2 (headOf a h.val) (src r)) ↔ q = chan P (headOf a h.val) (src r) := by
      rw [Fin.ext_iff]
      show _ ↔ q.val = (P (ix2 (headOf a h.val) (src r))).toNat % 128
      rw [← BitVec.toNat_inj, BitVec.toNat_ofNat]
      omega
    simp only [e]
  show (∑ q : Fin 128, tab17 a P0 P1 (ix4 τ h r q) * x (ix4 0 h (⟨k.val, Nat.lt_trans k.isLt (by decide)⟩ : Fin 768) q)) = _
  rw [Finset.sum_eq_single (chan P (headOf a h.val) (src r))]
  · rw [key, if_pos rfl, one_mul]
  · intro q _ hq
    rw [key, if_neg hq, zero_mul]
  · exact fun h => absurd (Finset.mem_univ _) h

theorem lane_val (c : Nat) (hc : c < 2) (l : Fin 128) : (lane c l).val = 128 * c + l.val := by
  obtain rfl | rfl : c = 0 ∨ c = 1 := by omega
  · show l.val = _; omega
  · rfl

/-- The row of a stored register that holds group `g` of the tokens' half `c`. -/
abbrev rowAt (g : Fin 4) (c : Nat) : Fin 8 := ⟨(4 * (g.val % 2) + 2 * (g.val / 2) + c) % 8, Nat.mod_lt _ (by decide)⟩

theorem row_arith : ∀ (a b c : Fin 2), (4 * a.val + 2 * b.val + c.val) / 2 % 2 = b.val ∧ (4 * a.val + 2 * b.val + c.val) % 2 = c.val
    ∧ (4 * a.val + 2 * b.val + c.val) / 4 = a.val := by decide

theorem src_arith : ∀ (g e : Fin 4) (k : Fin 8), 64 * ((64 * (g.val / 2) + 8 * k.val + (4 * (g.val % 2) + e.val)) % 128 / 64)
    + 8 * ((64 * (g.val / 2) + 8 * k.val + (4 * (g.val % 2) + e.val)) % 128 % 8)
    + (64 * (g.val / 2) + 8 * k.val + (4 * (g.val % 2) + e.val)) % 128 / 8 % 8 = 32 * g.val + (8 * e.val + k.val) := by decide +kernel

theorem rowAt_val (g : Fin 4) (c : Fin 2) : (rowAt g c.val).val = 4 * (⟨g.val % 2, Nat.mod_lt _ (by decide)⟩ : Fin 2).val
    + 2 * (⟨g.val / 2, by omega⟩ : Fin 2).val + c.val := by
  show (4 * (g.val % 2) + 2 * (g.val / 2) + c.val) % 8 = 4 * (g.val % 2) + 2 * (g.val / 2) + c.val
  omega

theorem rowAt_parts (g : Fin 4) (t : Fin 256) : (rowAt g (t.val / 128)).val = 4 * (g.val % 2) + 2 * (g.val / 2) + t.val / 128
    ∧ (rowAt g (t.val / 128)).val / 2 % 2 = g.val / 2 ∧ (rowAt g (t.val / 128)).val % 2 = t.val / 128
    ∧ (rowAt g (t.val / 128)).val / 4 = g.val % 2 := by
  have h := rowAt_val g ⟨t.val / 128, by omega⟩
  have h' := row_arith ⟨g.val % 2, Nat.mod_lt _ (by decide)⟩ ⟨g.val / 2, by omega⟩ ⟨t.val / 128, by omega⟩
  rw [← h] at h'
  exact ⟨h, h'⟩

/-- The entries a row of a stored register folds are its group's. -/
theorem group_entry (x : S1x4x768x128.Idx → EReal) (a : Nat) (P0 P1 P : S36x128.Idx → BitVec 32) (τ : Fin 2)
    (hP : (if τ.val = 0 then P0 else P1) = P) (hlt : ∀ i, (P i).toNat < 128) (h : Fin 4) (g : Fin 4) (t : Fin 256)
    (e : Fin 4) (k : Fin 8) :
    tileAt (prodAt x (tab17 a P0 P1) τ h) ((rowAt g (t.val / 128)).val / 2 % 2) ((rowAt g (t.val / 128)).val % 2) k.val
        (4 * ((rowAt g (t.val / 128)).val / 4) + e.val) (⟨t.val % 128, Nat.mod_lt _ (by decide)⟩ : Fin 128)
      = x (ix4 0 h (⟨t.val, Nat.lt_trans t.isLt (by decide)⟩ : Fin 768) (chan P (headOf a h.val) ⟨32 * g.val + (8 * e.val + k.val), by omega⟩)) := by
  obtain ⟨hr, h1, h2, h3⟩ := rowAt_parts g t
  rw [h1, h2, h3]
  refine (prod_tab x a P0 P1 P τ hP hlt h _ _).trans (congrArg x ?_)
  have hl : (lane (t.val / 128) (⟨t.val % 128, Nat.mod_lt _ (by decide)⟩ : Fin 128)).val = t.val := by
    have hd : t.val / 128 < 2 := by omega
    rw [lane_val _ hd]; show 128 * (t.val / 128) + t.val % 128 = t.val; omega
  refine congrArg₂ (ix4 0 h) (Fin.ext hl) (congrArg (chan P _) (Fin.ext ?_))
  show 64 * ((64 * (g.val / 2) + 8 * k.val + (4 * (g.val % 2) + e.val)) % 128 / 64)
    + 8 * ((64 * (g.val / 2) + 8 * k.val + (4 * (g.val % 2) + e.val)) % 128 % 8)
    + (64 * (g.val / 2) + 8 * k.val + (4 * (g.val % 2) + e.val)) % 128 / 8 % 8 = 32 * g.val + (8 * e.val + k.val)
  exact src_arith g e k

/-! ## A block -/

variable (x : S7x768x36x128.Idx → EReal) (P : S36x128.Idx → BitVec 32) (C : S36x4.Idx → EReal) (L : S7.Idx → BitVec 32)

theorem fold_low (x0 : S1x4x768x128.Idx → EReal) (b : Fin 7) (a : Nat) (P0 P1 : S36x128.Idx → BitVec 32) (τ : Fin 2)
    (hx : ∀ (h : Fin 4) (t : Fin 768) (q : Fin 128), x0 (ix4 0 h t q) = x (ix4 b t (headOf a h.val) q))
    (hP : (if τ.val = 0 then P0 else P1) = P) (hlt : ∀ i, (P i).toNat < 128) (h g : Fin 4) (t : Fin 256) :
    foldG min (prodAt x0 (tab17 a P0 P1) τ h) (rowAt g (t.val / 128)) (⟨t.val % 128, Nat.mod_lt _ (by decide)⟩ : Fin 128)
      = Finset.univ.inf (groupAt x P b t (headOf a h.val) g) :=
  foldG_min _ _ _ _ fun e k => (group_entry x0 a P0 P1 P τ hP hlt h g t e k).trans (hx _ _ _)

theorem fold_high (x0 : S1x4x768x128.Idx → EReal) (b : Fin 7) (a : Nat) (P0 P1 : S36x128.Idx → BitVec 32) (τ : Fin 2)
    (hx : ∀ (h : Fin 4) (t : Fin 768) (q : Fin 128), x0 (ix4 0 h t q) = x (ix4 b t (headOf a h.val) q))
    (hP : (if τ.val = 0 then P0 else P1) = P) (hlt : ∀ i, (P i).toNat < 128) (h g : Fin 4) (t : Fin 256) :
    foldG max (prodAt x0 (tab17 a P0 P1) τ h) (rowAt g (t.val / 128)) (⟨t.val % 128, Nat.mod_lt _ (by decide)⟩ : Fin 128)
      = Finset.univ.sup (groupAt x P b t (headOf a h.val) g) :=
  foldG_max _ _ _ _ fun e k => (group_entry x0 a P0 P1 P τ hP hlt h g t e k).trans (hx _ _ _)

theorem clip_entry (a : Nat) (C0 C1 : S4x36.Idx → EReal) (τ : Fin 2) (hC : ∀ (g : Fin 4) (h : Fin 36), (if τ.val = 0 then C0 else C1) (ix2 g h) = C (ix2 h g))
    (h g : Fin 4) (t : Fin 256) (l : Fin 128) :
    tab18 a C0 C1 (ix4 τ h (rowAt g (t.val / 128)) l) = C (ix2 (headOf a h.val) g) := by
  refine Eq.trans ?_ (hC g (headOf a h.val))
  show (if τ.val = 0 then C0 else C1) (ix2 ⟨(2 * ((rowAt g (t.val / 128)).val / 2 % 2) + (rowAt g (t.val / 128)).val / 4) % 4, _⟩ (headOf a h.val)) = _
  refine congrArg _ (congrArg (fun g' => ix2 g' (headOf a h.val)) (Fin.ext ?_))
  obtain ⟨hr, h1, h2, h3⟩ := rowAt_parts g t
  show (2 * ((rowAt g (t.val / 128)).val / 2 % 2) + (rowAt g (t.val / 128)).val / 4) % 4 = g.val
  rw [h1, h3]
  omega

/-- A block's entry: the row's where the token is kept. -/
theorem outG_apply (v : BitVec 32) (h1 : 512 ≤ v.toNat) (h2 : v.toNat ≤ 768) (zs : Fin 4 → S8x128.Idx → EReal) (y : S1x4x4x256.Idx) :
    outG (v - 512#32) zs y = if (y 3).val + 512 < v.toNat then zs (y 1) (ix2 (rowAt (y 2) ((y 3).val / 128)) (⟨(y 3).val % 128, Nat.mod_lt _ (by decide)⟩ : Fin 128)) else 0 := by
  have ht : (y 3).val < 256 := (y 3).isLt
  have e : IntOp.addi (BitVec.ofNat 32 ((y 3).val % 128)) (match (y 3).val / 128 with | 0 => 0#32 | _ => 128#32) = BitVec.ofNat 32 (y 3).val := by
    obtain h | h : (y 3).val / 128 = 0 ∨ (y 3).val / 128 = 1 := by omega
    · rw [h]
      show BitVec.ofNat 32 ((y 3).val % 128) + 0#32 = _
      rw [BitVec.add_zero, Nat.mod_eq_of_lt (by omega)]
    · rw [h]
      show BitVec.ofNat 32 ((y 3).val % 128) + 128#32 = _
      apply BitVec.eq_of_toNat_eq
      rw [BitVec.toNat_add]; simp only [BitVec.toNat_ofNat]; omega
  show Scalar.select (IntOp.cmpi .slt (IntOp.addi (BitVec.ofNat 32 ((y 3).val % 128)) (match (y 3).val / 128 with | 0 => 0#32 | _ => 128#32)) (v - 512#32)) _ 0 = _
  rw [e, kept_iff _ ht v h1 h2]
  split <;> rfl

theorem zero_point (x0 : S1x4x768x128.Idx → EReal) (b : Fin 7) (a : Nat) (P0 P1 : S36x128.Idx → BitVec 32) (C0 C1 : S4x36.Idx → EReal) (τ : Fin 2)
    (hx : ∀ (h : Fin 4) (t : Fin 768) (q : Fin 128), x0 (ix4 0 h t q) = x (ix4 b t (headOf a h.val) q))
    (hP : (if τ.val = 0 then P0 else P1) = P) (hlt : ∀ i, (P i).toNat < 128)
    (hC : ∀ (g : Fin 4) (h : Fin 36), (if τ.val = 0 then C0 else C1) (ix2 g h) = C (ix2 h g))
    (h1 : 512 ≤ (L (ix1 b)).toNat) (h2 : (L (ix1 b)).toNat ≤ 768) (y : S1x4x4x256.Idx) :
    outG (L (ix1 b) - 512#32) (zeroRow x0 (tab17 a P0 P1) (tab18 a C0 C1) τ) y
      = zeroArr x P C L (ix4 b (headOf a (y 1).val) (y 2) (y 3)) := by
  rw [outG_apply _ h1 h2]
  show _ = if (y 3).val + 512 < (L (ix1 b)).toNat then lowAt x P C b (y 3) (headOf a (y 1).val) (y 2) else 0
  refine if_congr Iff.rfl ?_ rfl
  exact congrArg₂ (· * ·) (clip_entry C a C0 C1 τ hC (y 1) (y 2) (y 3) _) (fold_low x P x0 b a P0 P1 τ hx hP hlt (y 1) (y 2) (y 3))

theorem scale_point (x0 : S1x4x768x128.Idx → EReal) (b : Fin 7) (a : Nat) (P0 P1 : S36x128.Idx → BitVec 32) (C0 C1 : S4x36.Idx → EReal) (τ : Fin 2)
    (hx : ∀ (h : Fin 4) (t : Fin 768) (q : Fin 128), x0 (ix4 0 h t q) = x (ix4 b t (headOf a h.val) q))
    (hP : (if τ.val = 0 then P0 else P1) = P) (hlt : ∀ i, (P i).toNat < 128)
    (hC : ∀ (g : Fin 4) (h : Fin 36), (if τ.val = 0 then C0 else C1) (ix2 g h) = C (ix2 h g))
    (h1 : 512 ≤ (L (ix1 b)).toNat) (h2 : (L (ix1 b)).toNat ≤ 768) (y : S1x4x4x256.Idx) :
    outG (L (ix1 b) - 512#32) (scaleRow x0 (tab17 a P0 P1) (tab18 a C0 C1) τ) y
      = scaleArr x P C L (ix4 b (headOf a (y 1).val) (y 2) (y 3)) := by
  rw [outG_apply _ h1 h2]
  show _ = if (y 3).val + 512 < (L (ix1 b)).toNat then
    stepOf (lowAt x P C b (y 3) (headOf a (y 1).val) (y 2)) (highAt x P C b (y 3) (headOf a (y 1).val) (y 2)) else 0
  refine if_congr Iff.rfl ?_ rfl
  exact congrArg₂ stepOf
    (congrArg₂ (· * ·) (clip_entry C a C0 C1 τ hC (y 1) (y 2) (y 3) _) (fold_low x P x0 b a P0 P1 τ hx hP hlt (y 1) (y 2) (y 3)))
    (congrArg₂ (· * ·) (clip_entry C a C0 C1 τ hC (y 1) (y 2) (y 3) _) (fold_high x P x0 b a P0 P1 τ hx hP hlt (y 1) (y 2) (y 3)))

end Cert.Proof.KernelIdeal

end
-- ==== Proof.KernelIdealScaleArr.lean ====
module

public import proofs.«01_k».proof.Proof.KernelIdealValue
public import proofs.«01_k».proof.Proof.KernelIdealScales

/-! The kernel's scales and zeros after the run. -/

@[expose] public section

set_option maxRecDepth 16384

noncomputable section

namespace Cert.Proof.KernelIdeal

open Cert.KernelIdeal Cert.KernelIdeal.Gen
open Idealize.ShloMosaic Idealize.ShloMosaic.TcCoe Idealize.SL Idealize.SL.Sem

variable (m : (ℓ : Loc nD τ sig) → Buf (Elt Ideal) ℓ)

/-- The grid's first coordinate is the block of heads. -/
theorem coord_head : ∀ t : Fin grid0.N, (grid0.coords t 0).val = t.val / 7 := by decide +kernel

/-! ## The tables -/

theorem iblk_perm_k (hO : Ok m) (c : Dev nD) (t : Fin (cfgM m hO).N) :
    (iblk m hO c 2 t : S36x128.Idx → BitVec 32) = m ((c.tc : Thread nD τ).loc main_arg3) := by
  funext (y : S36x128.Idx)
  refine (congrFun (V_main_arg3 m c) ((((cfgM m hO).win 2).blk t).view.emb y)).trans (congrArg (m ((c.tc : Thread nD τ).loc main_arg3)) ?_)
  funext (a : Fin 2)
  refine Fin.ext ?_
  fin_cases a
  · show 0 * 36 + 1 * (y 0).val = (y 0).val; omega
  · show 0 * 128 + 1 * (y 1).val = (y 1).val; omega

theorem iblk_perm_v (hO : Ok m) (c : Dev nD) (t : Fin (cfgM m hO).N) :
    (iblk m hO c 3 t : S36x128.Idx → BitVec 32) = m ((c.tc : Thread nD τ).loc main_arg4) := by
  funext (y : S36x128.Idx)
  refine (congrFun (V_main_arg4 m c) ((((cfgM m hO).win 3).blk t).view.emb y)).trans (congrArg (m ((c.tc : Thread nD τ).loc main_arg4)) ?_)
  funext (a : Fin 2)
  refine Fin.ext ?_
  fin_cases a
  · show 0 * 36 + 1 * (y 0).val = (y 0).val; omega
  · show 0 * 128 + 1 * (y 1).val = (y 1).val; omega

/-- The clips, groups before heads. -/
def clipT (C : S36x4.Idx → EReal) : S4x36.Idx → EReal := fun y => C (ix2 (y 1) (y 0))

theorem V_clip_k (c : Dev nD) (y : S4x36.Idx) :
    (V m c main_v2 : S4x36.Idx → EReal) y = clipT (m ((c.tc : Thread nD τ).loc main_arg5)) y := by
  unfold clipT
  entry_read
  pointwise

theorem V_clip_v (c : Dev nD) (y : S4x36.Idx) :
    (V m c main_v3 : S4x36.Idx → EReal) y = clipT (m ((c.tc : Thread nD τ).loc main_arg6)) y := by
  unfold clipT
  entry_read
  pointwise

theorem iblk_clip_k (hO : Ok m) (c : Dev nD) (t : Fin (cfgM m hO).N) :
    (iblk m hO c 4 t : S4x36.Idx → EReal) = clipT (m ((c.tc : Thread nD τ).loc main_arg5)) := by
  funext (y : S4x36.Idx)
  refine (V_clip_k m c ((((cfgM m hO).win 4).blk t).view.emb y)).trans (congrArg (clipT (m ((c.tc : Thread nD τ).loc main_arg5))) ?_)
  funext (a : Fin 2)
  refine Fin.ext ?_
  fin_cases a
  · show 0 * 4 + 1 * (y 0).val = (y 0).val; omega
  · show 0 * 36 + 1 * (y 1).val = (y 1).val; omega

theorem iblk_clip_v (hO : Ok m) (c : Dev nD) (t : Fin (cfgM m hO).N) :
    (iblk m hO c 5 t : S4x36.Idx → EReal) = clipT (m ((c.tc : Thread nD τ).loc main_arg6)) := by
  funext (y : S4x36.Idx)
  refine (V_clip_v m c ((((cfgM m hO).win 5).blk t).view.emb y)).trans (congrArg (clipT (m ((c.tc : Thread nD τ).loc main_arg6))) ?_)
  funext (a : Fin 2)
  refine Fin.ext ?_
  fin_cases a
  · show 0 * 4 + 1 * (y 0).val = (y 0).val; omega
  · show 0 * 36 + 1 * (y 1).val = (y 1).val; omega

/-- What the two tables hold after a point: those of the point's block of heads. -/
def tabs (c : Dev nD) (a : Nat) : Vec Ideal S2x4x128x128 .bf16 × Vec Ideal S2x4x8x128 .f32 :=
  (tab17 a (m ((c.tc : Thread nD τ).loc main_arg3)) (m ((c.tc : Thread nD τ).loc main_arg4)),
    tab18 a (clipT (m ((c.tc : Thread nD τ).loc main_arg5))) (clipT (m ((c.tc : Thread nD τ).loc main_arg6))))

theorem outsAt0_eq (hO : Ok m) (hH : Hyps m hO) (c : Dev nD) : ∀ (n : Nat) (hn : n < (cfgM m hO).N), outsAt0 m hO hH c n hn = tabs m c (n / 7) := by
  intro n
  induction n with
  | zero =>
    intro hn
    refine (outsAt0_tab m hO hH c ⟨0, hn⟩ rfl).trans ?_
    rw [iblk_perm_k, iblk_perm_v, iblk_clip_k, iblk_clip_v, coord_head]
    rfl
  | succ n ih =>
    intro hn
    by_cases h0 : (n + 1) % 7 = 0
    · refine (outsAt0_tab m hO hH c ⟨n + 1, hn⟩ h0).trans ?_
      rw [iblk_perm_k, iblk_perm_v, iblk_clip_k, iblk_clip_v, coord_head]
      rfl
    · have e : (n + 1) / 7 = n / 7 := by omega
      rw [e, ← ih (Nat.lt_of_succ_lt hn)]
      refine (outsAt0_B m hO hH c ⟨n + 1, hn⟩ h0).trans ?_
      rfl

/-! ## The blocks -/

/-- Where a block's element lies in a result. -/
theorem emb_out (t : Fin grid0.N) (y : S1x4x4x256.Idx) (e : S7x36x4x256.Idx)
    (he : ∀ a, (e a).val = cc0_transform_6 (grid0.coords t) a * S1x4x4x256.size a + 1 * (y a).val) :
    ix4 (grid0.coords t 1 : Fin 7) (headOf (t.val / 7) (y 1).val) (y 2) (y 3) = e := by
  have hi : (grid0.coords t 1).val < 7 := (grid0.coords t 1).isLt
  have ha : (grid0.coords t 0).val < 9 := (grid0.coords t 0).isLt
  have hc := coord_head t
  funext (a : Fin 4)
  refine Fin.ext ?_
  rw [he a]
  fin_cases a
  · have hy : (y 0).val < 1 := (y 0).isLt
    show (grid0.coords t 1).val = (BitVec.ofNat 32 (grid0.coords t 1).val).toNat * 1 + 1 * (y 0).val
    rw [BitVec.toNat_ofNat]; omega
  · have hy : (y 1).val < 4 := (y 1).isLt
    show (4 * (t.val / 7) + (y 1).val) % 36 = (BitVec.ofNat 32 (grid0.coords t 0).val).toNat * 4 + 1 * (y 1).val
    rw [BitVec.toNat_ofNat]; omega
  · show (y 2).val = 0 * 4 + 1 * (y 2).val; omega
  · show (y 3).val = 0 * 256 + 1 * (y 3).val; omega

/-- Where a block's element lies in an operand. -/
theorem emb_in (t : Fin grid0.N) (h : Fin 4) (k : Fin 768) (q : Fin 128) (f : S7x36x768x128.Idx)
    (hf : ∀ a, (f a).val = cc0_transform_6 (grid0.coords t) a * S1x4x768x128.size a + 1 * ((ix4 0 h k q : S1x4x768x128.Idx) a).val) :
    (ix4 (f 0) (f 2) (f 1) (f 3) : S7x768x36x128.Idx) = ix4 (grid0.coords t 1 : Fin 7) k (headOf (t.val / 7) h.val) q := by
  have hi : (grid0.coords t 1).val < 7 := (grid0.coords t 1).isLt
  have ha : (grid0.coords t 0).val < 9 := (grid0.coords t 0).isLt
  have hc := coord_head t
  have f0 : f 0 = (grid0.coords t 1 : Fin 7) := Fin.ext ((hf 0).trans (by
    show (BitVec.ofNat 32 (grid0.coords t 1).val).toNat * 1 + 1 * 0 = (grid0.coords t 1).val
    rw [BitVec.toNat_ofNat]; omega))
  have f1 : f 1 = headOf (t.val / 7) h.val := Fin.ext ((hf 1).trans (by
    show (BitVec.ofNat 32 (grid0.coords t 0).val).toNat * 4 + 1 * h.val = (4 * (t.val / 7) + h.val) % 36
    rw [BitVec.toNat_ofNat]; omega))
  have f2 : f 2 = k := Fin.ext ((hf 2).trans (by show 0 * 768 + 1 * k.val = k.val; omega))
  have f3 : f 3 = q := Fin.ext ((hf 3).trans (by show 0 * 128 + 1 * q.val = q.val; omega))
  rw [f0, f1, f2, f3]
  rfl

theorem iblk_k (hO : Ok m) (c : Dev nD) (t : Fin (cfgM m hO).N) (h : Fin 4) (k : Fin 768) (q : Fin 128) :
    (iblk m hO c 0 t : S1x4x768x128.Idx → EReal) (ix4 0 h k q)
      = (m ((c.tc : Thread nD τ).loc main_arg0) : S7x768x36x128.Idx → EReal) (ix4 (grid0.coords t 1 : Fin 7) k (headOf (t.val / 7) h.val) q) :=
  (V_k m c ((((cfgM m hO).win 0).blk t).view.emb (ix4 0 h k q : S1x4x768x128.Idx))).trans (congrArg _ (emb_in t h k q _ fun a => rfl))

theorem iblk_v (hO : Ok m) (c : Dev nD) (t : Fin (cfgM m hO).N) (h : Fin 4) (k : Fin 768) (q : Fin 128) :
    (iblk m hO c 1 t : S1x4x768x128.Idx → EReal) (ix4 0 h k q)
      = (m ((c.tc : Thread nD τ).loc main_arg1) : S7x768x36x128.Idx → EReal) (ix4 (grid0.coords t 1 : Fin 7) k (headOf (t.val / 7) h.val) q) :=
  (V_v m c ((((cfgM m hO).win 1).blk t).view.emb (ix4 0 h k q : S1x4x768x128.Idx))).trans (congrArg _ (emb_in t h k q _ fun a => rfl))

/-! ## The arrays -/

theorem covered_out (β : Fin 4 → Nat) (hβ : ∀ a, β a < (S7x36x4x256.size a + S1x4x4x256.size a - 1) / S1x4x4x256.size a) : ∃ t : Fin grid0.N,
    (t.val + 1 = grid0.N || decide (∃ h : t.val + 1 < grid0.N, cc0_transform_6 (grid0.coords ⟨t.val + 1, h⟩) ≠ cc0_transform_6 (grid0.coords t))) = true
      ∧ ∀ a, cc0_transform_6 (grid0.coords t) a = β a := by
  have h0 : β 0 < 7 := hβ 0
  have h1 : β 1 < 9 := hβ 1
  have h2 : β 2 < 1 := hβ 2
  have h3 : β 3 < 1 := hβ 3
  obtain ⟨t, hf, ht⟩ := flushes ⟨β 0, h0⟩ ⟨β 1, h1⟩
  refine ⟨t, hf, fun a => (ht a).trans ?_⟩
  fin_cases a
  · rfl
  · rfl
  · exact (Nat.lt_one_iff.mp h2).symm
  · exact (Nat.lt_one_iff.mp h3).symm

theorem cov9 (hO : Ok m) : ((cfgM m hO).win 9).Covers := by
  refine ⟨fun a => ?_, fun β => ?_⟩
  · revert a; show ∀ a : Fin 4, 0 < S1x4x4x256.size a; decide
  · obtain ⟨t, hf, ht⟩ := covered_out (fun a : Fin 4 => (β a).val) (fun a => (β a).isLt)
    exact ⟨t, hf, fun a => ⟨ht a, Or.inl rfl⟩⟩

theorem cov10 (hO : Ok m) : ((cfgM m hO).win 10).Covers := by
  refine ⟨fun a => ?_, fun β => ?_⟩
  · revert a; show ∀ a : Fin 4, 0 < S1x4x4x256.size a; decide
  · obtain ⟨t, hf, ht⟩ := covered_out (fun a : Fin 4 => (β a).val) (fun a => (β a).isLt)
    exact ⟨t, hf, fun a => ⟨ht a, Or.inl rfl⟩⟩

theorem cov12 (hO : Ok m) : ((cfgM m hO).win 12).Covers := by
  refine ⟨fun a => ?_, fun β => ?_⟩
  · revert a; show ∀ a : Fin 4, 0 < S1x4x4x256.size a; decide
  · obtain ⟨t, hf, ht⟩ := covered_out (fun a : Fin 4 => (β a).val) (fun a => (β a).isLt)
    exact ⟨t, hf, fun a => ⟨ht a, Or.inl rfl⟩⟩

theorem cov13 (hO : Ok m) : ((cfgM m hO).win 13).Covers := by
  refine ⟨fun a => ?_, fun β => ?_⟩
  · revert a; show ∀ a : Fin 4, 0 < S1x4x4x256.size a; decide
  · obtain ⟨t, hf, ht⟩ := covered_out (fun a : Fin 4 => (β a).val) (fun a => (β a).isLt)
    exact ⟨t, hf, fun a => ⟨ht a, Or.inl rfl⟩⟩

/-- The lengths lie between 512 and 768. -/
def LenOk (L : S7.Idx → BitVec 32) : Prop := ∀ b, 512 ≤ (L b).toNat ∧ (L b).toNat ≤ 768
/-- The permutations' entries are channels. -/
def PermOk (P : S36x128.Idx → BitVec 32) : Prop := ∀ i, (P i).toNat < 128

theorem arr9 (hO : Ok m) (hH : Hyps m hO) (c : Dev nD) (hL : LenOk (m ((c.tc : Thread nD τ).loc main_arg2))) (hP : PermOk (m ((c.tc : Thread nD τ).loc main_arg3))) :
    (dats m hO hH 0 c).arrAt 9 (cfgM m hO).N = scaleArr (m ((c.tc : Thread nD τ).loc main_arg0)) (m ((c.tc : Thread nD τ).loc main_arg3))
      (m ((c.tc : Thread nD τ).loc main_arg5)) (m ((c.tc : Thread nD τ).loc main_arg2)) := by
  refine Pipeline.Dat.arrAt_eq_of_covers (dat := dats m hO hH 0 c) 9 _ (cov9 m hO) fun t hf (y : S1x4x4x256.Idx) => ?_
  blk_simp
  rw [after0_9, word0_eq m c, outsAt0_eq]
  exact (scale_point _ _ _ _ _ _ _ _ _ _ _ 0 (iblk_k m hO c t) rfl hP (fun _ _ => rfl) (hL _).1 (hL _).2 y).trans
    (congrArg (scaleArr _ _ _ _) (emb_out t y _ fun a => rfl))

theorem arr10 (hO : Ok m) (hH : Hyps m hO) (c : Dev nD) (hL : LenOk (m ((c.tc : Thread nD τ).loc main_arg2))) (hP : PermOk (m ((c.tc : Thread nD τ).loc main_arg3))) :
    (dats m hO hH 0 c).arrAt 10 (cfgM m hO).N = zeroArr (m ((c.tc : Thread nD τ).loc main_arg0)) (m ((c.tc : Thread nD τ).loc main_arg3))
      (m ((c.tc : Thread nD τ).loc main_arg5)) (m ((c.tc : Thread nD τ).loc main_arg2)) := by
  refine Pipeline.Dat.arrAt_eq_of_covers (dat := dats m hO hH 0 c) 10 _ (cov10 m hO) fun t hf (y : S1x4x4x256.Idx) => ?_
  blk_simp
  rw [after0_10, word0_eq m c, outsAt0_eq]
  exact (zero_point _ _ _ _ _ _ _ _ _ _ _ 0 (iblk_k m hO c t) rfl hP (fun _ _ => rfl) (hL _).1 (hL _).2 y).trans
    (congrArg (zeroArr _ _ _ _) (emb_out t y _ fun a => rfl))

theorem arr12 (hO : Ok m) (hH : Hyps m hO) (c : Dev nD) (hL : LenOk (m ((c.tc : Thread nD τ).loc main_arg2))) (hP : PermOk (m ((c.tc : Thread nD τ).loc main_arg4))) :
    (dats m hO hH 0 c).arrAt 12 (cfgM m hO).N = scaleArr (m ((c.tc : Thread nD τ).loc main_arg1)) (m ((c.tc : Thread nD τ).loc main_arg4))
      (m ((c.tc : Thread nD τ).loc main_arg6)) (m ((c.tc : Thread nD τ).loc main_arg2)) := by
  refine Pipeline.Dat.arrAt_eq_of_covers (dat := dats m hO hH 0 c) 12 _ (cov12 m hO) fun t hf (y : S1x4x4x256.Idx) => ?_
  blk_simp
  rw [after0_12, word0_eq m c, outsAt0_eq]
  exact (scale_point _ _ _ _ _ _ _ _ _ _ _ 1 (iblk_v m hO c t) rfl hP (fun _ _ => rfl) (hL _).1 (hL _).2 y).trans
    (congrArg (scaleArr _ _ _ _) (emb_out t y _ fun a => rfl))

theorem arr13 (hO : Ok m) (hH : Hyps m hO) (c : Dev nD) (hL : LenOk (m ((c.tc : Thread nD τ).loc main_arg2))) (hP : PermOk (m ((c.tc : Thread nD τ).loc main_arg4))) :
    (dats m hO hH 0 c).arrAt 13 (cfgM m hO).N = zeroArr (m ((c.tc : Thread nD τ).loc main_arg1)) (m ((c.tc : Thread nD τ).loc main_arg4))
      (m ((c.tc : Thread nD τ).loc main_arg6)) (m ((c.tc : Thread nD τ).loc main_arg2)) := by
  refine Pipeline.Dat.arrAt_eq_of_covers (dat := dats m hO hH 0 c) 13 _ (cov13 m hO) fun t hf (y : S1x4x4x256.Idx) => ?_
  blk_simp
  rw [after0_13, word0_eq m c, outsAt0_eq]
  exact (zero_point _ _ _ _ _ _ _ _ _ _ _ 1 (iblk_v m hO c t) rfl hP (fun _ _ => rfl) (hL _).1 (hL _).2 y).trans
    (congrArg (zeroArr _ _ _ _) (emb_out t y _ fun a => rfl))

/-- The run, with the scales and zeros named. -/
theorem run_scales (ρ : Dev nD → PrngReg) (hO : Ok m) (hH : Hyps m hO) (hR : Rng m)
    (hL : ∀ c : Dev nD, LenOk (m ((c.tc : Thread nD τ).loc main_arg2))) (hPk : ∀ c : Dev nD, PermOk (m ((c.tc : Thread nD τ).loc main_arg3)))
    (hPv : ∀ c : Dev nD, PermOk (m ((c.tc : Thread nD τ).loc main_arg4))) :
    θ_run defs (onTc (τ := τ) (main (F := Ideal))) ⟨m, fun _ => 0, ρ⟩ (fun r => (∀ c : Dev nD,
      (r.2.mem ((c.tc : Thread nD τ).loc main_v4_3) : S7x36x4x256.Idx → EReal) = scaleArr (m ((c.tc : Thread nD τ).loc main_arg0)) (m ((c.tc : Thread nD τ).loc main_arg3))
        (m ((c.tc : Thread nD τ).loc main_arg5)) (m ((c.tc : Thread nD τ).loc main_arg2))
      ∧ (r.2.mem ((c.tc : Thread nD τ).loc main_v4_4) : S7x36x4x256.Idx → EReal) = zeroArr (m ((c.tc : Thread nD τ).loc main_arg0)) (m ((c.tc : Thread nD τ).loc main_arg3))
        (m ((c.tc : Thread nD τ).loc main_arg5)) (m ((c.tc : Thread nD τ).loc main_arg2))
      ∧ (r.2.mem ((c.tc : Thread nD τ).loc main_v4_6) : S7x36x4x256.Idx → EReal) = scaleArr (m ((c.tc : Thread nD τ).loc main_arg1)) (m ((c.tc : Thread nD τ).loc main_arg4))
        (m ((c.tc : Thread nD τ).loc main_arg6)) (m ((c.tc : Thread nD τ).loc main_arg2))
      ∧ (r.2.mem ((c.tc : Thread nD τ).loc main_v4_7) : S7x36x4x256.Idx → EReal) = zeroArr (m ((c.tc : Thread nD τ).loc main_arg1)) (m ((c.tc : Thread nD τ).loc main_arg4))
        (m ((c.tc : Thread nD τ).loc main_arg6)) (m ((c.tc : Thread nD τ).loc main_arg2)))) :=
  (θ_run defs _ _).mono (fun r h c =>
    ⟨((Pipeline.Dat.toRForget_arrAt_iff (dats m hO hH 0 c) (fgt := forgets0) (w := 9) rfl _ _).mp ((h c).1 9)).trans (arr9 m hO hH c (hL c) (hPk c)),
     ((Pipeline.Dat.toRForget_arrAt_iff (dats m hO hH 0 c) (fgt := forgets0) (w := 10) rfl _ _).mp ((h c).1 10)).trans (arr10 m hO hH c (hL c) (hPk c)),
     ((Pipeline.Dat.toRForget_arrAt_iff (dats m hO hH 0 c) (fgt := forgets0) (w := 12) rfl _ _).mp ((h c).1 12)).trans (arr12 m hO hH c (hL c) (hPv c)),
     ((Pipeline.Dat.toRForget_arrAt_iff (dats m hO hH 0 c) (fgt := forgets0) (w := 13) rfl _ _).mp ((h c).1 13)).trans (arr13 m hO hH c (hL c) (hPv c))⟩)
    (run_main m ρ hO hH hR)

end Cert.Proof.KernelIdeal

end
-- ==== Proof.KernelIdealCodePoint.lean ====
module

public import proofs.«01_k».proof.Proof.KernelIdealScales
public import proofs.«01_k».proof.Proof.KernelIdealCodesTrip

/-! The blocks of codes the kernel stores, against the function of the arguments they are. -/

@[expose] public section

set_option maxRecDepth 16384

noncomputable section

namespace Cert.Proof.KernelIdeal

open Cert.KernelIdeal Cert.KernelIdeal.Gen
open Idealize.ShloMosaic Idealize.ShloMosaic.TcCoe

/-- A byte of a row of words: four rows of bytes to a row of words, the first the lowest. -/
theorem bytes_bit (W : S8x128.Idx → BitVec 32) (r : Fin 32) (l : Fin 128) (j : Nat) (hj : j < 8) :
    (bytes W (ix4 0 0 r l)).getLsbD j = (W (ix2 (⟨r.val / 4, by omega⟩ : Fin 8) l)).getLsbD (8 * (r.val % 4) + j) := by
  have e : Shape.reshapeEquiv shapeCasts_S32x128_S1x1x32x128 (ix4 0 0 r l : S1x1x32x128.Idx) = (ix2 r l : S32x128.Idx) := by
    pointwise
  unfold bytes
  rw [Pointwise.shapeCast_apply, e, bitcast_getLsbD W bitcasts_S8x128_w32_S32x128_w8 (ix2 r l) j hj (by decide)]
  have hr : (S32x128 : Shape).row (ix2 r l : S32x128.Idx) = r.val := rfl
  have eq : (r.val * 8 + j) % 32 = 8 * (r.val % 4) + j := by omega
  have ep : ((S32x128 : Shape).row (ix2 r l : S32x128.Idx) * 8 + j) / 32 = r.val / 4 := by rw [hr]; omega
  have hb : ∀ c : Fin S8x128.rank, c.val + 2 = S8x128.rank → r.val / 4 < S8x128.size c := fun c hc => by
    match c with
    | ⟨0, _⟩ => show r.val / 4 < 8; omega
    | ⟨1, _⟩ => exact absurd hc (by show ¬ 1 + 2 = 2; omega)
  rw [bitcasts_S8x128_w32_S32x128_w8.srcIdx_congr _ ep _ hb, hr, eq]
  congr 2
  funext c
  match c with
  | ⟨0, _⟩ => exact Fin.ext (bitcasts_S8x128_w32_S32x128_w8.srcIdx_row _ _ _ ⟨0, Nat.zero_lt_two⟩ rfl)
  | ⟨1, _⟩ => exact Fin.ext (bitcasts_S8x128_w32_S32x128_w8.srcIdx_other _ _ _ ⟨1, Nat.one_lt_two⟩ (by show ¬ 1 + 2 = 2; omega))

variable (x : S7x768x36x128.Idx → EReal) (P : S36x128.Idx → BitVec 32) (C : S36x4.Idx → EReal) (L : S7.Idx → BitVec 32)

/-- A token's number, from its half and its place in it, against the tokens past the first 512. -/
theorem kept_lane (v : BitVec 32) (h1 : 512 ≤ v.toNat) (h2 : v.toNat ≤ 768) (t : Fin 256) :
    IntOp.cmpi .slt (IntOp.addi (BitVec.ofNat 32 (t.val % 128)) (match t.val / 128 with | 0 => 0#32 | _ => 128#32)) (v - 512#32)
      = if t.val + 512 < v.toNat then 1#1 else 0#1 := by
  have ht : t.val < 256 := t.isLt
  have e : IntOp.addi (BitVec.ofNat 32 (t.val % 128)) (match t.val / 128 with | 0 => 0#32 | _ => 128#32) = BitVec.ofNat 32 t.val := by
    obtain h | h : t.val / 128 = 0 ∨ t.val / 128 = 1 := by omega
    · rw [h]
      show BitVec.ofNat 32 (t.val % 128) + 0#32 = _
      rw [BitVec.add_zero, Nat.mod_eq_of_lt (by omega)]
    · rw [h]
      show BitVec.ofNat 32 (t.val % 128) + 128#32 = _
      apply BitVec.eq_of_toNat_eq
      rw [BitVec.toNat_add]; simp only [BitVec.toNat_ofNat]; omega
  rw [e]
  exact kept_iff _ ht v h1 h2

/-- The byte of a pair of channels is where the kernel's words have it. -/
theorem code_point (x0 : S1x4x768x128.Idx → EReal) (b : Fin 7) (a : Nat) (P0 P1 : S36x128.Idx → BitVec 32) (C0 C1 : S4x36.Idx → EReal) (τ : Fin 2)
    (hx : ∀ (h : Fin 4) (t : Fin 768) (q : Fin 128), x0 (ix4 0 h t q) = x (ix4 b t (headOf a h.val) q))
    (hP : (if τ.val = 0 then P0 else P1) = P) (hlt : ∀ i, (P i).toNat < 128)
    (hC : ∀ (g : Fin 4) (h : Fin 36), (if τ.val = 0 then C0 else C1) (ix2 g h) = C (ix2 h g))
    (h1 : 512 ≤ (L (ix1 b)).toNat) (h2 : (L (ix1 b)).toNat ≤ 768) (y : S1x4x64x256.Idx) :
    codeG (L (ix1 b) - 512#32) (prodAt x0 (tab17 a P0 P1) τ) (zeroRow x0 (tab17 a P0 P1) (tab18 a C0 C1) τ) (scaleRow x0 (tab17 a P0 P1) (tab18 a C0 C1) τ) y
      = codeArr x P C L (ix4 b (headOf a (y 1).val) (y 2) (y 3)) := by
  obtain ⟨u, h, p, t, rfl⟩ := split4 (m := 1) (n := 4) (p := 64) (q := 256) y
  show bytes (wordRow _ (prodAt x0 (tab17 a P0 P1) τ h) (zeroRow x0 (tab17 a P0 P1) (tab18 a C0 C1) τ h) (scaleRow x0 (tab17 a P0 P1) (tab18 a C0 C1) τ h) (p.val / 32) (t.val / 128))
      (ix4 0 0 (⟨p.val % 32, Nat.mod_lt _ (by decide)⟩ : Fin 32) (⟨t.val % 128, Nat.mod_lt _ (by decide)⟩ : Fin 128))
    = if t.val + 512 < (L (ix1 b)).toNat then pairAt x P C b t (headOf a h.val) p else 0
  apply BitVec.eq_of_getLsbD_eq
  intro j hj
  rw [bytes_bit _ _ _ j hj]
  show BitVec.getLsbD (Scalar.select (IntOp.cmpi .slt (IntOp.addi (BitVec.ofNat 32 (t.val % 128)) (match t.val / 128 with | 0 => 0#32 | _ => 128#32)) (L (ix1 b) - 512#32)) _ 0#32) _ = _
  rw [kept_lane _ h1 h2]
  split
  case isFalse => exact BitVec.getLsbD_zero.trans BitVec.getLsbD_zero.symm
  case isTrue =>
  have hp := p.isLt
  have hg : p.val / 16 < 4 := by omega
  have hi : p.val % 32 / 4 < 8 := by omega
  obtain ⟨hr, r1, r2, r3⟩ := rowAt_parts ⟨p.val / 16, hg⟩ t
  have hrow : pickRow (p.val / 32) (t.val / 128) ⟨p.val % 32 / 4, hi⟩ = rowAt ⟨p.val / 16, hg⟩ (t.val / 128) := by
    have ht := t.isLt
    refine Fin.ext ?_
    rw [hr]
    show (4 * (p.val % 32 / 4 / 4) + 2 * (p.val / 32) + t.val / 128) % 8 = 4 * (p.val / 16 % 2) + 2 * (p.val / 16 / 2) + t.val / 128
    have e1 : p.val % 32 / 4 / 4 = p.val / 16 % 2 := by omega
    have e2 : p.val / 16 / 2 = p.val / 32 := by omega
    have e3 : t.val / 128 < 2 := by omega
    have e4 : p.val / 32 < 2 := by omega
    have e5 : p.val / 16 % 2 < 2 := by omega
    rw [e1, e2]
    generalize p.val / 16 % 2 = u1 at *
    generalize p.val / 32 = u2 at *
    generalize t.val / 128 = u3 at *
    omega
  have hz : zeroRow x0 (tab17 a P0 P1) (tab18 a C0 C1) τ h (ix2 (rowAt ⟨p.val / 16, hg⟩ (t.val / 128)) (⟨t.val % 128, Nat.mod_lt _ (by decide)⟩ : Fin 128))
      = lowAt x P C b t (headOf a h.val) ⟨p.val / 16, hg⟩ :=
    congrArg₂ (· * ·) (clip_entry C a C0 C1 τ hC h ⟨p.val / 16, hg⟩ t _) (fold_low x P x0 b a P0 P1 τ hx hP hlt h ⟨p.val / 16, hg⟩ t)
  have hs : scaleRow x0 (tab17 a P0 P1) (tab18 a C0 C1) τ h (ix2 (rowAt ⟨p.val / 16, hg⟩ (t.val / 128)) (⟨t.val % 128, Nat.mod_lt _ (by decide)⟩ : Fin 128))
      = stepOf (lowAt x P C b t (headOf a h.val) ⟨p.val / 16, hg⟩) (highAt x P C b t (headOf a h.val) ⟨p.val / 16, hg⟩) :=
    congrArg₂ stepOf
      (congrArg₂ (· * ·) (clip_entry C a C0 C1 τ hC h ⟨p.val / 16, hg⟩ t _) (fold_low x P x0 b a P0 P1 τ hx hP hlt h ⟨p.val / 16, hg⟩ t))
      (congrArg₂ (· * ·) (clip_entry C a C0 C1 τ hC h ⟨p.val / 16, hg⟩ t _) (fold_high x P x0 b a P0 P1 τ hx hP hlt h ⟨p.val / 16, hg⟩ t))
  have he : ∀ (k : Nat) (hk : k < 8) (q : Fin 32) (hq : q.val = 8 * (p.val % 32 / 4 % 4) + k),
      tileAt (prodAt x0 (tab17 a P0 P1) τ h) (p.val / 32) (t.val / 128) k (p.val % 32 / 4) (⟨t.val % 128, Nat.mod_lt _ (by decide)⟩ : Fin 128)
        = groupAt x P b t (headOf a h.val) ⟨p.val / 16, hg⟩ q := fun k hk q hq => by
    have h' := (group_entry x0 a P0 P1 P τ hP hlt h ⟨p.val / 16, hg⟩ t ⟨p.val % 32 / 4 % 4, by omega⟩ ⟨k, hk⟩).trans (hx _ _ _)
    rw [r1, r2, r3] at h'
    have e1 : p.val / 16 / 2 = p.val / 32 := by omega
    have e2 : 4 * (p.val / 16 % 2) + p.val % 32 / 4 % 4 = p.val % 32 / 4 := by omega
    have h'' : tileAt (prodAt x0 (tab17 a P0 P1) τ h) (p.val / 16 / 2) (t.val / 128) k (4 * (p.val / 16 % 2) + p.val % 32 / 4 % 4) (⟨t.val % 128, Nat.mod_lt _ (by decide)⟩ : Fin 128) = _ := h'
    rw [e1, e2] at h''
    rw [h'']
    have hq' : q = (⟨8 * (p.val % 32 / 4 % 4) + k, by omega⟩ : Fin 32) := Fin.ext hq
    rw [hq']
    rfl
  show BitVec.getLsbD (joinW fun m => qOf (tileAt (prodAt x0 (tab17 a P0 P1) τ h) (p.val / 32) (t.val / 128) m (p.val % 32 / 4) (⟨t.val % 128, _⟩ : Fin 128))
      (zeroRow x0 (tab17 a P0 P1) (tab18 a C0 C1) τ h (ix2 (pickRow (p.val / 32) (t.val / 128) ⟨p.val % 32 / 4, hi⟩) (⟨t.val % 128, _⟩ : Fin 128)))
      (scaleRow x0 (tab17 a P0 P1) (tab18 a C0 C1) τ h (ix2 (pickRow (p.val / 32) (t.val / 128) ⟨p.val % 32 / 4, hi⟩) (⟨t.val % 128, _⟩ : Fin 128)))) _ = _
  rw [hrow, hz, hs, joinW_bit _ (fun m => qOf_lt _ _ _) _ j (Nat.mod_lt _ (by decide)) hj]
  unfold pairAt
  congr 2
  · unfold qAt
    rw [he (2 * (p.val % 32 % 4)) (by omega) ⟨2 * (p.val % 16), by omega⟩ (by show 2 * (p.val % 16) = 8 * (p.val % 32 / 4 % 4) + 2 * (p.val % 32 % 4); omega)]
  · unfold qAt
    rw [he (2 * (p.val % 32 % 4) + 1) (by omega) ⟨2 * (p.val % 16) + 1, by omega⟩ (by show 2 * (p.val % 16) + 1 = 8 * (p.val % 32 / 4 % 4) + (2 * (p.val % 32 % 4) + 1); omega)]

end Cert.Proof.KernelIdeal

end
-- ==== Proof.KernelIdealCodeArr.lean ====
module

public import proofs.«01_k».proof.Proof.KernelIdealScaleArr
public import proofs.«01_k».proof.Proof.KernelIdealCodePoint

/-! The kernel's codes after the run. -/

@[expose] public section

set_option maxRecDepth 16384

noncomputable section

namespace Cert.Proof.KernelIdeal

open Cert.KernelIdeal Cert.KernelIdeal.Gen
open Idealize.ShloMosaic Idealize.ShloMosaic.TcCoe Idealize.SL Idealize.SL.Sem

variable (m : (ℓ : Loc nD τ sig) → Buf (Elt Ideal) ℓ)

/-- Where a block's element lies in a result. -/
theorem emb_code (t : Fin grid0.N) (y : S1x4x64x256.Idx) (e : S7x36x64x256.Idx)
    (he : ∀ a, (e a).val = cc0_transform_6 (grid0.coords t) a * S1x4x64x256.size a + 1 * (y a).val) :
    ix4 (grid0.coords t 1 : Fin 7) (headOf (t.val / 7) (y 1).val) (y 2) (y 3) = e := by
  have hi : (grid0.coords t 1).val < 7 := (grid0.coords t 1).isLt
  have ha : (grid0.coords t 0).val < 9 := (grid0.coords t 0).isLt
  have hc := coord_head t
  funext (a : Fin 4)
  refine Fin.ext ?_
  rw [he a]
  fin_cases a
  · have hy : (y 0).val < 1 := (y 0).isLt
    show (grid0.coords t 1).val = (BitVec.ofNat 32 (grid0.coords t 1).val).toNat * 1 + 1 * (y 0).val
    rw [BitVec.toNat_ofNat]; omega
  · have hy : (y 1).val < 4 := (y 1).isLt
    show (4 * (t.val / 7) + (y 1).val) % 36 = (BitVec.ofNat 32 (grid0.coords t 0).val).toNat * 4 + 1 * (y 1).val
    rw [BitVec.toNat_ofNat]; omega
  · show (y 2).val = 0 * 64 + 1 * (y 2).val; omega
  · show (y 3).val = 0 * 256 + 1 * (y 3).val; omega

theorem covered_code (β : Fin 4 → Nat) (hβ : ∀ a, β a < (S7x36x64x256.size a + S1x4x64x256.size a - 1) / S1x4x64x256.size a) : ∃ t : Fin grid0.N,
    (t.val + 1 = grid0.N || decide (∃ h : t.val + 1 < grid0.N, cc0_transform_6 (grid0.coords ⟨t.val + 1, h⟩) ≠ cc0_transform_6 (grid0.coords t))) = true
      ∧ ∀ a, cc0_transform_6 (grid0.coords t) a = β a := by
  have h0 : β 0 < 7 := hβ 0
  have h1 : β 1 < 9 := hβ 1
  have h2 : β 2 < 1 := hβ 2
  have h3 : β 3 < 1 := hβ 3
  obtain ⟨t, hf, ht⟩ := flushes ⟨β 0, h0⟩ ⟨β 1, h1⟩
  refine ⟨t, hf, fun a => (ht a).trans ?_⟩
  fin_cases a
  · rfl
  · rfl
  · exact (Nat.lt_one_iff.mp h2).symm
  · exact (Nat.lt_one_iff.mp h3).symm

/-! ## The arrays -/

theorem cov8 (hO : Ok m) : ((cfgM m hO).win 8).Covers := by
  refine ⟨fun a => ?_, fun β => ?_⟩
  · revert a; show ∀ a : Fin 4, 0 < S1x4x64x256.size a; decide
  · obtain ⟨t, hf, ht⟩ := covered_code (fun a : Fin 4 => (β a).val) (fun a => (β a).isLt)
    exact ⟨t, hf, fun a => ⟨ht a, Or.inl rfl⟩⟩

theorem arr8 (hO : Ok m) (hH : Hyps m hO) (c : Dev nD) (hL : LenOk (m ((c.tc : Thread nD τ).loc main_arg2))) (hP : PermOk (m ((c.tc : Thread nD τ).loc main_arg3))) :
    (dats m hO hH 0 c).arrAt 8 (cfgM m hO).N = codeArr (m ((c.tc : Thread nD τ).loc main_arg0)) (m ((c.tc : Thread nD τ).loc main_arg3))
      (m ((c.tc : Thread nD τ).loc main_arg5)) (m ((c.tc : Thread nD τ).loc main_arg2)) := by
  refine Pipeline.Dat.arrAt_eq_of_covers (dat := dats m hO hH 0 c) 8 _ (cov8 m hO) fun t hf (y : S1x4x64x256.Idx) => ?_
  blk_simp
  rw [after0_8, word0_eq m c, outsAt0_eq]
  exact (code_point _ _ _ _ _ _ _ _ _ _ _ 0 (iblk_k m hO c t) rfl hP (fun _ _ => rfl) (hL _).1 (hL _).2 y).trans
    (congrArg (codeArr _ _ _ _) (emb_code t y _ fun a => rfl))

theorem cov11 (hO : Ok m) : ((cfgM m hO).win 11).Covers := by
  refine ⟨fun a => ?_, fun β => ?_⟩
  · revert a; show ∀ a : Fin 4, 0 < S1x4x64x256.size a; decide
  · obtain ⟨t, hf, ht⟩ := covered_code (fun a : Fin 4 => (β a).val) (fun a => (β a).isLt)
    exact ⟨t, hf, fun a => ⟨ht a, Or.inl rfl⟩⟩

theorem arr11 (hO : Ok m) (hH : Hyps m hO) (c : Dev nD) (hL : LenOk (m ((c.tc : Thread nD τ).loc main_arg2))) (hP : PermOk (m ((c.tc : Thread nD τ).loc main_arg4))) :
    (dats m hO hH 0 c).arrAt 11 (cfgM m hO).N = codeArr (m ((c.tc : Thread nD τ).loc main_arg1)) (m ((c.tc : Thread nD τ).loc main_arg4))
      (m ((c.tc : Thread nD τ).loc main_arg6)) (m ((c.tc : Thread nD τ).loc main_arg2)) := by
  refine Pipeline.Dat.arrAt_eq_of_covers (dat := dats m hO hH 0 c) 11 _ (cov11 m hO) fun t hf (y : S1x4x64x256.Idx) => ?_
  blk_simp
  rw [after0_11, word0_eq m c, outsAt0_eq]
  exact (code_point _ _ _ _ _ _ _ _ _ _ _ 1 (iblk_v m hO c t) rfl hP (fun _ _ => rfl) (hL _).1 (hL _).2 y).trans
    (congrArg (codeArr _ _ _ _) (emb_code t y _ fun a => rfl))

/-- The run, with the codes named. -/
theorem run_codes (ρ : Dev nD → PrngReg) (hO : Ok m) (hH : Hyps m hO) (hR : Rng m)
    (hL : ∀ c : Dev nD, LenOk (m ((c.tc : Thread nD τ).loc main_arg2))) (hPk : ∀ c : Dev nD, PermOk (m ((c.tc : Thread nD τ).loc main_arg3)))
    (hPv : ∀ c : Dev nD, PermOk (m ((c.tc : Thread nD τ).loc main_arg4))) :
    θ_run defs (onTc (τ := τ) (main (F := Ideal))) ⟨m, fun _ => 0, ρ⟩ (fun r => (∀ c : Dev nD,
      (r.2.mem ((c.tc : Thread nD τ).loc main_v4_2) : S7x36x64x256.Idx → BitVec 8) = codeArr (m ((c.tc : Thread nD τ).loc main_arg0)) (m ((c.tc : Thread nD τ).loc main_arg3))
        (m ((c.tc : Thread nD τ).loc main_arg5)) (m ((c.tc : Thread nD τ).loc main_arg2))
      ∧ (r.2.mem ((c.tc : Thread nD τ).loc main_v4_5) : S7x36x64x256.Idx → BitVec 8) = codeArr (m ((c.tc : Thread nD τ).loc main_arg1)) (m ((c.tc : Thread nD τ).loc main_arg4))
        (m ((c.tc : Thread nD τ).loc main_arg6)) (m ((c.tc : Thread nD τ).loc main_arg2)))) :=
  (θ_run defs _ _).mono (fun r h c =>
    ⟨((Pipeline.Dat.toRForget_arrAt_iff (dats m hO hH 0 c) (fgt := forgets0) (w := 8) rfl _ _).mp ((h c).1 8)).trans (arr8 m hO hH c (hL c) (hPk c)),
     ((Pipeline.Dat.toRForget_arrAt_iff (dats m hO hH 0 c) (fgt := forgets0) (w := 11) rfl _ _).mp ((h c).1 11)).trans (arr11 m hO hH c (hL c) (hPv c))⟩)
    (run_main m ρ hO hH hR)

end Cert.Proof.KernelIdeal

end
-- ==== Proof.KernelIdealPre.lean ====
module

public import proofs.«01_k».proof.Defs
public import Idealize.ShloMosaic.Lib.Pointwise
public import proofs.«01_k».proof.Proof.KernelIdealHyps

/-! What the value claim's precondition says: the lengths are in range, and every channel number of the two
permutations is below 128. -/

@[expose] public section

noncomputable section

namespace Cert.Proof

open Idealize.ShloMosaic Idealize.ShloMosaic.TcCoe Idealize.SL.Sem

/-- The precondition's facts. -/
instance in_range_perms_facts : Cert.Pre_in_range_perms.Facts where
  bcast_S_S7 := by decide
  bcast_S7_S7x1x1_0 := by decide
  bcast_S_S36x128 := by decide
  bcast_S36x128_S1x36x128_1_2 := by decide
  bcast_S7x1x1_S7x36x128_0_1_2 := by decide
  bcast_S1x36x128_S7x36x128_0_1_2 := by decide

theorem andi_bit : ∀ a b : BitVec 1, IntOp.andi a b = 1#1 → a = 1#1 ∧ b = 1#1 := by decide

theorem channel_lt (v : BitVec 32) (h0 : IntOp.cmpi .sge v 0#32 = 1#1) (h1 : IntOp.cmpi .slt v 128#32 = 1#1) : v.toNat < 128 := by
  have bool_one : ∀ {b : Bool}, BitVec.ofBool b = 1#1 → b = true := by decide
  have a := of_decide_eq_true (bool_one h0)
  have b := of_decide_eq_true (bool_one h1)
  have z : (0#32 : BitVec 32).toInt = 0 := by decide
  have w : (128#32 : BitVec 32).toInt = 128 := by decide
  rw [z] at a
  rw [w] at b
  have e := BitVec.toInt_eq_toNat_cond v
  have := v.isLt
  split at e <;> omega

open Cert.Pre_in_range_perms in
/-- The precondition at an element: the length's part and the two permutations' parts. -/
theorem perms_fn {F : FTy → Type} [FloatOps F] (k v : FVec F S7x768x36x128 .bf16) (L : IVec S7 32) (pk pv : IVec S36x128 32) (ck cv : FVec F S36x4 .f32)
    (h : Cert.Pre_in_range_perms.fn (F := F) k v L pk pv ck cv = fun _ => 1#1) (b : Fin 7) (a : Fin 36) (d : Fin 128) :
    (IntOp.cmpi .sge (L (ix1 b)) 512#32 = 1#1 ∧ IntOp.cmpi .sle (L (ix1 b)) 768#32 = 1#1)
      ∧ (pk (ix2 a d)).toNat < 128 ∧ (pv (ix2 a d)).toNat < 128 := by
  have h0 := congrFun h (ix3 b a d)
  unfold Cert.Pre_in_range_perms.fn Cert.Pre_in_range_perms.fn_part1 at h0
  dsimp only at h0
  have e : IntOp.andi (IntOp.andi (IntOp.andi (IntOp.cmpi .sge (L (ix1 b)) 512#32) (IntOp.cmpi .sle (L (ix1 b)) 768#32))
        (IntOp.andi (IntOp.cmpi .sge (pk (ix2 a d)) 0#32) (IntOp.cmpi .slt (pk (ix2 a d)) 128#32)))
      (IntOp.andi (IntOp.cmpi .sge (pv (ix2 a d)) 0#32) (IntOp.cmpi .slt (pv (ix2 a d)) 128#32)) = 1#1 := by
    refine Eq.trans (Eq.symm ?_) h0
    pointwise
  obtain ⟨e, e3⟩ := andi_bit _ _ e
  obtain ⟨e1, e2⟩ := andi_bit _ _ e
  exact ⟨andi_bit _ _ e1, channel_lt _ (andi_bit _ _ e2).1 (andi_bit _ _ e2).2, channel_lt _ (andi_bit _ _ e3).1 (andi_bit _ _ e3).2⟩

namespace KernelIdeal

open Cert.KernelIdeal Cert.KernelIdeal.Gen

variable (m : (ℓ : Loc nD τ sig) → Buf (Elt Ideal) ℓ)

/-- The value claim's precondition contains the run's. -/
theorem pre_of_perms (h : Cert.Pre_KernelIdeal_in_range_perms m) : Cert.Pre_KernelIdeal m := by
  intro c
  funext (b : S7.Idx)
  obtain ⟨⟨h1, h2⟩, -⟩ := perms_fn _ _ _ _ _ _ _ (h c) (b 0) 0 0
  have hb : (ix1 (b 0) : S7.Idx) = b := by funext a; fin_cases a; rfl
  rw [hb] at h1 h2
  exact (congrArg₂ IntOp.andi h1 h2).trans rfl

theorem perm_k_of_pre (h : Cert.Pre_KernelIdeal_in_range_perms m) (c : Dev nD) (i : S36x128.Idx) :
    ((m ((c.tc : Thread nD τ).loc main_arg3) : S36x128.Idx → BitVec 32) i).toNat < 128 := by
  have hi : (ix2 (i 0) (i 1) : S36x128.Idx) = i := by funext a; fin_cases a <;> rfl
  rw [← hi]
  exact (perms_fn _ _ _ _ _ _ _ (h c) 0 (i 0) (i 1)).2.1

theorem perm_v_of_pre (h : Cert.Pre_KernelIdeal_in_range_perms m) (c : Dev nD) (i : S36x128.Idx) :
    ((m ((c.tc : Thread nD τ).loc main_arg4) : S36x128.Idx → BitVec 32) i).toNat < 128 := by
  have hi : (ix2 (i 0) (i 1) : S36x128.Idx) = i := by funext a; fin_cases a <;> rfl
  rw [← hi]
  exact (perms_fn _ _ _ _ _ _ _ (h c) 0 (i 0) (i 1)).2.2

end KernelIdeal

end Cert.Proof

end
-- ==== Proof.ReferenceWin.lean ====
module

public import proofs.«01_k».proof.Defs
public import proofs.«01_k».proof.Proof.Gen.ReferenceIdeal.Frame
public import Idealize.ShloMosaic.Lib.Pointwise
public import Idealize.ShloMosaic.Lib.ValueIdx
public import Idealize.ShloMosaic.Lib.ReduceAll
public import Idealize.ShloMosaic.Lib.Claim

/-! The reference's two windows, read at an index: result `[b, h, r, d]` is the operand at token
`(length of b − 512) + r`. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

/-- The tokens the window reads, per sequence and row: the length less 512, plus the row. -/
def rows (L : IVec S7 32) : IVec S7x512x1x1 32 :=
  broadcastInDim S7x512x1x1 ![0, 1] bcast_S7x512_S7x512x1x1_0_1
    (addi
      (broadcastInDim S7x512 ![0, 1] bcast_S7x1_S7x512_0_1
        (broadcastInDim S7x1 ![0] bcast_S7_S7x1_0 (subi L (broadcastInDim S7 ![] bcast_S_S7 (constantI S_ 32 512#32)))))
      (broadcastInDim S7x512 ![0, 1] bcast_S1x512_S7x512_0_1
        (broadcastInDim S1x512 ![1] bcast_S512_S1x512_1 (iotaInDim S512 32 0))))

/-- The tokens, a negative one counted from the end. -/
def wrapped (n : IVec S7x512x1x1 32) : IVec S7x512x1 32 :=
  shapeCast S7x512x1
    (select (cmpi CmpIPredicate.slt n (broadcastInDim S7x512x1x1 ![] bcast_S_S7x512x1x1 (constantI S_ 32 0#32)))
      (addi n (broadcastInDim S7x512x1x1 ![] bcast_S_S7x512x1x1 (constantI S_ 32 768#32))) n)
    shapeCasts_S7x512x1x1_S7x512x1

/-- Which tokens lie in the operand. -/
def inside (n : IVec S7x512x1 32) : IVec S7x512x1 1 :=
  andi (cmpi CmpIPredicate.sge n (broadcastInDim S7x512x1 ![] bcast_S_S7x512x1 (constantI S_ 32 0#32)))
    (cmpi CmpIPredicate.sle n (broadcastInDim S7x512x1 ![0, 1, 2] bcast_S1x1x1_S7x512x1_0_1_2
      (broadcastInDim S1x1x1 ![2] bcast_S1_S1x1x1_2 (constantI S1 32 767#32))))

/-- The take along the token axis. -/
def taken (x : FVec Ideal S7x768x36x128 .bf16) (n : IVec S7x512x1 32) : FVec Ideal S7x512x36x128 .bf16 :=
  select (broadcastInDim S7x512x36x128 ![0, 1] bcast_S7x512_S7x512x36x128_0_1
      (Host.reduce IntOp.andi (inside n) (constantI S_ 1 1#1) reducesTo_S7x512x1_S7x512_d2 h_S_))
    (Host.gather gather_S7x768x36x128_S7x512x1_S7x512x36x128_23_1_0_0_1_2_1136128 x n)
    (broadcastInDim S7x512x36x128 ![] bcast_S_S7x512x36x128 (constant S_ .bf16 0x7FC0#16))

/-- The window: the take, heads before tokens. -/
def window (x : FVec Ideal S7x768x36x128 .bf16) (L : IVec S7 32) : FVec Ideal S7x36x512x128 .bf16 :=
  transpose S7x36x512x128 [0, 2, 1, 3] (taken x (wrapped (rows L))) transposes_S7x512x36x128_S7x36x512x128_0_2_1_3

variable (m : (ℓ : Loc nD τ sig) → Buf (Elt Ideal) ℓ)

set_option maxHeartbeats 4000000 in
theorem V_win_k (c : Dev nD) : V m c main_v19
    = window (m ((c.tc : Thread nD τ).loc main_arg0)) (m ((c.tc : Thread nD τ).loc main_arg2)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 4000000 in
theorem V_win_v (c : Dev nD) : V m c main_v21
    = window (m ((c.tc : Thread nD τ).loc main_arg1)) (m ((c.tc : Thread nD τ).loc main_arg2)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

/-- The gather read at an index, its row read signed and kept in the operand. -/
theorem gather_apply (x : FVec Ideal S7x768x36x128 .bf16) (n : IVec S7x512x1 32) (y : S7x512x36x128.Idx) :
    Host.gather gather_S7x768x36x128_S7x512x1_S7x512x36x128_23_1_0_0_1_2_1136128 x n y
      = x (ix4 (y 0) (⟨min (n (ix3 (y 0) (y 1) (0 : Fin 1))).toInt.toNat 767, by omega⟩ : Fin 768) (y 2) (y 3)) := by
  unfold Host.gather
  congr 1
  funext a
  refine Fin.ext ?_
  show GatherDims.start gather_S7x768x36x128_S7x512x1_S7x512x36x128_23_1_0_0_1_2_1136128 y n a
    + GatherDims.batchCoord gather_S7x768x36x128_S7x512x1_S7x512x36x128_23_1_0_0_1_2_1136128 y a
    + GatherDims.offCoord gather_S7x768x36x128_S7x512x1_S7x512x36x128_23_1_0_0_1_2_1136128 y a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.batchCoord GatherDims.offCoord
    rw [dif_neg (by decide), dif_pos (by decide), dif_neg (by decide)]
    exact (Nat.zero_add _).trans (Nat.add_zero _)
  · unfold GatherDims.start GatherDims.batchCoord GatherDims.offCoord
    rw [dif_pos (by decide), dif_neg (by decide), dif_neg (by decide)]
    have hsi : GatherDims.siIdx gather_S7x768x36x128_S7x512x1_S7x512x36x128_23_1_0_0_1_2_1136128 y ⟨0, by decide⟩
        = ix3 (y 0) (y 1) (0 : Fin 1) := by
      funext b; refine Fin.ext ?_
      match b with
      | ⟨0, _⟩ => rfl
      | ⟨1, _⟩ => rfl
      | ⟨2, _⟩ => rfl
    show min (n (GatherDims.siIdx gather_S7x768x36x128_S7x512x1_S7x512x36x128_23_1_0_0_1_2_1136128 y ⟨0, by decide⟩)).toInt.toNat 767 + 0 + 0 = _
    rw [hsi]
    rfl
  · unfold GatherDims.start GatherDims.batchCoord GatherDims.offCoord
    rw [dif_neg (by decide), dif_neg (by decide), dif_pos (by decide)]
    exact Nat.zero_add _
  · unfold GatherDims.start GatherDims.batchCoord GatherDims.offCoord
    rw [dif_neg (by decide), dif_neg (by decide), dif_pos (by decide)]
    exact Nat.zero_add _

theorem rows_apply (L : IVec S7 32) (i : S7x512x1x1.Idx) :
    rows L i = L (ix1 (i 0)) - 512#32 + BitVec.ofNat 32 (i 1).val := by
  unfold rows
  pointwise
  rfl

/-- A row of the window, as a natural number. -/
theorem rows_toNat (L : IVec S7 32) (h : ∀ b, 512 ≤ (L b).toNat ∧ (L b).toNat ≤ 768) (i : S7x512x1x1.Idx) :
    (rows L i).toNat = (L (ix1 (i 0))).toNat - 512 + (i 1).val := by
  obtain ⟨h1, h2⟩ := h (ix1 (i 0))
  have hi : (i 1).val < 512 := (i 1).isLt
  rw [rows_apply, BitVec.toNat_add, BitVec.toNat_sub, BitVec.toNat_ofNat, BitVec.toNat_ofNat]
  omega

/-- A token below 768 is read as it is. -/
theorem wrapped_apply (n : IVec S7x512x1x1 32) (h : ∀ i, (n i).toNat ≤ 767) (i : S7x512x1.Idx) :
    wrapped n i = n (ix4 (i 0) (i 1) (0 : Fin 1) (0 : Fin 1)) := by
  unfold wrapped
  pointwise
  have hn := h (ix4 (i 0) (i 1) (0 : Fin 1) (0 : Fin 1))
  generalize n (ix4 (i 0) (i 1) (0 : Fin 1) (0 : Fin 1)) = v at hn ⊢
  have : IntOp.cmpi CmpIPredicate.slt v 0#32 = 0#1 := by
    have hi : v.toInt = v.toNat := BitVec.toInt_eq_toNat_of_lt (by omega)
    have hz : ¬ v.toInt < (0#32 : BitVec 32).toInt := by rw [hi]; simp
    simp only [IntOp.cmpi, BitVec.slt, decide_eq_false hz]; rfl
  rw [this]; rfl

/-- Every token below 768 lies in the operand. -/
theorem inside_apply (n : IVec S7x512x1 32) (h : ∀ i, (n i).toNat ≤ 767) (i : S7x512x1.Idx) : inside n i = 1#1 := by
  unfold inside
  pointwise
  have hn := h i
  generalize n i = v at hn ⊢
  have hi : v.toInt = v.toNat := BitVec.toInt_eq_toNat_of_lt (by omega)
  have h0 : (0#32 : BitVec 32).toInt ≤ v.toInt := by rw [hi]; simp
  have h1 : v.toInt ≤ (767#32 : BitVec 32).toInt := by rw [hi]; show (v.toNat : Int) ≤ 767; omega
  simp only [IntOp.cmpi, BitVec.sle, decide_eq_true h0, decide_eq_true h1]; rfl

/-- The take, read at an index. -/
theorem taken_apply (x : FVec Ideal S7x768x36x128 .bf16) (n : IVec S7x512x1 32) (h : ∀ i, (n i).toNat ≤ 767) (y : S7x512x36x128.Idx) :
    taken x n y = x (ix4 (y 0) (⟨(n (ix3 (y 0) (y 1) (0 : Fin 1))).toNat, Nat.lt_succ_of_le (h _)⟩ : Fin 768) (y 2) (y 3)) := by
  unfold taken
  show Scalar.select (broadcastInDim S7x512x36x128 ![0, 1] bcast_S7x512_S7x512x36x128_0_1
      (Host.reduce IntOp.andi (inside n) (constantI S_ 1 1#1) reducesTo_S7x512x1_S7x512_d2 h_S_) y)
    (Host.gather gather_S7x768x36x128_S7x512x1_S7x512x36x128_23_1_0_0_1_2_1136128 x n y) _ = _
  have e : broadcastInDim S7x512x36x128 ![0, 1] bcast_S7x512_S7x512x36x128_0_1
      (Host.reduce IntOp.andi (inside n) (constantI S_ 1 1#1) reducesTo_S7x512x1_S7x512_d2 h_S_) y = 1#1 :=
    Host.reduce_andi_one _ _ _ _ _ rfl (inside_apply n h)
  rw [e, gather_apply]
  show x _ = x _
  have hn := h (ix3 (y 0) (y 1) (0 : Fin 1))
  have hi : (n (ix3 (y 0) (y 1) (0 : Fin 1))).toInt = (n (ix3 (y 0) (y 1) (0 : Fin 1))).toNat := BitVec.toInt_eq_toNat_of_lt (by omega)
  congr 2
  refine Fin.ext ?_
  show min _ 767 = _
  rw [hi, Int.toNat_natCast]
  exact Nat.min_eq_left hn

/-- The window, read at an index. -/
theorem window_apply (x : FVec Ideal S7x768x36x128 .bf16) (L : IVec S7 32) (h : ∀ b, 512 ≤ (L b).toNat ∧ (L b).toNat ≤ 768)
    (y : S7x36x512x128.Idx) :
    window x L y = x (ix4 (y 0) (⟨((L (ix1 (y 0))).toNat - 512 + (y 2).val) % 768, Nat.mod_lt _ (by omega)⟩ : Fin 768) (y 1) (y 3)) := by
  have hr : ∀ i, (rows L i).toNat ≤ 767 := fun i => by
    rw [rows_toNat L h]
    have := (h (ix1 (i 0))).2
    have hi : (i 1).val < 512 := (i 1).isLt
    omega
  have hw : ∀ i, (wrapped (rows L) i).toNat ≤ 767 := fun i => by rw [wrapped_apply _ hr]; exact hr _
  unfold window
  pointwise
  rw [taken_apply x _ hw]
  congr 2
  refine Fin.ext ?_
  show (wrapped (rows L) _).toNat = _
  rw [wrapped_apply _ hr, rows_toNat L h]
  have := (h (ix1 (y 0))).2
  have hi : (y 2).val < 512 := (y 2).isLt
  show (L (ix1 (y 0))).toNat - 512 + (y 2).val = ((L (ix1 (y 0))).toNat - 512 + (y 2).val) % 768
  omega

end Cert.Proof.ReferenceIdeal

end
-- ==== Proof.ReferenceQuant.lean ====
module

public import proofs.«01_k».proof.Proof.ReferenceWin
public import proofs.«01_k».proof.Proof.QuantSpec
public import Idealize.ShloMosaic.PureOps.Ideal.Laws

/-! The reference's scales and zeros, read at an index. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

/-- The channels a permutation names, a negative one counted from the end. -/
def channels (p : IVec S36x128 32) : IVec S36x128x1 32 :=
  shapeCast S36x128x1
    (select (cmpi CmpIPredicate.slt (broadcastInDim S1x1x36x128 ![2, 3] bcast_S36x128_S1x1x36x128_2_3 p)
        (broadcastInDim S1x1x36x128 ![] bcast_S_S1x1x36x128 (constantI S_ 32 0#32)))
      (addi (broadcastInDim S1x1x36x128 ![2, 3] bcast_S36x128_S1x1x36x128_2_3 p)
        (broadcastInDim S1x1x36x128 ![] bcast_S_S1x1x36x128 (constantI S_ 32 128#32)))
      (broadcastInDim S1x1x36x128 ![2, 3] bcast_S36x128_S1x1x36x128_2_3 p))
    shapeCasts_S1x1x36x128_S36x128x1

/-- Which channels lie in a head. -/
def inHead (n : IVec S36x128x1 32) : IVec S36x128x1 1 :=
  andi (cmpi CmpIPredicate.sge n (broadcastInDim S36x128x1 ![] bcast_S_S36x128x1 (constantI S_ 32 0#32)))
    (cmpi CmpIPredicate.sle n (broadcastInDim S36x128x1 ![0, 1, 2] bcast_S1x1x1_S36x128x1_0_1_2
      (broadcastInDim S1x1x1 ![2] bcast_S1_S1x1x1_2 (constantI S1 32 127#32))))

/-- The take along the channels. -/
def permuted (x : FVec Ideal S7x256x36x128 .bf16) (n : IVec S36x128x1 32) : FVec Ideal S7x256x36x128 .bf16 :=
  select (broadcastInDim S7x256x36x128 ![2, 3] bcast_S36x128_S7x256x36x128_2_3
      (Host.reduce IntOp.andi (inHead n) (constantI S_ 1 1#1) reducesTo_S36x128x1_S36x128_d2 h_S_))
    (Host.gather gather_S7x256x36x128_S36x128x1_S7x256x36x128_01_3_2_0_3_2_725611 x n)
    (broadcastInDim S7x256x36x128 ![] bcast_S_S7x256x36x128 (constant S_ .bf16 0x7FC0#16))

/-- The first 256 tokens, their channels permuted and in groups. -/
def groups (x : FVec Ideal S7x768x36x128 .bf16) (p : IVec S36x128 32) : FVec Ideal S7x256x36x4x32 .f32 :=
  shapeCast S7x256x36x4x32
    (extf .f32 (permuted (extractStridedSlice S7x256x36x128 ![0, 0, 0, 0] x slices_S7x768x36x128_S7x256x36x128_0_0_0_0) (channels p)) bitsLt_bf16_f32)
    shapeCasts_S7x256x36x128_S7x256x36x4x32

/-- A head's clip of a group, for every token. -/
def clips (k : FVec Ideal S36x4 .f32) : FVec Ideal S7x256x36x4 .f32 :=
  broadcastInDim S7x256x36x4 ![0, 1, 2, 3] bcast_S1x1x36x4_S7x256x36x4_0_1_2_3
    (broadcastInDim S1x1x36x4 ![2, 3] bcast_S36x4_S1x1x36x4_2_3 k)

/-- The groups' least entries, clipped. -/
def lows (k : FVec Ideal S36x4 .f32) (y : FVec Ideal S7x256x36x4x32 .f32) : FVec Ideal S7x256x36x4 .f32 :=
  mulf (clips k) (Host.reduce FloatOps.minimumf y (constant S_ .f32 0x7F800000#32) reducesTo_S7x256x36x4x32_S7x256x36x4_d4 h_S_)

/-- The groups' greatest entries, clipped. -/
def highs (k : FVec Ideal S36x4 .f32) (y : FVec Ideal S7x256x36x4x32 .f32) : FVec Ideal S7x256x36x4 .f32 :=
  mulf (clips k) (Host.reduce FloatOps.maximumf y (constant S_ .f32 0xFF800000#32) reducesTo_S7x256x36x4x32_S7x256x36x4_d4 h_S_)

/-- The scales of the ranges. -/
def steps (lo hi : FVec Ideal S7x256x36x4 .f32) : FVec Ideal S7x256x36x4 .f32 :=
  select (cmpf CmpFPredicate.ogt (subf hi lo) (broadcastInDim S7x256x36x4 ![] bcast_S_S7x256x36x4 (constant S_ .f32 0x00000000#32)))
    (Host.divf (subf hi lo) (broadcastInDim S7x256x36x4 ![] bcast_S_S7x256x36x4 (constant S_ .f32 0x41700000#32)))
    (broadcastInDim S7x256x36x4 ![] bcast_S_S7x256x36x4 (constant S_ .f32 0x3F800000#32))

/-- Tokens last. -/
def tokensLast (z : FVec Ideal S7x256x36x4 .f32) : FVec Ideal S7x36x4x256 .f32 :=
  transpose S7x36x4x256 [0, 2, 3, 1] z transposes_S7x256x36x4_S7x36x4x256_0_2_3_1

/-- Which tokens are kept. -/
def keptWord (L : IVec S7 32) : IVec S7x36x64x256 32 :=
  broadcastInDim S7x36x64x256 ![0, 1, 2, 3] bcast_S7x1x1x256_S7x36x64x256_0_1_2_3
    (broadcastInDim S7x1x1x256 ![0, 3] bcast_S7x256_S7x1x1x256_0_3
      (extui 32 (cmpi CmpIPredicate.slt
        (broadcastInDim S7x256 ![0, 1] bcast_S1x256_S7x256_0_1 (broadcastInDim S1x256 ![1] bcast_S256_S1x256_1 (iotaInDim S256 32 0)))
        (broadcastInDim S7x256 ![0, 1] bcast_S7x1_S7x256_0_1
          (broadcastInDim S7x1 ![0] bcast_S7_S7x1_0 (subi L (broadcastInDim S7 ![] bcast_S_S7 (constantI S_ 32 512#32)))))) natLt_1_32))

variable (m : (ℓ : Loc nD τ sig) → Buf (Elt Ideal) ℓ)

set_option maxHeartbeats 8000000 in
theorem V_low_k (c : Dev nD) : V m c main_v43
    = tokensLast (lows (m ((c.tc : Thread nD τ).loc main_arg5)) (groups (m ((c.tc : Thread nD τ).loc main_arg0)) (m ((c.tc : Thread nD τ).loc main_arg3)))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_step_k (c : Dev nD) : V m c main_v44
    = tokensLast (steps (lows (m ((c.tc : Thread nD τ).loc main_arg5)) (groups (m ((c.tc : Thread nD τ).loc main_arg0)) (m ((c.tc : Thread nD τ).loc main_arg3))))
        (highs (m ((c.tc : Thread nD τ).loc main_arg5)) (groups (m ((c.tc : Thread nD τ).loc main_arg0)) (m ((c.tc : Thread nD τ).loc main_arg3))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_low_v (c : Dev nD) : V m c main_v78
    = tokensLast (lows (m ((c.tc : Thread nD τ).loc main_arg6)) (groups (m ((c.tc : Thread nD τ).loc main_arg1)) (m ((c.tc : Thread nD τ).loc main_arg4)))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_step_v (c : Dev nD) : V m c main_v79
    = tokensLast (steps (lows (m ((c.tc : Thread nD τ).loc main_arg6)) (groups (m ((c.tc : Thread nD τ).loc main_arg1)) (m ((c.tc : Thread nD τ).loc main_arg4))))
        (highs (m ((c.tc : Thread nD τ).loc main_arg6)) (groups (m ((c.tc : Thread nD τ).loc main_arg1)) (m ((c.tc : Thread nD τ).loc main_arg4))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_kept (c : Dev nD) : V m c main_v10 = keptWord (m ((c.tc : Thread nD τ).loc main_arg2)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  rfl

end Cert.Proof.ReferenceIdeal

end
-- ==== Proof.ReferenceScales.lean ====
module

public import proofs.«01_k».proof.Proof.ReferenceQuant
public import Idealize.ShloMosaic.Lib.IdealHost

/-! The reference's groups, their least and greatest entries and the scales, at an index. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

/-- A channel of a head is read as it is. -/
theorem channels_apply (p : IVec S36x128 32) (h : ∀ i, (p i).toNat < 128) (a : Fin 36) (d : Fin 128) :
    channels p (ix3 a d (0 : Fin 1)) = p (ix2 a d) := by
  unfold channels
  pointwise
  have hn := h (ix2 a d)
  generalize p (ix2 a d) = v at hn ⊢
  have : IntOp.cmpi CmpIPredicate.slt v 0#32 = 0#1 := by
    have hi : v.toInt = v.toNat := BitVec.toInt_eq_toNat_of_lt (by omega)
    have hz : ¬ v.toInt < (0#32 : BitVec 32).toInt := by rw [hi]; simp
    simp only [IntOp.cmpi, BitVec.slt, decide_eq_false hz]; rfl
  rw [this]; rfl

theorem split3 {m n p : Nat} (y : (⟨3, ![m, n, p]⟩ : Shape).Idx) : ∃ (a : Fin m) (b : Fin n) (c : Fin p), y = ix3 a b c :=
  ⟨y 0, y 1, y 2, by funext a; fin_cases a <;> rfl⟩

theorem channels_lt (p : IVec S36x128 32) (h : ∀ i, (p i).toNat < 128) (i : S36x128x1.Idx) : (channels p i).toNat < 128 := by
  obtain ⟨a, d, z, rfl⟩ := split3 i
  obtain rfl : z = 0 := Subsingleton.elim _ _
  rw [channels_apply p h]
  exact h _

/-- Every channel below 128 lies in a head. -/
theorem inHead_apply (n : IVec S36x128x1 32) (h : ∀ i, (n i).toNat < 128) (i : S36x128x1.Idx) : inHead n i = 1#1 := by
  unfold inHead
  pointwise
  have hn := h i
  generalize n i = v at hn ⊢
  have hi : v.toInt = v.toNat := BitVec.toInt_eq_toNat_of_lt (by omega)
  have h0 : (0#32 : BitVec 32).toInt ≤ v.toInt := by rw [hi]; simp
  have h1 : v.toInt ≤ (127#32 : BitVec 32).toInt := by rw [hi]; show (v.toNat : Int) ≤ 127; omega
  simp only [IntOp.cmpi, BitVec.sle, decide_eq_true h0, decide_eq_true h1]; rfl

/-- The gather of channels read at an index. -/
theorem gather_channel (x : FVec Ideal S7x256x36x128 .bf16) (n : IVec S36x128x1 32) (y : S7x256x36x128.Idx) :
    Host.gather gather_S7x256x36x128_S36x128x1_S7x256x36x128_01_3_2_0_3_2_725611 x n y
      = x (ix4 (y 0) (y 1) (y 2) (⟨min (n (ix3 (y 2) (y 3) (0 : Fin 1))).toInt.toNat 127, by omega⟩ : Fin 128)) := by
  unfold Host.gather
  congr 1
  funext a
  refine Fin.ext ?_
  show GatherDims.start gather_S7x256x36x128_S36x128x1_S7x256x36x128_01_3_2_0_3_2_725611 y n a
    + GatherDims.batchCoord gather_S7x256x36x128_S36x128x1_S7x256x36x128_01_3_2_0_3_2_725611 y a
    + GatherDims.offCoord gather_S7x256x36x128_S36x128x1_S7x256x36x128_01_3_2_0_3_2_725611 y a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.batchCoord GatherDims.offCoord
    rw [dif_neg (by decide), dif_neg (by decide), dif_pos (by decide)]
    exact Nat.zero_add _
  · unfold GatherDims.start GatherDims.batchCoord GatherDims.offCoord
    rw [dif_neg (by decide), dif_neg (by decide), dif_pos (by decide)]
    exact Nat.zero_add _
  · unfold GatherDims.start GatherDims.batchCoord GatherDims.offCoord
    rw [dif_neg (by decide), dif_pos (by decide), dif_neg (by decide)]
    exact (Nat.add_zero _).trans (Nat.zero_add _)
  · unfold GatherDims.start GatherDims.batchCoord GatherDims.offCoord
    rw [dif_pos (by decide), dif_neg (by decide), dif_neg (by decide)]
    have hsi : GatherDims.siIdx gather_S7x256x36x128_S36x128x1_S7x256x36x128_01_3_2_0_3_2_725611 y ⟨0, by decide⟩
        = ix3 (y 2) (y 3) (0 : Fin 1) := by
      funext b; refine Fin.ext ?_
      match b with
      | ⟨0, _⟩ => rfl
      | ⟨1, _⟩ => rfl
      | ⟨2, _⟩ => rfl
    show min (n (GatherDims.siIdx gather_S7x256x36x128_S36x128x1_S7x256x36x128_01_3_2_0_3_2_725611 y ⟨0, by decide⟩)).toInt.toNat 127 + 0 + 0 = _
    rw [hsi]
    rfl

/-- The take along the channels, read at an index. -/
theorem permuted_apply (x : FVec Ideal S7x256x36x128 .bf16) (n : IVec S36x128x1 32) (h : ∀ i, (n i).toNat < 128) (y : S7x256x36x128.Idx) :
    permuted x n y = x (ix4 (y 0) (y 1) (y 2) (⟨(n (ix3 (y 2) (y 3) (0 : Fin 1))).toNat % 128, Nat.mod_lt _ (by decide)⟩ : Fin 128)) := by
  unfold permuted
  show Scalar.select (broadcastInDim S7x256x36x128 ![2, 3] bcast_S36x128_S7x256x36x128_2_3
      (Host.reduce IntOp.andi (inHead n) (constantI S_ 1 1#1) reducesTo_S36x128x1_S36x128_d2 h_S_) y)
    (Host.gather gather_S7x256x36x128_S36x128x1_S7x256x36x128_01_3_2_0_3_2_725611 x n y) _ = _
  have e : broadcastInDim S7x256x36x128 ![2, 3] bcast_S36x128_S7x256x36x128_2_3
      (Host.reduce IntOp.andi (inHead n) (constantI S_ 1 1#1) reducesTo_S36x128x1_S36x128_d2 h_S_) y = 1#1 :=
    Host.reduce_andi_one _ _ _ _ _ rfl (inHead_apply n h)
  rw [e, gather_channel]
  show x _ = x _
  have hn := h (ix3 (y 2) (y 3) (0 : Fin 1))
  have hi : (n (ix3 (y 2) (y 3) (0 : Fin 1))).toInt = (n (ix3 (y 2) (y 3) (0 : Fin 1))).toNat := BitVec.toInt_eq_toNat_of_lt (by omega)
  congr 2
  refine Fin.ext ?_
  show min _ 127 = _
  rw [hi, Int.toNat_natCast]
  show min _ 127 = _ % 128
  omega

/-- A group's entries. -/
theorem groups_apply (x : FVec Ideal S7x768x36x128 .bf16) (p : IVec S36x128 32) (h : ∀ i, (p i).toNat < 128)
    (b : Fin 7) (t : Fin 256) (a : Fin 36) (g : Fin 4) (q : Fin 32) :
    groups x p (ix5 b t a g q) = groupAt x p b t a g q := by
  have e : Shape.reshapeEquiv shapeCasts_S7x256x36x128_S7x256x36x4x32 (ix5 b t a g q : S7x256x36x4x32.Idx)
      = (ix4 b t a (⟨32 * g.val + q.val, by omega⟩ : Fin 128) : S7x256x36x128.Idx) := by
    pointwise
    exact congrArg (ix4 b t a) (Fin.ext (by show g.val * 32 + q.val = 32 * g.val + q.val; omega))
  unfold groups
  rw [Pointwise.shapeCast_apply, e]
  show permuted _ (channels p) (ix4 b t a (⟨32 * g.val + q.val, by omega⟩ : Fin 128) : S7x256x36x128.Idx) = _
  rw [permuted_apply _ _ (channels_lt p h)]
  unfold groupAt
  show extractStridedSlice S7x256x36x128 ![0, 0, 0, 0] x slices_S7x768x36x128_S7x256x36x128_0_0_0_0
    (ix4 b t a (⟨(channels p (ix3 a (⟨32 * g.val + q.val, by omega⟩ : Fin 128) (0 : Fin 1))).toNat % 128, Nat.mod_lt _ (by decide)⟩ : Fin 128)) = _
  rw [channels_apply p h]
  pointwise

theorem top_word : Ideal.ofBits .f32 0x7F800000#32 = ⊤ := by simp [Ideal.ofBits, Ideal.ieee]
theorem bot_word : Ideal.ofBits .f32 0xFF800000#32 = ⊥ := by simp [Ideal.ofBits, Ideal.ieee]

/-- The reduced axis's coordinate put back. -/
theorem lift_last (H : S7x256x36x4x32.Reduces [4] S7x256x36x4) (b : Fin 7) (t : Fin 256) (a : Fin 36) (g : Fin 4) (q : Fin 32) :
    H.lift (ix4 b t a g : S7x256x36x4.Idx) q = (ix5 b t a g q : S7x256x36x4x32.Idx) := by
  funext c
  refine Fin.ext ?_
  match c with
  | ⟨0, _⟩ => rfl
  | ⟨1, _⟩ => rfl
  | ⟨2, _⟩ => rfl
  | ⟨3, _⟩ => rfl
  | ⟨4, _⟩ => rfl

theorem least_apply (y : FVec Ideal S7x256x36x4x32 .f32) (b : Fin 7) (t : Fin 256) (a : Fin 36) (g : Fin 4) :
    Host.reduce FloatOps.minimumf y (constant S_ .f32 0x7F800000#32) reducesTo_S7x256x36x4x32_S7x256x36x4_d4 h_S_ (ix4 b t a g : S7x256x36x4.Idx)
      = Finset.univ.inf fun q : Fin 32 => y (ix5 b t a g q) := by
  have H : S7x256x36x4x32.Reduces [4] S7x256x36x4 := by decide
  rw [Host.reduce_eq_fold_single _ _ _ _ H]
  show (Finset.univ : Finset (Fin 32)).fold (fun u v : EReal => min u v) (Ideal.ofBits .f32 0x7F800000#32) (fun q => y (H.lift (ix4 b t a g : S7x256x36x4.Idx) q)) = _
  rw [top_word]
  exact congrArg (fun f : Fin 32 → EReal => (Finset.univ : Finset (Fin 32)).fold (fun u v : EReal => min u v) ⊤ f)
    (funext fun q => congrArg y (lift_last H b t a g q))

theorem greatest_apply (y : FVec Ideal S7x256x36x4x32 .f32) (b : Fin 7) (t : Fin 256) (a : Fin 36) (g : Fin 4) :
    Host.reduce FloatOps.maximumf y (constant S_ .f32 0xFF800000#32) reducesTo_S7x256x36x4x32_S7x256x36x4_d4 h_S_ (ix4 b t a g : S7x256x36x4.Idx)
      = Finset.univ.sup fun q : Fin 32 => y (ix5 b t a g q) := by
  have H : S7x256x36x4x32.Reduces [4] S7x256x36x4 := by decide
  rw [Host.reduce_eq_fold_single _ _ _ _ H]
  show (Finset.univ : Finset (Fin 32)).fold (fun u v : EReal => max u v) (Ideal.ofBits .f32 0xFF800000#32) (fun q => y (H.lift (ix4 b t a g : S7x256x36x4.Idx) q)) = _
  rw [bot_word]
  exact congrArg (fun f : Fin 32 → EReal => (Finset.univ : Finset (Fin 32)).fold (fun u v : EReal => max u v) ⊥ f)
    (funext fun q => congrArg y (lift_last H b t a g q))

theorem lows_apply (x : FVec Ideal S7x768x36x128 .bf16) (p : IVec S36x128 32) (k : FVec Ideal S36x4 .f32) (h : ∀ i, (p i).toNat < 128)
    (b : Fin 7) (t : Fin 256) (a : Fin 36) (g : Fin 4) :
    lows k (groups x p) (ix4 b t a g) = lowAt x p k b t a g := by
  have e : clips k (ix4 b t a g : S7x256x36x4.Idx) = k (ix2 a g) := by unfold clips; pointwise
  refine congrArg₂ (· * ·) e ((least_apply _ b t a g).trans ?_)
  exact congrArg (Finset.univ.inf) (funext fun q => groups_apply x p h b t a g q)

theorem highs_apply (x : FVec Ideal S7x768x36x128 .bf16) (p : IVec S36x128 32) (k : FVec Ideal S36x4 .f32) (h : ∀ i, (p i).toNat < 128)
    (b : Fin 7) (t : Fin 256) (a : Fin 36) (g : Fin 4) :
    highs k (groups x p) (ix4 b t a g) = highAt x p k b t a g := by
  have e : clips k (ix4 b t a g : S7x256x36x4.Idx) = k (ix2 a g) := by unfold clips; pointwise
  refine congrArg₂ (· * ·) e ((greatest_apply _ b t a g).trans ?_)
  exact congrArg (Finset.univ.sup) (funext fun q => groups_apply x p h b t a g q)

theorem steps_apply (lo hi : FVec Ideal S7x256x36x4 .f32) (i : S7x256x36x4.Idx) : steps lo hi i = stepOf (lo i) (hi i) := by
  unfold steps stepOf
  pointwise

/-- A kept token's word is 1. -/
theorem kept_bit (L : IVec S7 32) (h : ∀ b, 512 ≤ (L b).toNat ∧ (L b).toNat ≤ 768) (b : Fin 7) (a : Fin 36) (g : Fin 64) (t : Fin 256) :
    IntOp.cmpi .eq (keptWord L (ix4 b a g t)) 1#32 = if t.val + 512 < (L (ix1 b)).toNat then 1#1 else 0#1 := by
  have e : keptWord L (ix4 b a g t : S7x36x64x256.Idx) = BitVec.setWidth 32 (IntOp.cmpi .slt (BitVec.ofNat 32 t.val) (L (ix1 b) - 512#32)) := by
    unfold keptWord
    pointwise
    rfl
  rw [e, kept_iff _ t.isLt _ (h _).1 (h _).2]
  split <;> rfl

end Cert.Proof.ReferenceIdeal

end
-- ==== Proof.ReferenceOut.lean ====
module

public import proofs.«01_k».proof.Proof.ReferenceScales
public import Idealize.ShloMosaic.Lib.Pipeline.ValueKit

/-! The reference's four arrays of scales and zeros after the run. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

theorem split4 {m n p q : Nat} (y : (⟨4, ![m, n, p, q]⟩ : Shape).Idx) : ∃ (a : Fin m) (b : Fin n) (c : Fin p) (d : Fin q), y = ix4 a b c d :=
  ⟨y 0, y 1, y 2, y 3, by funext a; fin_cases a <;> rfl⟩

/-- The transpose puts the tokens last. -/
theorem tokensLast_apply (z : FVec Ideal S7x256x36x4 .f32) (b : Fin 7) (a : Fin 36) (g : Fin 4) (t : Fin 256) :
    tokensLast z (ix4 b a g t) = z (ix4 b t a g) := by
  unfold tokensLast
  pointwise

/-- A value is kept where its token is. -/
theorem kept_value (L : IVec S7 32) (h : ∀ b, 512 ≤ (L b).toNat ∧ (L b).toNat ≤ 768) (v : FVec Ideal S7x36x4x256 .f32)
    (b : Fin 7) (a : Fin 36) (g : Fin 4) (t : Fin 256) :
    k0_pay10 (F := Ideal) (k0_pay3 (F := Ideal) (keptWord L)) v (ix4 b a g t)
      = if t.val + 512 < (L (ix1 b)).toNat then v (ix4 b a g t) else 0 := by
  unfold k0_pay10 k0_pay9 k0_pay3
  pointwise
  refine (congrArg (fun q => Scalar.select q (v (ix4 b a g t)) (0 : EReal)) (kept_bit L h b a ⟨g.val, by omega⟩ t)).trans ?_
  by_cases hk : t.val + 512 < (L (ix1 b)).toNat
  · rw [if_pos hk, if_pos hk]; rfl
  · rw [if_neg hk, if_neg hk]; rfl

/-- The kept zeros. -/
theorem kept_low (x : FVec Ideal S7x768x36x128 .bf16) (p : IVec S36x128 32) (k : FVec Ideal S36x4 .f32) (L : IVec S7 32)
    (h : ∀ b, 512 ≤ (L b).toNat ∧ (L b).toNat ≤ 768) (hp : ∀ i, (p i).toNat < 128) :
    k0_pay10 (F := Ideal) (k0_pay3 (F := Ideal) (keptWord L)) (tokensLast (lows k (groups x p))) = zeroArr x p k L := by
  funext i
  obtain ⟨b, a, g, t, rfl⟩ := split4 i
  rw [kept_value L h, tokensLast_apply, lows_apply x p k hp]
  rfl

/-- The kept scales. -/
theorem kept_step (x : FVec Ideal S7x768x36x128 .bf16) (p : IVec S36x128 32) (k : FVec Ideal S36x4 .f32) (L : IVec S7 32)
    (h : ∀ b, 512 ≤ (L b).toNat ∧ (L b).toNat ≤ 768) (hp : ∀ i, (p i).toNat < 128) :
    k0_pay10 (F := Ideal) (k0_pay3 (F := Ideal) (keptWord L)) (tokensLast (steps (lows k (groups x p)) (highs k (groups x p)))) = scaleArr x p k L := by
  funext i
  obtain ⟨b, a, g, t, rfl⟩ := split4 i
  rw [kept_value L h, tokensLast_apply, steps_apply, lows_apply x p k hp, highs_apply x p k hp]
  rfl

variable (m : (ℓ : Loc nD τ sig) → Buf (Elt Ideal) ℓ)

/-! A staged operand is its array: one point, the whole array. -/

theorem blk_2 (c : Dev nD) : (iblk m c 2 ⟨0, by decide⟩ : S7x36x4x256.Idx → EReal) = V m c main_v43 := by
  funext (y : S7x36x4x256.Idx)
  refine congrArg (V m c main_v43) ?_
  funext (a : Fin 4)
  exact Fin.ext (Pipeline.Window.rect_emb_val_of_index_zero (cfg0.win 2) ⟨0, by decide⟩ a rfl y)

theorem blk_3 (c : Dev nD) : (iblk m c 3 ⟨0, by decide⟩ : S7x36x4x256.Idx → EReal) = V m c main_v44 := by
  funext (y : S7x36x4x256.Idx)
  refine congrArg (V m c main_v44) ?_
  funext (a : Fin 4)
  exact Fin.ext (Pipeline.Window.rect_emb_val_of_index_zero (cfg0.win 3) ⟨0, by decide⟩ a rfl y)

theorem blk_8 (c : Dev nD) : (iblk m c 8 ⟨0, by decide⟩ : S7x36x4x256.Idx → EReal) = V m c main_v78 := by
  funext (y : S7x36x4x256.Idx)
  refine congrArg (V m c main_v78) ?_
  funext (a : Fin 4)
  exact Fin.ext (Pipeline.Window.rect_emb_val_of_index_zero (cfg0.win 8) ⟨0, by decide⟩ a rfl y)

theorem blk_9 (c : Dev nD) : (iblk m c 9 ⟨0, by decide⟩ : S7x36x4x256.Idx → EReal) = V m c main_v79 := by
  funext (y : S7x36x4x256.Idx)
  refine congrArg (V m c main_v79) ?_
  funext (a : Fin 4)
  exact Fin.ext (Pipeline.Window.rect_emb_val_of_index_zero (cfg0.win 9) ⟨0, by decide⟩ a rfl y)

theorem blk_12 (c : Dev nD) : (iblk m c 12 ⟨0, by decide⟩ : S7x36x64x256.Idx → BitVec 32) = V m c main_v10 := by
  funext (y : S7x36x64x256.Idx)
  refine congrArg (V m c main_v10) ?_
  funext (a : Fin 4)
  exact Fin.ext (Pipeline.Window.rect_emb_val_of_index_zero (cfg0.win 12) ⟨0, by decide⟩ a rfl y)

/-- The words of the kept tokens, loaded whole and compared. -/
theorem kept_ld (c : Dev nD) : k0_pay3 (F := Ideal) (View.ld (iblk m c 12 ⟨0, by decide⟩ : Vec Ideal S7x36x64x256 .i32) r0_0)
    = k0_pay3 (F := Ideal) (keptWord (m ((c.tc : Thread nD τ).loc main_arg2))) := by
  refine congrArg (k0_pay3 (F := Ideal)) ?_
  refine (View.ld_unit_lit (S := S7x36x64x256) (e := .i32) (off := ![0, 0, 0, 0]) _ _ (by decide)).trans ?_
  exact (blk_12 m c).trans (V_kept m c)

/-- Loaded whole. -/
theorem ld_low_k (c : Dev nD) : View.ld (iblk m c 2 ⟨0, by decide⟩ : Vec Ideal S7x36x4x256 .f32) r0_1
    = tokensLast (lows (m ((c.tc : Thread nD τ).loc main_arg5)) (groups (m ((c.tc : Thread nD τ).loc main_arg0)) (m ((c.tc : Thread nD τ).loc main_arg3)))) := by
  refine (View.ld_unit_lit (S := S7x36x4x256) (e := .f32) (off := ![0, 0, 0, 0]) _ _ (by decide)).trans ?_
  exact (blk_2 m c).trans (V_low_k m c)

theorem ld_step_k (c : Dev nD) : View.ld (iblk m c 3 ⟨0, by decide⟩ : Vec Ideal S7x36x4x256 .f32) r0_1
    = tokensLast (steps (lows (m ((c.tc : Thread nD τ).loc main_arg5)) (groups (m ((c.tc : Thread nD τ).loc main_arg0)) (m ((c.tc : Thread nD τ).loc main_arg3))))
        (highs (m ((c.tc : Thread nD τ).loc main_arg5)) (groups (m ((c.tc : Thread nD τ).loc main_arg0)) (m ((c.tc : Thread nD τ).loc main_arg3))))) := by
  refine (View.ld_unit_lit (S := S7x36x4x256) (e := .f32) (off := ![0, 0, 0, 0]) _ _ (by decide)).trans ?_
  exact (blk_3 m c).trans (V_step_k m c)

theorem ld_low_v (c : Dev nD) : View.ld (iblk m c 8 ⟨0, by decide⟩ : Vec Ideal S7x36x4x256 .f32) r0_1
    = tokensLast (lows (m ((c.tc : Thread nD τ).loc main_arg6)) (groups (m ((c.tc : Thread nD τ).loc main_arg1)) (m ((c.tc : Thread nD τ).loc main_arg4)))) := by
  refine (View.ld_unit_lit (S := S7x36x4x256) (e := .f32) (off := ![0, 0, 0, 0]) _ _ (by decide)).trans ?_
  exact (blk_8 m c).trans (V_low_v m c)

theorem ld_step_v (c : Dev nD) : View.ld (iblk m c 9 ⟨0, by decide⟩ : Vec Ideal S7x36x4x256 .f32) r0_1
    = tokensLast (steps (lows (m ((c.tc : Thread nD τ).loc main_arg6)) (groups (m ((c.tc : Thread nD τ).loc main_arg1)) (m ((c.tc : Thread nD τ).loc main_arg4))))
        (highs (m ((c.tc : Thread nD τ).loc main_arg6)) (groups (m ((c.tc : Thread nD τ).loc main_arg1)) (m ((c.tc : Thread nD τ).loc main_arg4))))) := by
  refine (View.ld_unit_lit (S := S7x36x4x256) (e := .f32) (off := ![0, 0, 0, 0]) _ _ (by decide)).trans ?_
  exact (blk_9 m c).trans (V_step_v m c)

/-- The lengths are in range. -/
abbrev LenOk (c : Dev nD) : Prop := ∀ b : S7.Idx, 512 ≤ ((m ((c.tc : Thread nD τ).loc main_arg2) : S7.Idx → BitVec 32) b).toNat
  ∧ ((m ((c.tc : Thread nD τ).loc main_arg2) : S7.Idx → BitVec 32) b).toNat ≤ 768

theorem arr14 (c : Dev nD) (h : LenOk m c) (hp : ∀ i, ((m ((c.tc : Thread nD τ).loc main_arg3) : S36x128.Idx → BitVec 32) i).toNat < 128) :
    (dats m 0 c).arrAt 14 cfg0.N = scaleArr (m ((c.tc : Thread nD τ).loc main_arg0)) (m ((c.tc : Thread nD τ).loc main_arg3)) (m ((c.tc : Thread nD τ).loc main_arg5)) (m ((c.tc : Thread nD τ).loc main_arg2)) := by
  refine (dats m 0 c).arrAt_eq_of_after_last 14 ⟨0, by decide⟩ (by decide +kernel) _ ?_
  intro j
  rw [after0_14]
  unfold out0_14
  refine (congrFun ((View.canon_cons_unit_lit (Val := Elt Ideal) (S := S7x36x4x256) (e := .fp8e4m3) (off := ![0, 0, 0, 0]) _ _ _ (by decide)).trans ?_) j : _)
  refine (congrArg₂ (k0_pay10 (F := Ideal)) (kept_ld m c) (ld_step_k m c)).trans ?_
  exact kept_step _ _ _ _ h hp

theorem arr15 (c : Dev nD) (h : LenOk m c) (hp : ∀ i, ((m ((c.tc : Thread nD τ).loc main_arg3) : S36x128.Idx → BitVec 32) i).toNat < 128) :
    (dats m 0 c).arrAt 15 cfg0.N = zeroArr (m ((c.tc : Thread nD τ).loc main_arg0)) (m ((c.tc : Thread nD τ).loc main_arg3)) (m ((c.tc : Thread nD τ).loc main_arg5)) (m ((c.tc : Thread nD τ).loc main_arg2)) := by
  refine (dats m 0 c).arrAt_eq_of_after_last 15 ⟨0, by decide⟩ (by decide +kernel) _ ?_
  intro j
  rw [after0_15]
  unfold out0_15
  refine (congrFun ((View.canon_cons_unit_lit (Val := Elt Ideal) (S := S7x36x4x256) (e := .fp8e4m3) (off := ![0, 0, 0, 0]) _ _ _ (by decide)).trans ?_) j : _)
  refine (congrArg₂ (k0_pay10 (F := Ideal)) (kept_ld m c) (ld_low_k m c)).trans ?_
  exact kept_low _ _ _ _ h hp

theorem arr17 (c : Dev nD) (h : LenOk m c) (hp : ∀ i, ((m ((c.tc : Thread nD τ).loc main_arg4) : S36x128.Idx → BitVec 32) i).toNat < 128) :
    (dats m 0 c).arrAt 17 cfg0.N = scaleArr (m ((c.tc : Thread nD τ).loc main_arg1)) (m ((c.tc : Thread nD τ).loc main_arg4)) (m ((c.tc : Thread nD τ).loc main_arg6)) (m ((c.tc : Thread nD τ).loc main_arg2)) := by
  refine (dats m 0 c).arrAt_eq_of_after_last 17 ⟨0, by decide⟩ (by decide +kernel) _ ?_
  intro j
  rw [after0_17]
  unfold out0_17
  refine (congrFun ((View.canon_cons_unit_lit (Val := Elt Ideal) (S := S7x36x4x256) (e := .fp8e4m3) (off := ![0, 0, 0, 0]) _ _ _ (by decide)).trans ?_) j : _)
  refine (congrArg₂ (k0_pay10 (F := Ideal)) (kept_ld m c) (ld_step_v m c)).trans ?_
  exact kept_step _ _ _ _ h hp

theorem arr18 (c : Dev nD) (h : LenOk m c) (hp : ∀ i, ((m ((c.tc : Thread nD τ).loc main_arg4) : S36x128.Idx → BitVec 32) i).toNat < 128) :
    (dats m 0 c).arrAt 18 cfg0.N = zeroArr (m ((c.tc : Thread nD τ).loc main_arg1)) (m ((c.tc : Thread nD τ).loc main_arg4)) (m ((c.tc : Thread nD τ).loc main_arg6)) (m ((c.tc : Thread nD τ).loc main_arg2)) := by
  refine (dats m 0 c).arrAt_eq_of_after_last 18 ⟨0, by decide⟩ (by decide +kernel) _ ?_
  intro j
  rw [after0_18]
  unfold out0_18
  refine (congrFun ((View.canon_cons_unit_lit (Val := Elt Ideal) (S := S7x36x4x256) (e := .fp8e4m3) (off := ![0, 0, 0, 0]) _ _ _ (by decide)).trans ?_) j : _)
  refine (congrArg₂ (k0_pay10 (F := Ideal)) (kept_ld m c) (ld_low_v m c)).trans ?_
  exact kept_low _ _ _ _ h hp

variable (ρ : Dev nD → PrngReg)

/-- The reference's run, with the contents of its scales and zeros named. -/
theorem run_scales (h : ∀ c, LenOk m c) (hk : ∀ (c : Dev nD) i, ((m ((c.tc : Thread nD τ).loc main_arg3) : S36x128.Idx → BitVec 32) i).toNat < 128)
    (hv : ∀ (c : Dev nD) i, ((m ((c.tc : Thread nD τ).loc main_arg4) : S36x128.Idx → BitVec 32) i).toNat < 128) :
    θ_run defs (onTc (τ := τ) (main (F := Ideal))) ⟨m, fun _ => 0, ρ⟩ (fun r => ∀ c : Dev nD,
      r.2.mem ((c.tc : Thread nD τ).loc main_v92_1) = scaleArr (m ((c.tc : Thread nD τ).loc main_arg0)) (m ((c.tc : Thread nD τ).loc main_arg3)) (m ((c.tc : Thread nD τ).loc main_arg5)) (m ((c.tc : Thread nD τ).loc main_arg2))
      ∧ r.2.mem ((c.tc : Thread nD τ).loc main_v92_2) = zeroArr (m ((c.tc : Thread nD τ).loc main_arg0)) (m ((c.tc : Thread nD τ).loc main_arg3)) (m ((c.tc : Thread nD τ).loc main_arg5)) (m ((c.tc : Thread nD τ).loc main_arg2))
      ∧ r.2.mem ((c.tc : Thread nD τ).loc main_v92_4) = scaleArr (m ((c.tc : Thread nD τ).loc main_arg1)) (m ((c.tc : Thread nD τ).loc main_arg4)) (m ((c.tc : Thread nD τ).loc main_arg6)) (m ((c.tc : Thread nD τ).loc main_arg2))
      ∧ r.2.mem ((c.tc : Thread nD τ).loc main_v92_5) = zeroArr (m ((c.tc : Thread nD τ).loc main_arg1)) (m ((c.tc : Thread nD τ).loc main_arg4)) (m ((c.tc : Thread nD τ).loc main_arg6)) (m ((c.tc : Thread nD τ).loc main_arg2))) :=
  (θ_run defs _ _).mono (fun r hr c =>
    ⟨((hr c).1 14).trans (arr14 m c (h c) (hk c)), ((hr c).1 15).trans (arr15 m c (h c) (hk c)),
     ((hr c).1 17).trans (arr17 m c (h c) (hv c)), ((hr c).1 18).trans (arr18 m c (h c) (hv c))⟩)
    (run_main m ρ)

end Cert.Proof.ReferenceIdeal

end
-- ==== Proof.ReferenceCodes.lean ====
module

public import proofs.«01_k».proof.Proof.ReferenceOut
public import proofs.«01_k».proof.Proof.CodeSpec

/-! The reference's codes, read at an index. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

/-- The first 256 tokens, their channels permuted and in pairs. -/
def pairs (x : FVec Ideal S7x768x36x128 .bf16) (p : IVec S36x128 32) : FVec Ideal S7x256x36x64x2 .f32 :=
  shapeCast S7x256x36x64x2
    (extf .f32 (permuted (extractStridedSlice S7x256x36x128 ![0, 0, 0, 0] x slices_S7x768x36x128_S7x256x36x128_0_0_0_0) (channels p)) bitsLt_bf16_f32)
    shapeCasts_S7x256x36x128_S7x256x36x64x2

/-- The first of each pair, tokens last. -/
def evens (y : FVec Ideal S7x256x36x64x2 .f32) : FVec Ideal S7x36x64x256 .f32 :=
  transpose S7x36x64x256 [0, 2, 3, 1]
    (shapeCast S7x256x36x64 (extractStridedSlice S7x256x36x64x1 ![0, 0, 0, 0, 0] y slices_S7x256x36x64x2_S7x256x36x64x1_0_0_0_0_0) shapeCasts_S7x256x36x64x1_S7x256x36x64)
    transposes_S7x256x36x64_S7x36x64x256_0_2_3_1

/-- The second of each pair, tokens last. -/
def odds (y : FVec Ideal S7x256x36x64x2 .f32) : FVec Ideal S7x36x64x256 .f32 :=
  transpose S7x36x64x256 [0, 2, 3, 1]
    (shapeCast S7x256x36x64 (extractStridedSlice S7x256x36x64x1 ![0, 0, 0, 0, 1] y slices_S7x256x36x64x2_S7x256x36x64x1_0_0_0_0_1) shapeCasts_S7x256x36x64x1_S7x256x36x64)
    transposes_S7x256x36x64_S7x36x64x256_0_2_3_1

/-- A group's value at each of its pairs. -/
def rep (z : FVec Ideal S7x36x4x256 .f32) : FVec Ideal S7x36x64x256 .f32 :=
  shapeCast S7x36x64x256
    (broadcastInDim S7x36x4x16x256 ![0, 1, 2, 3, 4] bcast_S7x36x4x1x256_S7x36x4x16x256_0_1_2_3_4
      (broadcastInDim S7x36x4x1x256 ![0, 1, 2, 4] bcast_S7x36x4x256_S7x36x4x1x256_0_1_2_4 z))
    shapeCasts_S7x36x4x16x256_S7x36x64x256

theorem rep_apply (z : FVec Ideal S7x36x4x256 .f32) (b : Fin 7) (a : Fin 36) (q : Fin 64) (t : Fin 256) :
    rep z (ix4 b a q t) = z (ix4 b a (⟨q.val / 16, by omega⟩ : Fin 4) t) := by
  have e : Shape.reshapeEquiv shapeCasts_S7x36x4x16x256_S7x36x64x256 (ix4 b a q t : S7x36x64x256.Idx)
      = (ix5 b a (⟨q.val / 16, by omega⟩ : Fin 4) (⟨q.val % 16, Nat.mod_lt _ (by decide)⟩ : Fin 16) t : S7x36x4x16x256.Idx) := by
    pointwise
  unfold rep
  rw [Pointwise.shapeCast_apply, e]
  pointwise

/-- An entry of a pair is its group's. -/
theorem pairs_apply (x : FVec Ideal S7x768x36x128 .bf16) (p : IVec S36x128 32) (h : ∀ i, (p i).toNat < 128)
    (b : Fin 7) (t : Fin 256) (a : Fin 36) (q : Fin 64) (r : Fin 2) :
    pairs x p (ix5 b t a q r) = groupAt x p b t a ⟨q.val / 16, by omega⟩ ⟨2 * (q.val % 16) + r.val, by omega⟩ := by
  have e : Shape.reshapeEquiv shapeCasts_S7x256x36x128_S7x256x36x64x2 (ix5 b t a q r : S7x256x36x64x2.Idx)
      = (ix4 b t a (⟨32 * (q.val / 16) + (2 * (q.val % 16) + r.val), by omega⟩ : Fin 128) : S7x256x36x128.Idx) := by
    pointwise
    exact congrArg (ix4 b t a) (Fin.ext (by show q.val * 2 + r.val = 32 * (q.val / 16) + (2 * (q.val % 16) + r.val); omega))
  unfold pairs
  rw [Pointwise.shapeCast_apply, e]
  show permuted _ (channels p) (ix4 b t a (⟨32 * (q.val / 16) + (2 * (q.val % 16) + r.val), by omega⟩ : Fin 128) : S7x256x36x128.Idx) = _
  rw [permuted_apply _ _ (channels_lt p h)]
  unfold groupAt
  show extractStridedSlice S7x256x36x128 ![0, 0, 0, 0] x slices_S7x768x36x128_S7x256x36x128_0_0_0_0
    (ix4 b t a (⟨(channels p (ix3 a (⟨32 * (q.val / 16) + (2 * (q.val % 16) + r.val), by omega⟩ : Fin 128) (0 : Fin 1))).toNat % 128, Nat.mod_lt _ (by decide)⟩ : Fin 128)) = _
  rw [channels_apply p h]
  pointwise

theorem evens_apply (y : FVec Ideal S7x256x36x64x2 .f32) (b : Fin 7) (a : Fin 36) (q : Fin 64) (t : Fin 256) :
    evens y (ix4 b a q t) = y (ix5 b t a q (0 : Fin 2)) := by
  have e : Shape.reshapeEquiv shapeCasts_S7x256x36x64x1_S7x256x36x64 (ix4 b t a q : S7x256x36x64.Idx)
      = (ix5 b t a q (0 : Fin 1) : S7x256x36x64x1.Idx) := by
    pointwise
  unfold evens
  have e' : ∀ z : FVec Ideal S7x256x36x64 .f32, transpose S7x36x64x256 [0, 2, 3, 1] z transposes_S7x256x36x64_S7x36x64x256_0_2_3_1 (ix4 b a q t) = z (ix4 b t a q) := fun z => by pointwise
  rw [e', Pointwise.shapeCast_apply, e]
  pointwise

theorem odds_apply (y : FVec Ideal S7x256x36x64x2 .f32) (b : Fin 7) (a : Fin 36) (q : Fin 64) (t : Fin 256) :
    odds y (ix4 b a q t) = y (ix5 b t a q (1 : Fin 2)) := by
  have e : Shape.reshapeEquiv shapeCasts_S7x256x36x64x1_S7x256x36x64 (ix4 b t a q : S7x256x36x64.Idx)
      = (ix5 b t a q (0 : Fin 1) : S7x256x36x64x1.Idx) := by
    pointwise
  unfold odds
  have e' : ∀ z : FVec Ideal S7x256x36x64 .f32, transpose S7x36x64x256 [0, 2, 3, 1] z transposes_S7x256x36x64_S7x36x64x256_0_2_3_1 (ix4 b a q t) = z (ix4 b t a q) := fun z => by pointwise
  rw [e', Pointwise.shapeCast_apply, e]
  pointwise

/-- A code. -/
theorem code_even (z s y : FVec Ideal S7x36x64x256 .f32) (i : S7x36x64x256.Idx) : k0_pay6 (F := Ideal) z s y i = qOf (y i) (z i) (s i) := by
  obtain ⟨b, a, q, t, rfl⟩ := split4 i
  unfold k0_pay6 k0_pay4 k0_pay5 qOf
  pointwise
  rfl

/-- A code, shifted to its place in the byte. -/
theorem code_odd (z s y : FVec Ideal S7x36x64x256 .f32) (i : S7x36x64x256.Idx) : k0_pay7 (F := Ideal) z s y i = qOf (y i) (z i) (s i) <<< 4 := by
  obtain ⟨b, a, q, t, rfl⟩ := split4 i
  unfold k0_pay7 k0_pay4 k0_pay5 qOf
  pointwise
  rfl

/-- The kept codes. -/
theorem kept_code (x : FVec Ideal S7x768x36x128 .bf16) (p : IVec S36x128 32) (k : FVec Ideal S36x4 .f32) (L : IVec S7 32)
    (h : ∀ b, 512 ≤ (L b).toNat ∧ (L b).toNat ≤ 768) (hp : ∀ i, (p i).toNat < 128) :
    k0_pay8 (k0_pay3 (F := Ideal) (keptWord L))
        (k0_pay6 (F := Ideal) (rep (tokensLast (lows k (groups x p)))) (rep (tokensLast (steps (lows k (groups x p)) (highs k (groups x p))))) (evens (pairs x p)))
        (k0_pay7 (F := Ideal) (rep (tokensLast (lows k (groups x p)))) (rep (tokensLast (steps (lows k (groups x p)) (highs k (groups x p))))) (odds (pairs x p)))
      = codeArr x p k L := by
  funext i
  obtain ⟨b, a, q, t, rfl⟩ := split4 i
  have hz : rep (tokensLast (lows k (groups x p))) (ix4 b a q t) = lowAt x p k b t a ⟨q.val / 16, by omega⟩ :=
    (rep_apply _ b a q t).trans ((tokensLast_apply _ b a _ t).trans (lows_apply x p k hp b t a _))
  have hs : rep (tokensLast (steps (lows k (groups x p)) (highs k (groups x p)))) (ix4 b a q t)
      = stepOf (lowAt x p k b t a ⟨q.val / 16, by omega⟩) (highAt x p k b t a ⟨q.val / 16, by omega⟩) := by
    rw [rep_apply, tokensLast_apply, steps_apply, lows_apply x p k hp, highs_apply x p k hp]
  have he := code_even (rep (tokensLast (lows k (groups x p)))) (rep (tokensLast (steps (lows k (groups x p)) (highs k (groups x p))))) (evens (pairs x p)) (ix4 b a q t)
  have ho := code_odd (rep (tokensLast (lows k (groups x p)))) (rep (tokensLast (steps (lows k (groups x p)) (highs k (groups x p))))) (odds (pairs x p)) (ix4 b a q t)
  rw [hz, hs, evens_apply, pairs_apply x p hp] at he
  rw [hz, hs, odds_apply, pairs_apply x p hp] at ho
  have hk : k0_pay3 (F := Ideal) (keptWord L) (ix4 b a q t) = if t.val + 512 < (L (ix1 b)).toNat then 1#1 else 0#1 := by
    refine Eq.trans ?_ (kept_bit L h b a q t)
    unfold k0_pay3
    pointwise
  unfold k0_pay8
  show (Scalar.select (k0_pay3 (F := Ideal) (keptWord L) (ix4 b a q t)) (IntOp.ori (k0_pay6 (F := Ideal) _ _ _ (ix4 b a q t)) (k0_pay7 (F := Ideal) _ _ _ (ix4 b a q t))) 0#32).setWidth 8 = _
  rw [he, ho, hk]
  show _ = if t.val + 512 < (L (ix1 b)).toNat then pairAt x p k b t a q else 0
  split <;> rfl

end Cert.Proof.ReferenceIdeal

end
-- ==== Proof.ReferencePairsK.lean ====
module

public import proofs.«01_k».proof.Proof.ReferenceCodes

/-! What the reference's last step takes for the codes of the keys. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ)

set_option maxHeartbeats 8000000 in
theorem V_even_pair_k (c : Dev nD) : V m c main_v47 = evens (pairs (m ((c.tc : Thread nD τ).loc main_arg0)) (m ((c.tc : Thread nD τ).loc main_arg3))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_odd_pair_k (c : Dev nD) : V m c main_v50 = odds (pairs (m ((c.tc : Thread nD τ).loc main_arg0)) (m ((c.tc : Thread nD τ).loc main_arg3))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_low_pair_k (c : Dev nD) : V m c main_v53 = rep (tokensLast (lows (m ((c.tc : Thread nD τ).loc main_arg5)) (groups (m ((c.tc : Thread nD τ).loc main_arg0)) (m ((c.tc : Thread nD τ).loc main_arg3))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_step_pair_k (c : Dev nD) : V m c main_v56 = rep (tokensLast (steps (lows (m ((c.tc : Thread nD τ).loc main_arg5)) (groups (m ((c.tc : Thread nD τ).loc main_arg0)) (m ((c.tc : Thread nD τ).loc main_arg3)))) (highs (m ((c.tc : Thread nD τ).loc main_arg5)) (groups (m ((c.tc : Thread nD τ).loc main_arg0)) (m ((c.tc : Thread nD τ).loc main_arg3)))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

theorem ld_even_pair_k (c : Dev nD) : View.ld (iblk m c 0 ⟨0, by decide⟩ : Vec Ideal S7x36x64x256 .f32) r0_0 = evens (pairs (m ((c.tc : Thread nD τ).loc main_arg0)) (m ((c.tc : Thread nD τ).loc main_arg3))) := by
  refine (View.ld_unit_lit (S := S7x36x64x256) (e := .f32) (off := ![0, 0, 0, 0]) _ _ (by decide)).trans (Eq.trans ?_ (V_even_pair_k m c))
  funext (y : S7x36x64x256.Idx)
  refine congrArg (V m c main_v47) ?_
  funext (a : Fin 4)
  exact Fin.ext (Pipeline.Window.rect_emb_val_of_index_zero (cfg0.win 0) ⟨0, by decide⟩ a rfl y)

theorem ld_odd_pair_k (c : Dev nD) : View.ld (iblk m c 1 ⟨0, by decide⟩ : Vec Ideal S7x36x64x256 .f32) r0_0 = odds (pairs (m ((c.tc : Thread nD τ).loc main_arg0)) (m ((c.tc : Thread nD τ).loc main_arg3))) := by
  refine (View.ld_unit_lit (S := S7x36x64x256) (e := .f32) (off := ![0, 0, 0, 0]) _ _ (by decide)).trans (Eq.trans ?_ (V_odd_pair_k m c))
  funext (y : S7x36x64x256.Idx)
  refine congrArg (V m c main_v50) ?_
  funext (a : Fin 4)
  exact Fin.ext (Pipeline.Window.rect_emb_val_of_index_zero (cfg0.win 1) ⟨0, by decide⟩ a rfl y)

theorem ld_low_pair_k (c : Dev nD) : View.ld (iblk m c 4 ⟨0, by decide⟩ : Vec Ideal S7x36x64x256 .f32) r0_0 = rep (tokensLast (lows (m ((c.tc : Thread nD τ).loc main_arg5)) (groups (m ((c.tc : Thread nD τ).loc main_arg0)) (m ((c.tc : Thread nD τ).loc main_arg3))))) := by
  refine (View.ld_unit_lit (S := S7x36x64x256) (e := .f32) (off := ![0, 0, 0, 0]) _ _ (by decide)).trans (Eq.trans ?_ (V_low_pair_k m c))
  funext (y : S7x36x64x256.Idx)
  refine congrArg (V m c main_v53) ?_
  funext (a : Fin 4)
  exact Fin.ext (Pipeline.Window.rect_emb_val_of_index_zero (cfg0.win 4) ⟨0, by decide⟩ a rfl y)

theorem ld_step_pair_k (c : Dev nD) : View.ld (iblk m c 5 ⟨0, by decide⟩ : Vec Ideal S7x36x64x256 .f32) r0_0 = rep (tokensLast (steps (lows (m ((c.tc : Thread nD τ).loc main_arg5)) (groups (m ((c.tc : Thread nD τ).loc main_arg0)) (m ((c.tc : Thread nD τ).loc main_arg3)))) (highs (m ((c.tc : Thread nD τ).loc main_arg5)) (groups (m ((c.tc : Thread nD τ).loc main_arg0)) (m ((c.tc : Thread nD τ).loc main_arg3)))))) := by
  refine (View.ld_unit_lit (S := S7x36x64x256) (e := .f32) (off := ![0, 0, 0, 0]) _ _ (by decide)).trans (Eq.trans ?_ (V_step_pair_k m c))
  funext (y : S7x36x64x256.Idx)
  refine congrArg (V m c main_v56) ?_
  funext (a : Fin 4)
  exact Fin.ext (Pipeline.Window.rect_emb_val_of_index_zero (cfg0.win 5) ⟨0, by decide⟩ a rfl y)

end Cert.Proof.ReferenceIdeal

end
-- ==== Proof.ReferencePairsV.lean ====
module

public import proofs.«01_k».proof.Proof.ReferenceCodes

/-! What the reference's last step takes for the codes of the values. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ)

set_option maxHeartbeats 8000000 in
theorem V_even_pair_v (c : Dev nD) : V m c main_v82 = evens (pairs (m ((c.tc : Thread nD τ).loc main_arg1)) (m ((c.tc : Thread nD τ).loc main_arg4))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_odd_pair_v (c : Dev nD) : V m c main_v85 = odds (pairs (m ((c.tc : Thread nD τ).loc main_arg1)) (m ((c.tc : Thread nD τ).loc main_arg4))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_low_pair_v (c : Dev nD) : V m c main_v88 = rep (tokensLast (lows (m ((c.tc : Thread nD τ).loc main_arg6)) (groups (m ((c.tc : Thread nD τ).loc main_arg1)) (m ((c.tc : Thread nD τ).loc main_arg4))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

set_option maxHeartbeats 8000000 in
theorem V_step_pair_v (c : Dev nD) : V m c main_v91 = rep (tokensLast (steps (lows (m ((c.tc : Thread nD τ).loc main_arg6)) (groups (m ((c.tc : Thread nD τ).loc main_arg1)) (m ((c.tc : Thread nD τ).loc main_arg4)))) (highs (m ((c.tc : Thread nD τ).loc main_arg6)) (groups (m ((c.tc : Thread nD τ).loc main_arg1)) (m ((c.tc : Thread nD τ).loc main_arg4)))))) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, List.cons_append, List.nil_append]
  entry_read
  simp only [StableHlo.TRef.ofBuf_toBuf, StableHlo.TRef.toBuf, StableHlo.TRef.ofBuf, cast_eq]
  rfl

theorem ld_even_pair_v (c : Dev nD) : View.ld (iblk m c 6 ⟨0, by decide⟩ : Vec Ideal S7x36x64x256 .f32) r0_0 = evens (pairs (m ((c.tc : Thread nD τ).loc main_arg1)) (m ((c.tc : Thread nD τ).loc main_arg4))) := by
  refine (View.ld_unit_lit (S := S7x36x64x256) (e := .f32) (off := ![0, 0, 0, 0]) _ _ (by decide)).trans (Eq.trans ?_ (V_even_pair_v m c))
  funext (y : S7x36x64x256.Idx)
  refine congrArg (V m c main_v82) ?_
  funext (a : Fin 4)
  exact Fin.ext (Pipeline.Window.rect_emb_val_of_index_zero (cfg0.win 6) ⟨0, by decide⟩ a rfl y)

theorem ld_odd_pair_v (c : Dev nD) : View.ld (iblk m c 7 ⟨0, by decide⟩ : Vec Ideal S7x36x64x256 .f32) r0_0 = odds (pairs (m ((c.tc : Thread nD τ).loc main_arg1)) (m ((c.tc : Thread nD τ).loc main_arg4))) := by
  refine (View.ld_unit_lit (S := S7x36x64x256) (e := .f32) (off := ![0, 0, 0, 0]) _ _ (by decide)).trans (Eq.trans ?_ (V_odd_pair_v m c))
  funext (y : S7x36x64x256.Idx)
  refine congrArg (V m c main_v85) ?_
  funext (a : Fin 4)
  exact Fin.ext (Pipeline.Window.rect_emb_val_of_index_zero (cfg0.win 7) ⟨0, by decide⟩ a rfl y)

theorem ld_low_pair_v (c : Dev nD) : View.ld (iblk m c 10 ⟨0, by decide⟩ : Vec Ideal S7x36x64x256 .f32) r0_0 = rep (tokensLast (lows (m ((c.tc : Thread nD τ).loc main_arg6)) (groups (m ((c.tc : Thread nD τ).loc main_arg1)) (m ((c.tc : Thread nD τ).loc main_arg4))))) := by
  refine (View.ld_unit_lit (S := S7x36x64x256) (e := .f32) (off := ![0, 0, 0, 0]) _ _ (by decide)).trans (Eq.trans ?_ (V_low_pair_v m c))
  funext (y : S7x36x64x256.Idx)
  refine congrArg (V m c main_v88) ?_
  funext (a : Fin 4)
  exact Fin.ext (Pipeline.Window.rect_emb_val_of_index_zero (cfg0.win 10) ⟨0, by decide⟩ a rfl y)

theorem ld_step_pair_v (c : Dev nD) : View.ld (iblk m c 11 ⟨0, by decide⟩ : Vec Ideal S7x36x64x256 .f32) r0_0 = rep (tokensLast (steps (lows (m ((c.tc : Thread nD τ).loc main_arg6)) (groups (m ((c.tc : Thread nD τ).loc main_arg1)) (m ((c.tc : Thread nD τ).loc main_arg4)))) (highs (m ((c.tc : Thread nD τ).loc main_arg6)) (groups (m ((c.tc : Thread nD τ).loc main_arg1)) (m ((c.tc : Thread nD τ).loc main_arg4)))))) := by
  refine (View.ld_unit_lit (S := S7x36x64x256) (e := .f32) (off := ![0, 0, 0, 0]) _ _ (by decide)).trans (Eq.trans ?_ (V_step_pair_v m c))
  funext (y : S7x36x64x256.Idx)
  refine congrArg (V m c main_v91) ?_
  funext (a : Fin 4)
  exact Fin.ext (Pipeline.Window.rect_emb_val_of_index_zero (cfg0.win 11) ⟨0, by decide⟩ a rfl y)

end Cert.Proof.ReferenceIdeal

end
-- ==== Proof.ReferenceCodeArr.lean ====
module

public import proofs.«01_k».proof.Proof.ReferencePairsK
public import proofs.«01_k».proof.Proof.ReferencePairsV

/-! The reference's two arrays of codes after the run. -/

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ)

theorem arr13 (c : Dev nD) (h : LenOk m c) (hp : ∀ i, ((m ((c.tc : Thread nD τ).loc main_arg3) : S36x128.Idx → BitVec 32) i).toNat < 128) :
    (dats m 0 c).arrAt 13 cfg0.N = codeArr (m ((c.tc : Thread nD τ).loc main_arg0)) (m ((c.tc : Thread nD τ).loc main_arg3)) (m ((c.tc : Thread nD τ).loc main_arg5)) (m ((c.tc : Thread nD τ).loc main_arg2)) := by
  refine (dats m 0 c).arrAt_eq_of_after_last 13 ⟨0, by decide⟩ (by decide +kernel) _ ?_
  intro j
  rw [after0_13]
  unfold out0_13
  refine (congrFun ((View.canon_cons_unit_lit (Val := Elt Ideal) (S := S7x36x64x256) (e := .i8) (off := ![0, 0, 0, 0]) _ _ _ (by decide)).trans ?_) j : _)
  refine Eq.trans ?_ (kept_code _ _ _ _ h hp)
  rw [← ld_even_pair_k m c, ← ld_odd_pair_k m c, ← ld_low_pair_k m c, ← ld_step_pair_k m c, ← kept_ld m c]
  rfl

theorem arr16 (c : Dev nD) (h : LenOk m c) (hp : ∀ i, ((m ((c.tc : Thread nD τ).loc main_arg4) : S36x128.Idx → BitVec 32) i).toNat < 128) :
    (dats m 0 c).arrAt 16 cfg0.N = codeArr (m ((c.tc : Thread nD τ).loc main_arg1)) (m ((c.tc : Thread nD τ).loc main_arg4)) (m ((c.tc : Thread nD τ).loc main_arg6)) (m ((c.tc : Thread nD τ).loc main_arg2)) := by
  refine (dats m 0 c).arrAt_eq_of_after_last 16 ⟨0, by decide⟩ (by decide +kernel) _ ?_
  intro j
  rw [after0_16]
  unfold out0_16
  refine (congrFun ((View.canon_cons_unit_lit (Val := Elt Ideal) (S := S7x36x64x256) (e := .i8) (off := ![0, 0, 0, 0]) _ _ _ (by decide)).trans ?_) j : _)
  refine Eq.trans ?_ (kept_code _ _ _ _ h hp)
  rw [← ld_even_pair_v m c, ← ld_odd_pair_v m c, ← ld_low_pair_v m c, ← ld_step_pair_v m c, ← kept_ld m c]
  rfl

variable (ρ : Dev nD → PrngReg)

/-- The reference's run, with the contents of its codes named. -/
theorem run_codes (h : ∀ c, LenOk m c) (hk : ∀ (c : Dev nD) i, ((m ((c.tc : Thread nD τ).loc main_arg3) : S36x128.Idx → BitVec 32) i).toNat < 128)
    (hv : ∀ (c : Dev nD) i, ((m ((c.tc : Thread nD τ).loc main_arg4) : S36x128.Idx → BitVec 32) i).toNat < 128) :
    θ_run defs (onTc (τ := τ) (main (F := Ideal))) ⟨m, fun _ => 0, ρ⟩ (fun r => ∀ c : Dev nD,
      r.2.mem ((c.tc : Thread nD τ).loc main_v92_0) = codeArr (m ((c.tc : Thread nD τ).loc main_arg0)) (m ((c.tc : Thread nD τ).loc main_arg3)) (m ((c.tc : Thread nD τ).loc main_arg5)) (m ((c.tc : Thread nD τ).loc main_arg2))
      ∧ r.2.mem ((c.tc : Thread nD τ).loc main_v92_3) = codeArr (m ((c.tc : Thread nD τ).loc main_arg1)) (m ((c.tc : Thread nD τ).loc main_arg4)) (m ((c.tc : Thread nD τ).loc main_arg6)) (m ((c.tc : Thread nD τ).loc main_arg2))) :=
  (θ_run defs _ _).mono (fun r hr c => ⟨((hr c).1 13).trans (arr13 m c (h c) (hk c)), ((hr c).1 16).trans (arr16 m c (h c) (hv c))⟩)
    (run_main m ρ)

end Cert.Proof.ReferenceIdeal

end
-- ==== Proof.Algebraic.lean ====
module

public import proofs.«01_k».proof.Defs
public import proofs.«01_k».proof.Proof.Gen.Pre_in_range
public import proofs.«01_k».proof.Proof.KernelIdealValue
public import proofs.«01_k».proof.Proof.KernelIdealScaleArr
public import proofs.«01_k».proof.Proof.KernelIdealCodeArr
public import proofs.«01_k».proof.Proof.KernelIdealPre
public import proofs.«01_k».proof.Proof.ReferenceWin
public import proofs.«01_k».proof.Proof.ReferenceOut
public import proofs.«01_k».proof.Proof.ReferenceCodeArr

/-! The value claim: both programs end with the same windows, codes, scales and zeros. -/

@[expose] public section

set_option maxRecDepth 16384

noncomputable section

namespace Cert.Proof

open Idealize.ShloMosaic Idealize.ShloMosaic.TcCoe Idealize.SL.Sem

namespace ReferenceIdeal

open Cert.ReferenceIdeal Cert.ReferenceIdeal.Gen

variable (m : (ℓ : Loc nD τ sig) → Buf (Elt Ideal) ℓ) (ρ : Dev nD → PrngReg)

/-- The reference's run, with the windows' contents named. -/
theorem run_windows : θ_run defs (onTc (τ := τ) (main (F := Ideal))) ⟨m, fun _ => 0, ρ⟩ (fun r => ∀ c : Dev nD,
      r.2.mem ((c.tc : Thread nD τ).loc main_v19) = window (m ((c.tc : Thread nD τ).loc main_arg0)) (m ((c.tc : Thread nD τ).loc main_arg2))
      ∧ r.2.mem ((c.tc : Thread nD τ).loc main_v21) = window (m ((c.tc : Thread nD τ).loc main_arg1)) (m ((c.tc : Thread nD τ).loc main_arg2))) :=
  (θ_run defs _ _).mono (fun r h c =>
    ⟨((h c).2 main_v19 (Pipeline.mem_restRefs_of main_v19 (by decide) (by decide))).trans (V_win_k m c),
     ((h c).2 main_v21 (Pipeline.mem_restRefs_of main_v21 (by decide) (by decide))).trans (V_win_v m c)⟩)
    (run_main m ρ)

end ReferenceIdeal

/-- The two programs' windows are one function of the operand and the lengths. -/
theorem window_eq (x : FVec Ideal Cert.ReferenceIdeal.S7x768x36x128 .bf16) (L : IVec Cert.ReferenceIdeal.S7 32)
    (h : ∀ b, 512 ≤ (L b).toNat ∧ (L b).toNat ≤ 768) (i : Cert.ReferenceIdeal.S7x36x512x128.Idx) :
    ReferenceIdeal.window x L i = KernelIdeal.winArr x L i := ReferenceIdeal.window_apply x L h i

theorem algebraic : Cert.algebraic_KernelIdeal_ReferenceIdeal_pre_in_range_perms (hKernelIdeal := Cert.KernelIdeal.Gen.facts)
    (hReferenceIdeal := Cert.ReferenceIdeal.Gen.facts) (hPre_in_range_perms := in_range_perms_facts) := by
  intro m g m' g' hpre hag
  have hpre' := KernelIdeal.pre_of_perms m hpre
  have hO := KernelIdeal.ok_all m
  have hH := KernelIdeal.hyps_of_pre m hpre'
  have hR := KernelIdeal.rng_of_pre m hpre'
  have hL := KernelIdeal.len_of_pre m hpre'
  have hPk := KernelIdeal.perm_k_of_pre m hpre
  have hPv := KernelIdeal.perm_v_of_pre m hpre
  refine ⟨fun c => KernelIdeal.winArr (m ((c.tc : Thread _ _).loc Cert.KernelIdeal.main_arg0)) (m ((c.tc : Thread _ _).loc Cert.KernelIdeal.main_arg2)),
    fun c => KernelIdeal.winArr (m ((c.tc : Thread _ _).loc Cert.KernelIdeal.main_arg1)) (m ((c.tc : Thread _ _).loc Cert.KernelIdeal.main_arg2)),
    fun c => codeArr (m ((c.tc : Thread _ _).loc Cert.KernelIdeal.main_arg0)) (m ((c.tc : Thread _ _).loc Cert.KernelIdeal.main_arg3)) (m ((c.tc : Thread _ _).loc Cert.KernelIdeal.main_arg5)) (m ((c.tc : Thread _ _).loc Cert.KernelIdeal.main_arg2)),
    fun c => scaleArr (m ((c.tc : Thread _ _).loc Cert.KernelIdeal.main_arg0)) (m ((c.tc : Thread _ _).loc Cert.KernelIdeal.main_arg3)) (m ((c.tc : Thread _ _).loc Cert.KernelIdeal.main_arg5)) (m ((c.tc : Thread _ _).loc Cert.KernelIdeal.main_arg2)),
    fun c => zeroArr (m ((c.tc : Thread _ _).loc Cert.KernelIdeal.main_arg0)) (m ((c.tc : Thread _ _).loc Cert.KernelIdeal.main_arg3)) (m ((c.tc : Thread _ _).loc Cert.KernelIdeal.main_arg5)) (m ((c.tc : Thread _ _).loc Cert.KernelIdeal.main_arg2)),
    fun c => codeArr (m ((c.tc : Thread _ _).loc Cert.KernelIdeal.main_arg1)) (m ((c.tc : Thread _ _).loc Cert.KernelIdeal.main_arg4)) (m ((c.tc : Thread _ _).loc Cert.KernelIdeal.main_arg6)) (m ((c.tc : Thread _ _).loc Cert.KernelIdeal.main_arg2)),
    fun c => scaleArr (m ((c.tc : Thread _ _).loc Cert.KernelIdeal.main_arg1)) (m ((c.tc : Thread _ _).loc Cert.KernelIdeal.main_arg4)) (m ((c.tc : Thread _ _).loc Cert.KernelIdeal.main_arg6)) (m ((c.tc : Thread _ _).loc Cert.KernelIdeal.main_arg2)),
    fun c => zeroArr (m ((c.tc : Thread _ _).loc Cert.KernelIdeal.main_arg1)) (m ((c.tc : Thread _ _).loc Cert.KernelIdeal.main_arg4)) (m ((c.tc : Thread _ _).loc Cert.KernelIdeal.main_arg6)) (m ((c.tc : Thread _ _).loc Cert.KernelIdeal.main_arg2)), ?_, ?_⟩
  · refine θ_run_mono (θ_run_and (θ_run_and (θ_run_and (KernelIdeal.run_windows m g hO hH hR) (KernelIdeal.run_codes m g hO hH hR hL hPk hPv))
      (KernelIdeal.run_scales m g hO hH hR hL hPk hPv)) (KernelIdeal.unchanged m g hO hH hR)) ?_
    intro r h c
    obtain ⟨s3, s4, s6, s7⟩ := h.1.2 c
    exact ⟨(h.1.1.1 c).1, (h.1.1.1 c).2, (h.1.1.2 c).1, s3, s4, (h.1.1.2 c).2, s6, s7, h.2 c⟩
  · have hl : ∀ c, ReferenceIdeal.LenOk m' c := fun c => by
      unfold ReferenceIdeal.LenOk; rw [(hag c).2.2.1]; exact hL c
    have hpk : ∀ (c : Dev Cert.ReferenceIdeal.nD) i, ((m' ((c.tc : Thread _ _).loc Cert.ReferenceIdeal.main_arg3) : Cert.ReferenceIdeal.S36x128.Idx → BitVec 32) i).toNat < 128 := fun c => by
      rw [(hag c).2.2.2.1]; exact hPk c
    have hpv : ∀ (c : Dev Cert.ReferenceIdeal.nD) i, ((m' ((c.tc : Thread _ _).loc Cert.ReferenceIdeal.main_arg4) : Cert.ReferenceIdeal.S36x128.Idx → BitVec 32) i).toNat < 128 := fun c => by
      rw [(hag c).2.2.2.2.1]; exact hPv c
    refine θ_run_mono (θ_run_and (θ_run_and (θ_run_and (ReferenceIdeal.run_windows m' g') (ReferenceIdeal.run_codes m' g' hl hpk hpv))
      (ReferenceIdeal.run_scales m' g' hl hpk hpv)) (Cert.ReferenceIdeal.Gen.unchanged m' g')) ?_
    intro r h c
    obtain ⟨a0, a1, a2, a3, a4, a5, a6⟩ := hag c
    obtain ⟨s3, s4, s6, s7⟩ := h.1.2 c
    obtain ⟨s2, s5⟩ := h.1.1.2 c
    rw [a0, a2, a3, a5] at s2 s3 s4
    rw [a1, a2, a4, a6] at s5 s6 s7
    refine ⟨?_, ?_, s2, s3, s4, s5, s6, s7, h.2 c⟩
    · refine (h.1.1.1 c).1.trans (Eq.trans (funext fun i => window_eq _ _ (hl c) i) ?_)
      rw [a0, a2]
    · refine (h.1.1.1 c).2.trans (Eq.trans (funext fun i => window_eq _ _ (hl c) i) ?_)
      rw [a1, a2]

end Cert.Proof

end
-- ==== Proof.lean ====
module

public import proofs.«01_k».proof.Defs
public import proofs.«01_k».proof.Proof.Gen.ReferenceIdeal.Frame
public import proofs.«01_k».proof.Proof.Gen.Kernel.Launch
public import proofs.«01_k».proof.Proof.Gen.Kernel.Loops
public import proofs.«01_k».proof.Proof.Gen.KernelIdeal.Launch
public import proofs.«01_k».proof.Proof.Gen.KernelIdeal.Loops
public import proofs.«01_k».proof.Proof.Gen.Pre_in_range
public import Idealize.ShloMosaic.Lib.Bf16Pair
public import proofs.«01_k».proof.Proof.KernelHyps
public import proofs.«01_k».proof.Proof.KernelIdealHyps
public import proofs.«01_k».proof.Proof.Algebraic

@[expose] public section

noncomputable section

namespace Cert.Proof

open Idealize.ShloMosaic Idealize.SL.Sem

/-- The claims, assembled. -/
theorem claim : Cert.Claim :=
  ⟨Cert.Kernel.Gen.facts, Cert.KernelIdeal.Gen.facts, Cert.ReferenceIdeal.Gen.facts, Cert.Pre_in_range.Gen.facts, in_range_perms_facts,
    fun m ρ h => Cert.Proof.Kernel.frame m ρ (Cert.Proof.Kernel.ok_all m) (Cert.Proof.Kernel.hyps_of_pre m h),
    fun m ρ h => Cert.Proof.KernelIdeal.frame m ρ (Cert.Proof.KernelIdeal.ok_all m) (Cert.Proof.KernelIdeal.hyps_of_pre m h) (Cert.Proof.KernelIdeal.rng_of_pre m h),
    fun m ρ h => Cert.Proof.KernelIdeal.frame m ρ (Cert.Proof.KernelIdeal.ok_all m) (Cert.Proof.KernelIdeal.hyps_of_pre m (Cert.Proof.KernelIdeal.pre_of_perms m h))
      (Cert.Proof.KernelIdeal.rng_of_pre m (Cert.Proof.KernelIdeal.pre_of_perms m h)),
    fun m ρ _ => Cert.ReferenceIdeal.Gen.frame m ρ,
    fun m ρ _ => Cert.ReferenceIdeal.Gen.frame m ρ,
    IdealRules.bf16_pair.statement _ _,
    algebraic⟩

end Cert.Proof

end
